-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_rotary [hPre_rotary : Cert.Pre_rotary.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_rotary.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).1 = (fun _ => 1#1)
    ∧ (Cert.Pre_rotary.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.1 = (fun _ => 1#1)
    ∧ (Cert.Pre_rotary.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.1 = (fun _ => 1#1)
    ∧ (Cert.Pre_rotary.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_rotary [hPre_rotary : Cert.Pre_rotary.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_rotary.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).1 = (fun _ => 1#1)
    ∧ (Cert.Pre_rotary.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.1 = (fun _ => 1#1)
    ∧ (Cert.Pre_rotary.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.1 = (fun _ => 1#1)
    ∧ (Cert.Pre_rotary.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Kernel11Ideal_pre_rotary [hKernel11Ideal : Cert.Kernel11Ideal.Facts] [hPre_rotary : Cert.Pre_rotary.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_rotary m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Reference11Ideal_pre_rotary [hReference11Ideal : Cert.Reference11Ideal.Facts] [hPre_rotary : Cert.Pre_rotary.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_rotary m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v30) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v10_0)) (v1 : (c : Dev Cert.Kernel10Ideal.nD) → Buf (Elt Ideal) ((c.tc : Thread Cert.Kernel10Ideal.nD Cert.Kernel10Ideal.τ).loc Cert.Kernel10Ideal.main_v10_1)) (v2 : (c : Dev Cert.Kernel10Ideal.nD) → Buf (Elt Ideal) ((c.tc : Thread Cert.Kernel10Ideal.nD Cert.Kernel10Ideal.τ).loc Cert.Kernel10Ideal.main_v10_2)) (v3 : (c : Dev Cert.Kernel10Ideal.nD) → Buf (Elt Ideal) ((c.tc : Thread Cert.Kernel10Ideal.nD Cert.Kernel10Ideal.τ).loc Cert.Kernel10Ideal.main_v10_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_0) = v0 c
          ∧ r.2.mem ((c.tc : Thread Cert.Kernel10Ideal.nD Cert.Kernel10Ideal.τ).loc Cert.Kernel10Ideal.main_v10_1) = v1 c
          ∧ r.2.mem ((c.tc : Thread Cert.Kernel10Ideal.nD Cert.Kernel10Ideal.τ).loc Cert.Kernel10Ideal.main_v10_2) = v2 c
          ∧ r.2.mem ((c.tc : Thread Cert.Kernel10Ideal.nD Cert.Kernel10Ideal.τ).loc Cert.Kernel10Ideal.main_v10_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v74) = v0 c
          ∧ r.2.mem ((c.tc : Thread Cert.Reference10Ideal.nD Cert.Reference10Ideal.τ).loc Cert.Reference10Ideal.main_v75) = v1 c
          ∧ r.2.mem ((c.tc : Thread Cert.Reference10Ideal.nD Cert.Reference10Ideal.τ).loc Cert.Reference10Ideal.main_v33) = v2 c
          ∧ r.2.mem ((c.tc : Thread Cert.Reference10Ideal.nD Cert.Reference10Ideal.τ).loc Cert.Reference10Ideal.main_v76) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_rotary [hKernel11Ideal : Cert.Kernel11Ideal.Facts] [hReference11Ideal : Cert.Reference11Ideal.Facts] [hPre_rotary : Cert.Pre_rotary.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_rotary m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v81) = v0 c
          ∧ r.2.mem ((c.tc : Thread Cert.Reference11Ideal.nD Cert.Reference11Ideal.τ).loc Cert.Reference11Ideal.main_v83) = v1 c
          ∧ r.2.mem ((c.tc : Thread Cert.Reference11Ideal.nD Cert.Reference11Ideal.τ).loc Cert.Reference11Ideal.main_v85) = v2 c
          ∧ r.2.mem ((c.tc : Thread Cert.Reference11Ideal.nD Cert.Reference11Ideal.τ).loc Cert.Reference11Ideal.main_v87) = v3 c
          ∧ r.2.mem ((c.tc : Thread Cert.Reference11Ideal.nD Cert.Reference11Ideal.τ).loc Cert.Reference11Ideal.main_v77) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite9 : Cert.Pre_finite9.Facts) (hPre_rotary : Cert.Pre_rotary.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_rotary (hKernel11Ideal := hKernel11Ideal) (hPre_rotary := hPre_rotary)
    ∧ quiescent_Reference11Ideal (hReference11Ideal := hReference11Ideal)
    ∧ quiescent_Reference11Ideal_pre_rotary (hReference11Ideal := hReference11Ideal) (hPre_rotary := hPre_rotary)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_rotary (hKernel11Ideal := hKernel11Ideal) (hReference11Ideal := hReference11Ideal) (hPre_rotary := hPre_rotary)
-- ==== Pre_finite.lean ====
abbrev S2x16384x1024 : Shape := ⟨3, ![2, 16384, 1024]⟩
abbrev S2x16384x128 : Shape := ⟨3, ![2, 16384, 128]⟩
abbrev S128 : Shape := ⟨1, ![128]⟩
abbrev S2x16384x16 : Shape := ⟨3, ![2, 16384, 16]⟩
abbrev S_ : Shape := ⟨0, ![]⟩

class Facts : Prop where
  slices_S2x16384x128_S2x16384x16_0_0_0 : S2x16384x128.Slices ![0, 0, 0] S2x16384x16
  bcast_S_S2x16384x1024 : S_.BroadcastsInDim S2x16384x1024 (![] : Fin 0 → Fin S2x16384x1024.rank)
  bcast_S_S2x16384x16 : S_.BroadcastsInDim S2x16384x16 (![] : Fin 0 → Fin S2x16384x16.rank)

variable [Facts]

def fn {F : FTy → Type} [FloatOps F] (main_arg0 : FVec F S2x16384x1024 .f32) (main_arg1 : FVec F S2x16384x1024 .f32) (main_arg2 : FVec F S2x16384x1024 .f32) (main_arg3 : FVec F S2x16384x1024 .f32) (main_arg4 : FVec F S2x16384x128 .f32) (main_arg5 : FVec F S128 .f32) : IVec S2x16384x1024 1 × IVec S2x16384x1024 1 × IVec S2x16384x1024 1 × IVec S2x16384x16 1 :=
  let main_v0 : FVec F S2x16384x16 .f32 := (extractStridedSlice S2x16384x16 ![0, 0, 0] · slices_S2x16384x128_S2x16384x16_0_0_0) main_arg4
  let main_v1 : FVec F S2x16384x1024 .f32 := Host.absf main_arg0
  let main_cst : FVec F S_ .f32 := constant S_ .f32 0x7F800000#32
  let main_v2 : FVec F S2x16384x1024 .f32 := broadcastInDim S2x16384x1024 ![] bcast_S_S2x16384x1024 main_cst
  let main_v3 : IVec S2x16384x1024 1 := cmpf .olt main_v1 main_v2
  let main_v4 : FVec F S2x16384x1024 .f32 := Host.absf main_arg1
  let main_cst_0 : FVec F S_ .f32 := constant S_ .f32 0x7F800000#32
  let main_v5 : FVec F S2x16384x1024 .f32 := broadcastInDim S2x16384x1024 ![] bcast_S_S2x16384x1024 main_cst_0
  let main_v6 : IVec S2x16384x1024 1 := cmpf .olt main_v4 main_v5
  let main_v7 : FVec F S2x16384x1024 .f32 := Host.absf main_arg2
  let main_cst_1 : FVec F S_ .f32 := constant S_ .f32 0x7F800000#32
  let main_v8 : FVec F S2x16384x1024 .f32 := broadcastInDim S2x16384x1024 ![] bcast_S_S2x16384x1024 main_cst_1
  let main_v9 : IVec S2x16384x1024 1 := cmpf .olt main_v7 main_v8
  let main_v10 : FVec F S2x16384x16 .f32 := Host.absf main_v0
  let main_cst_2 : FVec F S_ .f32 := constant S_ .f32 0x7F800000#32
  let main_v11 : FVec F S2x16384x16 .f32 := broadcastInDim S2x16384x16 ![] bcast_S_S2x16384x16 main_cst_2
  let main_v12 : IVec S2x16384x16 1 := cmpf .olt main_v10 main_v11
  (main_v3, main_v6, main_v9, main_v12)
-- ==== Pre_finite9.lean ====
abbrev S2x16384x1024 : Shape := ⟨3, ![2, 16384, 1024]⟩
abbrev S2x256x1024 : Shape := ⟨3, ![2, 256, 1024]⟩
abbrev S_ : Shape := ⟨0, ![]⟩

class Facts : Prop where
  bcast_S_S2x16384x1024 : S_.BroadcastsInDim S2x16384x1024 (![] : Fin 0 → Fin S2x16384x1024.rank)
  bcast_S_S2x256x1024 : S_.BroadcastsInDim S2x256x1024 (![] : Fin 0 → Fin S2x256x1024.rank)

variable [Facts]

def fn {F : FTy → Type} [FloatOps F] (main_arg0 : FVec F S2x16384x1024 .bf16) (main_arg1 : FVec F S2x256x1024 .bf16) (main_arg2 : FVec F S2x256x1024 .bf16) : IVec S2x16384x1024 1 × IVec S2x256x1024 1 :=
  let main_v0 : FVec F S2x16384x1024 .bf16 := Host.absf main_arg0
  let main_cst : FVec F S_ .bf16 := constant S_ .bf16 0x7F80#16
  let main_v1 : FVec F S2x16384x1024 .bf16 := broadcastInDim S2x16384x1024 ![] bcast_S_S2x16384x1024 main_cst
  let main_v2 : IVec S2x16384x1024 1 := cmpf .olt main_v0 main_v1
  let main_v3 : FVec F S2x256x1024 .bf16 := Host.absf main_arg1
  let main_cst_0 : FVec F S_ .bf16 := constant S_ .bf16 0x7F80#16
  let main_v4 : FVec F S2x256x1024 .bf16 := broadcastInDim S2x256x1024 ![] bcast_S_S2x256x1024 main_cst_0
  let main_v5 : IVec S2x256x1024 1 := cmpf .olt main_v3 main_v4
  (main_v2, main_v5)
-- ==== Pre_rotary.lean ====
abbrev S2x16384x2048 : Shape := ⟨3, ![2, 16384, 2048]⟩
abbrev S2x16384x640 : Shape := ⟨3, ![2, 16384, 640]⟩
abbrev S2x16384x128 : Shape := ⟨3, ![2, 16384, 128]⟩
abbrev S2x16384x16 : Shape := ⟨3, ![2, 16384, 16]⟩
abbrev S_ : Shape := ⟨0, ![]⟩
abbrev S2x16384x96 : Shape := ⟨3, ![2, 16384, 96]⟩
abbrev S2x16384x8 : Shape := ⟨3, ![2, 16384, 8]⟩
abbrev S2x16384x48 : Shape := ⟨3, ![2, 16384, 48]⟩

class Facts : Prop where
  slices_S2x16384x128_S2x16384x16_0_0_0 : S2x16384x128.Slices ![0, 0, 0] S2x16384x16
  slices_S2x16384x128_S2x16384x16_0_0_16 : S2x16384x128.Slices ![0, 0, 16] S2x16384x16
  bcast_S_S2x16384x96 : S_.BroadcastsInDim S2x16384x96 (![] : Fin 0 → Fin S2x16384x96.rank)
  concatenates_S2x16384x16_S2x16384x16_S2x16384x96_S2x16384x128_d2 : Shape.Concatenates [S2x16384x16, S2x16384x16, S2x16384x96] S2x16384x128 2
  slices_S2x16384x128_S2x16384x8_0_0_0 : S2x16384x128.Slices ![0, 0, 0] S2x16384x8
  slices_S2x16384x128_S2x16384x8_0_0_8 : S2x16384x128.Slices ![0, 0, 8] S2x16384x8
  bcast_S_S2x16384x48 : S_.BroadcastsInDim S2x16384x48 (![] : Fin 0 → Fin S2x16384x48.rank)
  concatenates_S2x16384x8_S2x16384x8_S2x16384x48_S2x16384x8_S2x16384x8_S2x16384x48_S2x16384x128_d2 : Shape.Concatenates [S2x16384x8, S2x16384x8, S2x16384x48, S2x16384x8, S2x16384x8, S2x16384x48] S2x16384x128 2

variable [Facts]

def fn {F : FTy → Type} [FloatOps F] (main_arg0 : FVec F S2x16384x2048 .f32) (main_arg1 : FVec F S2x16384x640 .f32) (main_arg2 : FVec F S2x16384x128 .f32) (main_arg3 : FVec F S2x16384x128 .f32) (main_arg4 : FVec F S2x16384x128 .f32) (main_arg5 : FVec F S2x16384x128 .f32) (main_arg6 : FVec F S2x16384x128 .f32) : IVec S2x16384x128 1 × IVec S2x16384x128 1 × IVec S2x16384x128 1 × IVec S2x16384x128 1 :=
  let main_v0 : FVec F S2x16384x16 .f32 := (extractStridedSlice S2x16384x16 ![0, 0, 0] · slices_S2x16384x128_S2x16384x16_0_0_0) main_arg3
  let main_v1 : FVec F S2x16384x16 .f32 := (extractStridedSlice S2x16384x16 ![0, 0, 16] · slices_S2x16384x128_S2x16384x16_0_0_16) main_arg4
  let main_cst : FVec F S_ .f32 := constant S_ .f32 0x3F800000#32
  let main_v2 : FVec F S2x16384x96 .f32 := broadcastInDim S2x16384x96 ![] bcast_S_S2x16384x96 main_cst
  let main_v3 : FVec F S2x16384x128 .f32 := concatenate S2x16384x128 2 [⟨S2x16384x16, main_v0⟩, ⟨S2x16384x16, main_v0⟩, ⟨S2x16384x96, main_v2⟩] concatenates_S2x16384x16_S2x16384x16_S2x16384x96_S2x16384x128_d2
  let main_v4 : FVec F S2x16384x16 .f32 := Host.negf main_v1
  let main_cst_0 : FVec F S_ .f32 := constant S_ .f32 0x00000000#32
  let main_v5 : FVec F S2x16384x96 .f32 := broadcastInDim S2x16384x96 ![] bcast_S_S2x16384x96 main_cst_0
  let main_v6 : FVec F S2x16384x128 .f32 := concatenate S2x16384x128 2 [⟨S2x16384x16, main_v4⟩, ⟨S2x16384x16, main_v1⟩, ⟨S2x16384x96, main_v5⟩] concatenates_S2x16384x16_S2x16384x16_S2x16384x96_S2x16384x128_d2
  let main_v7 : FVec F S2x16384x8 .f32 := (extractStridedSlice S2x16384x8 ![0, 0, 0] · slices_S2x16384x128_S2x16384x8_0_0_0) main_arg5
  let main_v8 : FVec F S2x16384x8 .f32 := (extractStridedSlice S2x16384x8 ![0, 0, 8] · slices_S2x16384x128_S2x16384x8_0_0_8) main_arg6
  let main_cst_1 : FVec F S_ .f32 := constant S_ .f32 0x3F800000#32
  let main_v9 : FVec F S2x16384x48 .f32 := broadcastInDim S2x16384x48 ![] bcast_S_S2x16384x48 main_cst_1
  let main_v10 : FVec F S2x16384x128 .f32 := concatenate S2x16384x128 2 [⟨S2x16384x8, main_v7⟩, ⟨S2x16384x8, main_v7⟩, ⟨S2x16384x48, main_v9⟩, ⟨S2x16384x8, main_v7⟩, ⟨S2x16384x8, main_v7⟩, ⟨S2x16384x48, main_v9⟩] concatenates_S2x16384x8_S2x16384x8_S2x16384x48_S2x16384x8_S2x16384x8_S2x16384x48_S2x16384x128_d2
  let main_v11 : FVec F S2x16384x8 .f32 := Host.negf main_v8
  let main_cst_2 : FVec F S_ .f32 := constant S_ .f32 0x00000000#32
  let main_v12 : FVec F S2x16384x48 .f32 := broadcastInDim S2x16384x48 ![] bcast_S_S2x16384x48 main_cst_2
  let main_v13 : FVec F S2x16384x128 .f32 := concatenate S2x16384x128 2 [⟨S2x16384x8, main_v11⟩, ⟨S2x16384x8, main_v8⟩, ⟨S2x16384x48, main_v12⟩, ⟨S2x16384x8, main_v11⟩, ⟨S2x16384x8, main_v8⟩, ⟨S2x16384x48, main_v12⟩] concatenates_S2x16384x8_S2x16384x8_S2x16384x48_S2x16384x8_S2x16384x8_S2x16384x48_S2x16384x128_d2
  let main_v14 : IVec S2x16384x128 1 := cmpf .oeq main_arg3 main_v3
  let main_v15 : IVec S2x16384x128 1 := cmpf .oeq main_arg4 main_v6
  let main_v16 : IVec S2x16384x128 1 := cmpf .oeq main_arg5 main_v10
  let main_v17 : IVec S2x16384x128 1 := cmpf .oeq main_arg6 main_v13
  (main_v14, main_v15, main_v16, main_v17)
-- ==== Kernel.lean ====
abbrev S2x16384x1024 : Shape := ⟨3, ![2, 16384, 1024]⟩
abbrev S2x16384x128 : Shape := ⟨3, ![2, 16384, 128]⟩
abbrev S128 : Shape := ⟨1, ![128]⟩
abbrev S1x128 : Shape := ⟨2, ![1, 128]⟩
abbrev S1x64x1024 : Shape := ⟨3, ![1, 64, 1024]⟩
abbrev S1x64x128 : Shape := ⟨3, ![1, 64, 128]⟩
abbrev S8x128x128 : Shape := ⟨3, ![8, 128, 128]⟩
abbrev S64x64 : Shape := ⟨2, ![64, 64]⟩
abbrev S64x128 : Shape := ⟨2, ![64, 128]⟩
abbrev S128x64 : Shape := ⟨2, ![128, 64]⟩
abbrev S64x1 : Shape := ⟨2, ![64, 1]⟩
abbrev S1x1 : Shape := ⟨2, ![1, 1]⟩
abbrev S1x64 : Shape := ⟨2, ![1, 64]⟩
abbrev S64x256 : Shape := ⟨2, ![64, 256]⟩
abbrev S1x128x128 : Shape := ⟨3, ![1, 128, 128]⟩
abbrev S128x128 : Shape := ⟨2, ![128, 128]⟩
abbrev S64 : Shape := ⟨1, ![64]⟩

abbrev nBuf : Space → Nat
  | .hbm => 8
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S2x16384x128, .f32⟩
  | .hbm, ⟨5, _⟩ => ⟨S128, .f32⟩
  | .hbm, ⟨6, _⟩ => ⟨S1x128, .f32⟩
  | .hbm, ⟨7, _⟩ => ⟨S2x16384x1024, .bf16⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x128, .f32⟩
  | .local _ .vmem, ⟨9, _⟩ => ⟨S1x64x128, .f32⟩
  | .local _ .vmem, ⟨10, _⟩ => ⟨S1x128, .f32⟩
  | .local _ .vmem, ⟨11, _⟩ => ⟨S1x64x1024, .bf16⟩
  | .local _ .vmem, ⟨12, _⟩ => ⟨S1x64x1024, .bf16⟩
  | .local _ .vmem, ⟨13, _⟩ => ⟨S8x128x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 256], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x16384x1024 : Shape := ⟨3, ![2, 16384, 1024]⟩
abbrev S2x16384x128 : Shape := ⟨3, ![2, 16384, 128]⟩
abbrev S128 : Shape := ⟨1, ![128]⟩
abbrev S2x16384x8 : Shape := ⟨3, ![2, 16384, 8]⟩
abbrev S16384x2x8 : Shape := ⟨3, ![16384, 2, 8]⟩
abbrev S_ : Shape := ⟨0, ![]⟩
abbrev S2x8x128x128 : Shape := ⟨4, ![2, 8, 128, 128]⟩
abbrev S2x16384x8x128 : Shape := ⟨4, ![2, 16384, 8, 128]⟩
abbrev S16384x2x8x128 : Shape := ⟨4, ![16384, 2, 8, 128]⟩
abbrev S1x2x8x128 : Shape := ⟨4, ![1, 2, 8, 128]⟩
abbrev S2x8x128 : Shape := ⟨3, ![2, 8, 128]⟩
abbrev S1x2x8 : Shape := ⟨3, ![1, 2, 8]⟩
abbrev S2x8 : Shape := ⟨2, ![2, 8]⟩
abbrev S2x8x1x1 : Shape := ⟨4, ![2, 8, 1, 1]⟩
abbrev S2x8x1 : Shape := ⟨3, ![2, 8, 1]⟩
abbrev S2x8x128x1 : Shape := ⟨4, ![2, 8, 128, 1]⟩
abbrev S2x8x1x128 : Shape := ⟨4, ![2, 8, 1, 128]⟩
abbrev S2x16384x8x1 : Shape := ⟨4, ![2, 16384, 8, 1]⟩
abbrev S1x1x1x128 : Shape := ⟨4, ![1, 1, 1, 128]⟩

abbrev nBuf : Space → Nat
  | .hbm => 107
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S2x16384x128, .f32⟩
  | .hbm, ⟨5, _⟩ => ⟨S128, .f32⟩
  | .hbm, ⟨6, _⟩ => ⟨S2x16384x8, .f32⟩
  | .hbm, ⟨7, _⟩ => ⟨S16384x2x8, .f32⟩
  | .hbm, ⟨8, _⟩ => ⟨S2x16384x8, .f32⟩
  | .hbm, ⟨9, _⟩ => ⟨S16384x2x8, .f32⟩
  | .hbm, ⟨10, _⟩ => ⟨S_, .f32⟩
  | .hbm, ⟨11, _⟩ => ⟨S2x8x128x128, .f32⟩
  | .hbm, ⟨12, _⟩ => ⟨S2x16384x8x128, .f32⟩
  | .hbm, ⟨13, _⟩ => ⟨S16384x2x8x128, .f32⟩
  | .hbm, ⟨14, _⟩ => ⟨S2x16384x8x128, .f32⟩
  | .hbm, ⟨15, _⟩ => ⟨S16384x2x8x128, .f32⟩
  | .hbm, ⟨16, _⟩ => ⟨S2x16384x8x128, .f32⟩
  | .hbm, ⟨17, _⟩ => ⟨S16384x2x8x128, .f32⟩
  | .hbm, ⟨18, _⟩ => ⟨S_, .f32⟩
  | .hbm, ⟨19, _⟩ => ⟨S16384x2x8x128, .f32⟩
  | .hbm, ⟨20, _⟩ => ⟨S_, .i32⟩
  | .hbm, ⟨21, _⟩ => ⟨S16384x2x8x128, .f32⟩
  | .hbm, ⟨22, _⟩ => ⟨S16384x2x8x128, .f32⟩
  | .hbm, ⟨23, _⟩ => ⟨S16384x2x8x128, .f32⟩
  | .hbm, ⟨24, _⟩ => ⟨S16384x2x8, .f32⟩
  | .hbm, ⟨25, _⟩ => ⟨S16384x2x8, .f32⟩
  | .hbm, ⟨26, _⟩ => ⟨S_, .i32⟩
  | .hbm, ⟨27, _⟩ => ⟨S2x8x128x128, .f32⟩
  | .hbm, ⟨28, _⟩ => ⟨S16384x2x8x128, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x2x8x128, .f32⟩
  | .hbm, ⟨35, _⟩ => ⟨S2x8x128, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x2x8x128, .f32⟩
  | .hbm, ⟨40, _⟩ => ⟨S2x8x128, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x2x8x128, .f32⟩
  | .hbm, ⟨45, _⟩ => ⟨S2x8x128, .f32⟩
  | .hbm, ⟨46, _⟩ => ⟨S_, .i32⟩
  | .hbm, ⟨47, _⟩ => ⟨S_, .i32⟩
  | .hbm, ⟨48, _⟩ => ⟨S1x2x8, .f32⟩
  | .hbm, ⟨49, _⟩ => ⟨S2x8, .f32⟩
  | .hbm, ⟨50, _⟩ => ⟨S_, .i32⟩
  | .hbm, ⟨51, _⟩ => ⟨S_, .i32⟩
  | .hbm, ⟨52, _⟩ => ⟨S1x2x8, .f32⟩
  | .hbm, ⟨53, _⟩ => ⟨S2x8, .f32⟩
  | .hbm, ⟨54, _⟩ => ⟨S2x8, .f32⟩
  | .hbm, ⟨55, _⟩ => ⟨S2x8x1x1, .f32⟩
  | .hbm, ⟨56, _⟩ => ⟨S2x8x128x128, .f32⟩
  | .hbm, ⟨57, _⟩ => ⟨S2x8x128x128, .f32⟩
  | .hbm, ⟨58, _⟩ => ⟨S2x8x128, .f32⟩
  | .hbm, ⟨59, _⟩ => ⟨S2x8x128, .f32⟩
  | .hbm, ⟨60, _⟩ => ⟨S2x8x1, .f32⟩
  | .hbm, ⟨61, _⟩ => ⟨S2x8x128, .f32⟩
  | .hbm, ⟨62, _⟩ => ⟨S2x8x128, .f32⟩
  | .hbm, ⟨63, _⟩ => ⟨S2x8x128x1, .f32⟩
  | .hbm, ⟨64, _⟩ => ⟨S2x8x1x128, .f32⟩
  | .hbm, ⟨65, _⟩ => ⟨S2x8x128x128, .f32⟩
  | .hbm, ⟨66, _⟩ => ⟨S2x8x128x128, .f32⟩
  | .hbm, ⟨67, _⟩ => ⟨S2x8x128x128, .f32⟩
  | .hbm, ⟨68, _⟩ => ⟨S2x8x128x128, .f32⟩
  | .hbm, ⟨69, _⟩ => ⟨S2x8x128, .f32⟩
  | .hbm, ⟨70, _⟩ => ⟨S1x2x8x128, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S16384x2x8x128, .f32⟩
  | .hbm, ⟨75, _⟩ => ⟨S_, .i32⟩
  | .hbm, ⟨76, _⟩ => ⟨S_, .i32⟩
  | .hbm, ⟨77, _⟩ => ⟨S2x16384x8x128, .f32⟩
  | .hbm, ⟨78, _⟩ => ⟨S2x16384x8x128, .f32⟩
  | .hbm, ⟨79, _⟩ => ⟨S_, .f32⟩
  | .hbm, ⟨80, _⟩ => ⟨S2x16384x8, .f32⟩
  | .hbm, ⟨81, _⟩ => ⟨S2x16384x8x1, .f32⟩
  | .hbm, ⟨82, _⟩ => ⟨S_, .f32⟩
  | .hbm, ⟨83, _⟩ => ⟨S2x16384x8x1, .f32⟩
  | .hbm, ⟨84, _⟩ => ⟨S2x16384x8x1, .f32⟩
  | .hbm, ⟨85, _⟩ => ⟨S_, .f32⟩
  | .hbm, ⟨86, _⟩ => ⟨S2x16384x8x1, .f32⟩
  | .hbm, ⟨87, _⟩ => ⟨S2x16384x8x1, .f32⟩
  | .hbm, ⟨88, _⟩ => ⟨S2x16384x8x1, .f32⟩
  | .hbm, ⟨89, _⟩ => ⟨S2x16384x8x128, .f32⟩
  | .hbm, ⟨90, _⟩ => ⟨S2x16384x8x128, .f32⟩
  | .hbm, ⟨91, _⟩ => ⟨S1x1x1x128, .f32⟩
  | .hbm, ⟨92, _⟩ => ⟨S2x16384x8x128, .f32⟩
  | .hbm, ⟨93, _⟩ => ⟨S2x16384x8x128, .f32⟩
  | .hbm, ⟨94, _⟩ => ⟨S2x16384x8x128, .f32⟩
  | .hbm, ⟨95, _⟩ => ⟨S2x16384x8x128, .f32⟩
  | .hbm, ⟨96, _⟩ => ⟨S2x16384x8x128, .f32⟩
  | .hbm, ⟨97, _⟩ => ⟨S_, .f32⟩
  | .hbm, ⟨98, _⟩ => ⟨S2x16384x8x128, .f32⟩
  | .hbm, ⟨99, _⟩ => ⟨S2x16384x8x128, .f32⟩
  | .hbm, ⟨100, _⟩ => ⟨S_, .f32⟩
  | .hbm, ⟨101, _⟩ => ⟨S2x16384x8x128, .f32⟩
  | .hbm, ⟨102, _⟩ => ⟨S2x16384x8x128, .f32⟩
  | .hbm, ⟨103, _⟩ => ⟨S2x16384x8x128, .f32⟩
  | .hbm, ⟨104, _⟩ => ⟨S2x16384x8x128, .f32⟩
  | .hbm, ⟨105, _⟩ => ⟨S2x16384x1024, .f32⟩
  | .hbm, ⟨106, _⟩ => ⟨S2x16384x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_c : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev main_v12_6 : Ref sig .tc := ⟨.hbm, 27, rfl⟩
abbrev main_v12_7 : Ref sig .tc := ⟨.hbm, 28, rfl⟩
abbrev main_while0c_c_11 : Ref sig .tc := ⟨.hbm, 29, rfl⟩
abbrev main_while0c_v32 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_c_1 : Ref sig .tc := ⟨.hbm, 33, rfl⟩
abbrev main_while0b_call0_v0 : Ref sig .tc := ⟨.hbm, 34, rfl⟩
abbrev main_while0b_v32 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_c_1 : Ref sig .tc := ⟨.hbm, 38, rfl⟩
abbrev main_while0b_call1_v0 : Ref sig .tc := ⟨.hbm, 39, rfl⟩
abbrev main_while0b_v33 : Ref sig .tc := ⟨.hbm, 40, rfl⟩
abbrev main_while0b_call2_c : Ref sig .tc := ⟨.hbm, 41, rfl⟩
abbrev main_while0b_call2_c_0 : Ref sig .tc := ⟨.hbm, 42, rfl⟩
abbrev main_while0b_call2_c_1 : Ref sig .tc := ⟨.hbm, 43, rfl⟩
abbrev main_while0b_call2_v0 : Ref sig .tc := ⟨.hbm, 44, rfl⟩
abbrev main_while0b_v34 : Ref sig .tc := ⟨.hbm, 45, rfl⟩
abbrev main_while0b_call3_c : Ref sig .tc := ⟨.hbm, 46, rfl⟩
abbrev main_while0b_call3_c_0 : Ref sig .tc := ⟨.hbm, 47, rfl⟩
abbrev main_while0b_call3_v0 : Ref sig .tc := ⟨.hbm, 48, rfl⟩
abbrev main_while0b_v35 : Ref sig .tc := ⟨.hbm, 49, rfl⟩
abbrev main_while0b_call4_c : Ref sig .tc := ⟨.hbm, 50, rfl⟩
abbrev main_while0b_call4_c_0 : Ref sig .tc := ⟨.hbm, 51, rfl⟩
abbrev main_while0b_call4_v0 : Ref sig .tc := ⟨.hbm, 52, rfl⟩
abbrev main_while0b_v36 : Ref sig .tc := ⟨.hbm, 53, rfl⟩
abbrev main_while0b_v37 : Ref sig .tc := ⟨.hbm, 54, rfl⟩
abbrev main_while0b_v38 : Ref sig .tc := ⟨.hbm, 55, rfl⟩
abbrev main_while0b_v39 : Ref sig .tc := ⟨.hbm, 56, rfl⟩
abbrev main_while0b_v40 : Ref sig .tc := ⟨.hbm, 57, rfl⟩
abbrev main_while0b_v41 : Ref sig .tc := ⟨.hbm, 58, rfl⟩
abbrev main_while0b_v42 : Ref sig .tc := ⟨.hbm, 59, rfl⟩
abbrev main_while0b_v43 : Ref sig .tc := ⟨.hbm, 60, rfl⟩
abbrev main_while0b_v44 : Ref sig .tc := ⟨.hbm, 61, rfl⟩
abbrev main_while0b_v45 : Ref sig .tc := ⟨.hbm, 62, rfl⟩
abbrev main_while0b_v46 : Ref sig .tc := ⟨.hbm, 63, rfl⟩
abbrev main_while0b_v47 : Ref sig .tc := ⟨.hbm, 64, rfl⟩
abbrev main_while0b_v48 : Ref sig .tc := ⟨.hbm, 65, rfl⟩
abbrev main_while0b_v49 : Ref sig .tc := ⟨.hbm, 66, rfl⟩
abbrev main_while0b_v50 : Ref sig .tc := ⟨.hbm, 67, rfl⟩
abbrev main_while0b_v51 : Ref sig .tc := ⟨.hbm, 68, rfl⟩
abbrev main_while0b_v52 : Ref sig .tc := ⟨.hbm, 69, rfl⟩
abbrev main_while0b_call5_v0 : Ref sig .tc := ⟨.hbm, 70, rfl⟩
abbrev main_while0b_call5_c : Ref sig .tc := ⟨.hbm, 71, rfl⟩
abbrev main_while0b_call5_c_0 : Ref sig .tc := ⟨.hbm, 72, rfl⟩
abbrev main_while0b_call5_c_1 : Ref sig .tc := ⟨.hbm, 73, rfl⟩
abbrev main_while0b_v53 : Ref sig .tc := ⟨.hbm, 74, rfl⟩
abbrev main_while0b_c_11 : Ref sig .tc := ⟨.hbm, 75, rfl⟩
abbrev main_while0b_v54 : Ref sig .tc := ⟨.hbm, 76, rfl⟩
abbrev main_v13 : Ref sig .tc := ⟨.hbm, 77, rfl⟩
abbrev main_v14 : Ref sig .tc := ⟨.hbm, 78, rfl⟩
abbrev main_cst_1 : Ref sig .tc := ⟨.hbm, 79, rfl⟩
abbrev main_v15 : Ref sig .tc := ⟨.hbm, 80, rfl⟩
abbrev main_v16 : Ref sig .tc := ⟨.hbm, 81, rfl⟩
abbrev main_cst_2 : Ref sig .tc := ⟨.hbm, 82, rfl⟩
abbrev main_v17 : Ref sig .tc := ⟨.hbm, 83, rfl⟩
abbrev main_v18 : Ref sig .tc := ⟨.hbm, 84, rfl⟩
abbrev main_cst_3 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_call6_v0 : Ref sig .tc := ⟨.hbm, 95, rfl⟩
abbrev main_call6_v1 : Ref sig .tc := ⟨.hbm, 96, rfl⟩
abbrev main_call6_cst : Ref sig .tc := ⟨.hbm, 97, rfl⟩
abbrev main_call6_v2 : Ref sig .tc := ⟨.hbm, 98, rfl⟩
abbrev main_call6_v3 : Ref sig .tc := ⟨.hbm, 99, rfl⟩
abbrev main_call6_cst_0 : Ref sig .tc := ⟨.hbm, 100, rfl⟩
abbrev main_call6_v4 : Ref sig .tc := ⟨.hbm, 101, rfl⟩
abbrev main_call6_v5 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩

abbrev nD : Nat := 1
abbrev τ : Topo := Topo.v7x

variable {F : FTy → Type} [FloatOps F]

abbrev main_while0_count : Scf.Loop 32 := ⟨0#32, 16384#32, 1#32⟩
-- ==== Kernel2.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1024x2816 : Shape := ⟨2, ![1024, 2816]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 11
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S1024x5632, .bf16⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S2x16384x5632, .f32⟩
  | .hbm, ⟨21, _⟩ => ⟨S2x16384x2816, .f32⟩
  | .hbm, ⟨22, _⟩ => ⟨S2x16384x2816, .f32⟩
  | .hbm, ⟨23, _⟩ => ⟨S2x16384x2816, .f32⟩
  | .hbm, ⟨24, _⟩ => ⟨S2x16384x2816, .f32⟩
  | .hbm, ⟨25, _⟩ => ⟨S_, .f32⟩
  | .hbm, ⟨26, _⟩ => ⟨S2x16384x2816, .f32⟩
  | .hbm, ⟨27, _⟩ => ⟨S2x16384x2816, .f32⟩
  | .hbm, ⟨28, _⟩ => ⟨S_, .f32⟩
  | .hbm, ⟨29, _⟩ => ⟨S2x16384x2816, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S2x16384x1024, .f32⟩
  | .hbm, ⟨34, _⟩ => ⟨S2x16384x1024, .f32⟩
  | .hbm, ⟨35, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024 : Shape := ⟨1, ![1024]⟩
abbrev S1024x11864 : Shape := ⟨2, ![1024, 11864]⟩
abbrev S32768x1024 : Shape := ⟨2, ![32768, 1024]⟩
abbrev S1024x8 : Shape := ⟨2, ![1024, 8]⟩
abbrev S1024x24 : Shape := ⟨2, ![1024, 24]⟩
abbrev S_ : Shape := ⟨0, ![]⟩
abbrev S1024x128 : Shape := ⟨2, ![1024, 128]⟩
abbrev S1024x3072 : Shape := ⟨2, ![1024, 3072]⟩
abbrev S1024x1024 : Shape := ⟨2, ![1024, 1024]⟩
abbrev S1x1024 : Shape := ⟨2, ![1, 1024]⟩
abbrev S32768x3072 : Shape := ⟨2, ![32768, 3072]⟩
abbrev S32768x128 : Shape := ⟨2, ![32768, 128]⟩
abbrev S256x1024 : Shape := ⟨2, ![256, 1024]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩

abbrev nBuf : Space → Nat
  | .hbm => 18
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x11864, .f32⟩
  | .hbm, ⟨3, _⟩ => ⟨S32768x1024, .f32⟩
  | .hbm, ⟨4, _⟩ => ⟨S1024x11864, .bf16⟩
  | .hbm, ⟨5, _⟩ => ⟨S1024x8, .bf16⟩
  | .hbm, ⟨6, _⟩ => ⟨S1024x8, .bf16⟩
  | .hbm, ⟨7, _⟩ => ⟨S1024x8, .bf16⟩
  | .hbm, ⟨8, _⟩ => ⟨S1024x24, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S1024x3072, .bf16⟩
  | .hbm, ⟨13, _⟩ => ⟨S1024x1024, .bf16⟩
  | .hbm, ⟨14, _⟩ => ⟨S1x1024, .f32⟩
  | .hbm, ⟨15, _⟩ => ⟨S32768x3072, .f32⟩
  | .hbm, ⟨16, _⟩ => ⟨S32768x1024, .f32⟩
  | .hbm, ⟨17, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S1024x1024, .bf16⟩
  | .local _ .vmem, ⟨5, _⟩ => ⟨S1024x128, .bf16⟩
  | .local _ .vmem, ⟨6, _⟩ => ⟨S256x3072, .f32⟩
  | .local _ .vmem, ⟨7, _⟩ => ⟨S256x3072, .f32⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S2x16384x1024 : Shape := ⟨3, ![2, 16384, 1024]⟩
abbrev S1024 : Shape := ⟨1, ![1024]⟩
abbrev S1024x11864 : Shape := ⟨2, ![1024, 11864]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x11864 : Shape := ⟨3, ![2, 16384, 11864]⟩
abbrev S32768x11864 : Shape := ⟨2, ![32768, 11864]⟩
abbrev S32768x1024 : Shape := ⟨2, ![32768, 1024]⟩
abbrev S32768x8 : Shape := ⟨2, ![32768, 8]⟩
abbrev S32768x512 : Shape := ⟨2, ![32768, 512]⟩
abbrev S32768x64 : Shape := ⟨2, ![32768, 64]⟩
abbrev S32768x3072 : Shape := ⟨2, ![32768, 3072]⟩
abbrev S32768x104 : Shape := ⟨2, ![32768, 104]⟩
abbrev S32768x128 : Shape := ⟨2, ![32768, 128]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x11864, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x11864, .f32⟩
  | .hbm, ⟨20, _⟩ => ⟨S32768x11864, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x8, .f32⟩
  | .hbm, ⟨26, _⟩ => ⟨S32768x8, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x512, .f32⟩
  | .hbm, ⟨31, _⟩ => ⟨S32768x64, .f32⟩
  | .hbm, ⟨32, _⟩ => ⟨S32768x8, .f32⟩
  | .hbm, ⟨33, _⟩ => ⟨S32768x1024, .f32⟩
  | .hbm, ⟨34, _⟩ => ⟨S32768x3072, .f32⟩
  | .hbm, ⟨35, _⟩ => ⟨S_, .f32⟩
  | .hbm, ⟨36, _⟩ => ⟨S32768x104, .f32⟩
  | .hbm, ⟨37, _⟩ => ⟨S32768x128, .f32⟩
  | .hbm, ⟨38, _⟩ => ⟨S32768x3072, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel4.lean ====
abbrev S2x16384x1024 : Shape := ⟨3, ![2, 16384, 1024]⟩
abbrev S1024 : Shape := ⟨1, ![1024]⟩
abbrev S1024x11864 : Shape := ⟨2, ![1024, 11864]⟩
abbrev S32768x1024 : Shape := ⟨2, ![32768, 1024]⟩
abbrev S1024x576 : Shape := ⟨2, ![1024, 576]⟩
abbrev S_ : Shape := ⟨0, ![]⟩
abbrev S1024x640 : Shape := ⟨2, ![1024, 640]⟩
abbrev S1024x2048 : Shape := ⟨2, ![1024, 2048]⟩
abbrev S1024x1024 : Shape := ⟨2, ![1024, 1024]⟩
abbrev S1x1024 : Shape := ⟨2, ![1, 1024]⟩
abbrev S32768x2048 : Shape := ⟨2, ![32768, 2048]⟩
abbrev S32768x640 : Shape := ⟨2, ![32768, 640]⟩
abbrev S256x1024 : Shape := ⟨2, ![256, 1024]⟩
abbrev S256x2048 : Shape := ⟨2, ![256, 2048]⟩
abbrev S256x640 : Shape := ⟨2, ![256, 640]⟩
abbrev S256 : Shape := ⟨1, ![256]⟩
abbrev S256x1 : Shape := ⟨2, ![256, 1]⟩

abbrev nBuf : Space → Nat
  | .hbm => 15
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x11864, .f32⟩
  | .hbm, ⟨3, _⟩ => ⟨S32768x1024, .f32⟩
  | .hbm, ⟨4, _⟩ => ⟨S1024x11864, .bf16⟩
  | .hbm, ⟨5, _⟩ => ⟨S1024x576, .bf16⟩
  | .hbm, ⟨6, _⟩ => ⟨S_, .i32⟩
  | .hbm, ⟨7, _⟩ => ⟨S_, .bf16⟩
  | .hbm, ⟨8, _⟩ => ⟨S1024x640, .bf16⟩
  | .hbm, ⟨9, _⟩ => ⟨S1024x2048, .bf16⟩
  | .hbm, ⟨10, _⟩ => ⟨S1024x1024, .bf16⟩
  | .hbm, ⟨11, _⟩ => ⟨S1x1024, .f32⟩
  | .hbm, ⟨12, _⟩ => ⟨S32768x2048, .f32⟩
  | .hbm, ⟨13, _⟩ => ⟨S32768x1024, .bf16⟩
  | .hbm, ⟨14, _⟩ => ⟨S32768x640, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1024x1024, .bf16⟩
  | .local _ .vmem, ⟨5, _⟩ => ⟨S1024x640, .bf16⟩
  | .local _ .vmem, ⟨6, _⟩ => ⟨S256x2048, .f32⟩
  | .local _ .vmem, ⟨7, _⟩ => ⟨S256x2048, .f32⟩
  | .local _ .vmem, ⟨8, _⟩ => ⟨S256x1024, .bf16⟩
  | .local _ .vmem, ⟨9, _⟩ => ⟨S256x1024, .bf16⟩
  | .local _ .vmem, ⟨10, _⟩ => ⟨S256x640, .f32⟩
  | .local _ .vmem, ⟨11, _⟩ => ⟨S256x640, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S2x16384x1024 : Shape := ⟨3, ![2, 16384, 1024]⟩
abbrev S1024 : Shape := ⟨1, ![1024]⟩
abbrev S1024x11864 : Shape := ⟨2, ![1024, 11864]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x11864 : Shape := ⟨3, ![2, 16384, 11864]⟩
abbrev S32768x11864 : Shape := ⟨2, ![32768, 11864]⟩
abbrev S32768x1024 : Shape := ⟨2, ![32768, 1024]⟩
abbrev S32768x8 : Shape := ⟨2, ![32768, 8]⟩
abbrev S32768x512 : Shape := ⟨2, ![32768, 512]⟩
abbrev S32768x64 : Shape := ⟨2, ![32768, 64]⟩
abbrev S32768x3072 : Shape := ⟨2, ![32768, 3072]⟩
abbrev S32768x640 : Shape := ⟨2, ![32768, 640]⟩
abbrev S32768x2048 : Shape := ⟨2, ![32768, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x11864, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x11864, .f32⟩
  | .hbm, ⟨20, _⟩ => ⟨S32768x11864, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x8, .f32⟩
  | .hbm, ⟨26, _⟩ => ⟨S32768x8, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x512, .f32⟩
  | .hbm, ⟨31, _⟩ => ⟨S32768x64, .f32⟩
  | .hbm, ⟨32, _⟩ => ⟨S32768x8, .f32⟩
  | .hbm, ⟨33, _⟩ => ⟨S32768x1024, .f32⟩
  | .hbm, ⟨34, _⟩ => ⟨S32768x3072, .f32⟩
  | .hbm, ⟨35, _⟩ => ⟨S_, .f32⟩
  | .hbm, ⟨36, _⟩ => ⟨S32768x64, .f32⟩
  | .hbm, ⟨37, _⟩ => ⟨S32768x640, .f32⟩
  | .hbm, ⟨38, _⟩ => ⟨S32768x2048, .f32⟩
  | .hbm, ⟨39, _⟩ => ⟨S32768x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Kernel5.lean ====
abbrev S2x16384x1024 : Shape := ⟨3, ![2, 16384, 1024]⟩
abbrev S1024 : Shape := ⟨1, ![1024]⟩
abbrev S1024x11864 : Shape := ⟨2, ![1024, 11864]⟩
abbrev S32768x1024 : Shape := ⟨2, ![32768, 1024]⟩
abbrev S1024x1024 : Shape := ⟨2, ![1024, 1024]⟩
abbrev S1024x3072 : Shape := ⟨2, ![1024, 3072]⟩
abbrev S1x1024 : Shape := ⟨2, ![1, 1024]⟩
abbrev S32768x3072 : Shape := ⟨2, ![32768, 3072]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x11864, .f32⟩
  | .hbm, ⟨3, _⟩ => ⟨S32768x1024, .f32⟩
  | .hbm, ⟨4, _⟩ => ⟨S1024x11864, .bf16⟩
  | .hbm, ⟨5, _⟩ => ⟨S1024x1024, .bf16⟩
  | .hbm, ⟨6, _⟩ => ⟨S1024x3072, .bf16⟩
  | .hbm, ⟨7, _⟩ => ⟨S1x1024, .f32⟩
  | .hbm, ⟨8, _⟩ => ⟨S32768x1024, .bf16⟩
  | .hbm, ⟨9, _⟩ => ⟨S32768x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x3072, .bf16⟩
  | .local _ .vmem, ⟨5, _⟩ => ⟨S256x1024, .bf16⟩
  | .local _ .vmem, ⟨6, _⟩ => ⟨S256x1024, .bf16⟩
  | .local _ .vmem, ⟨7, _⟩ => ⟨S256x3072, .f32⟩
  | .local _ .vmem, ⟨8, _⟩ => ⟨S256x3072, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S2x16384x1024 : Shape := ⟨3, ![2, 16384, 1024]⟩
abbrev S1024 : Shape := ⟨1, ![1024]⟩
abbrev S1024x11864 : Shape := ⟨2, ![1024, 11864]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x11864 : Shape := ⟨3, ![2, 16384, 11864]⟩
abbrev S32768x11864 : Shape := ⟨2, ![32768, 11864]⟩
abbrev S32768x1024 : Shape := ⟨2, ![32768, 1024]⟩
abbrev S32768x8 : Shape := ⟨2, ![32768, 8]⟩
abbrev S32768x512 : Shape := ⟨2, ![32768, 512]⟩
abbrev S32768x64 : Shape := ⟨2, ![32768, 64]⟩
abbrev S32768x3072 : Shape := ⟨2, ![32768, 3072]⟩

abbrev nBuf : Space → Nat
  | .hbm => 36
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x11864, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x11864, .f32⟩
  | .hbm, ⟨20, _⟩ => ⟨S32768x11864, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x8, .f32⟩
  | .hbm, ⟨26, _⟩ => ⟨S32768x8, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x512, .f32⟩
  | .hbm, ⟨31, _⟩ => ⟨S32768x64, .f32⟩
  | .hbm, ⟨32, _⟩ => ⟨S32768x8, .f32⟩
  | .hbm, ⟨33, _⟩ => ⟨S32768x1024, .f32⟩
  | .hbm, ⟨34, _⟩ => ⟨S32768x3072, .f32⟩
  | .hbm, ⟨35, _⟩ => ⟨S32768x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel6.lean ====
abbrev S2x16384x1024 : Shape := ⟨3, ![2, 16384, 1024]⟩
abbrev S2x16384x3072 : Shape := ⟨3, ![2, 16384, 3072]⟩
abbrev S3x1024 : Shape := ⟨2, ![3, 1024]⟩
abbrev S3x1024x1024 : Shape := ⟨3, ![3, 1024, 1024]⟩
abbrev S1024x1024 : Shape := ⟨2, ![1024, 1024]⟩
abbrev S32768x1024 : Shape := ⟨2, ![32768, 1024]⟩
abbrev S32768x3072 : Shape := ⟨2, ![32768, 3072]⟩
abbrev S1x3072 : Shape := ⟨2, ![1, 3072]⟩
abbrev S256x1024 : Shape := ⟨2, ![256, 1024]⟩
abbrev S256x3072 : Shape := ⟨2, ![256, 3072]⟩
abbrev S1x1024 : Shape := ⟨2, ![1, 1024]⟩
abbrev S1x1024x1024 : Shape := ⟨3, ![1, 1024, 1024]⟩

abbrev nBuf : Space → Nat
  | .hbm => 17
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x1024, .bf16⟩
  | .hbm, ⟨3, _⟩ => ⟨S2x16384x1024, .bf16⟩
  | .hbm, ⟨4, _⟩ => ⟨S2x16384x3072, .f32⟩
  | .hbm, ⟨5, _⟩ => ⟨S3x1024, .f32⟩
  | .hbm, ⟨6, _⟩ => ⟨S3x1024x1024, .f32⟩
  | .hbm, ⟨7, _⟩ => ⟨S1024x1024, .f32⟩
  | .hbm, ⟨8, _⟩ => ⟨S32768x1024, .f32⟩
  | .hbm, ⟨9, _⟩ => ⟨S32768x1024, .bf16⟩
  | .hbm, ⟨10, _⟩ => ⟨S32768x1024, .bf16⟩
  | .hbm, ⟨11, _⟩ => ⟨S32768x1024, .bf16⟩
  | .hbm, ⟨12, _⟩ => ⟨S32768x3072, .f32⟩
  | .hbm, ⟨13, _⟩ => ⟨S3x1024x1024, .bf16⟩
  | .hbm, ⟨14, _⟩ => ⟨S1024x1024, .bf16⟩
  | .hbm, ⟨15, _⟩ => ⟨S1x3072, .f32⟩
  | .hbm, ⟨16, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x3072, .f32⟩
  | .local _ .vmem, ⟨9, _⟩ => ⟨S256x3072, .f32⟩
  | .local _ .vmem, ⟨10, _⟩ => ⟨S1x3072, .f32⟩
  | .local _ .vmem, ⟨11, _⟩ => ⟨S3x1024x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S2x16384x1024 : Shape := ⟨3, ![2, 16384, 1024]⟩
abbrev S2x16384x3072 : Shape := ⟨3, ![2, 16384, 3072]⟩
abbrev S3x1024 : Shape := ⟨2, ![3, 1024]⟩
abbrev S3x1024x1024 : Shape := ⟨3, ![3, 1024, 1024]⟩
abbrev S1024x1024 : Shape := ⟨2, ![1024, 1024]⟩
abbrev S2x16384x3x1024 : Shape := ⟨4, ![2, 16384, 3, 1024]⟩
abbrev S1x1x3x1024 : Shape := ⟨4, ![1, 1, 3, 1024]⟩
abbrev S_ : Shape := ⟨0, ![]⟩
abbrev S2x16384x1x1024 : Shape := ⟨4, ![2, 16384, 1, 1024]⟩
abbrev S1x1024x1024 : Shape := ⟨3, ![1, 1024, 1024]⟩
abbrev S32768x1024 : Shape := ⟨2, ![32768, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x1024, .bf16⟩
  | .hbm, ⟨3, _⟩ => ⟨S2x16384x1024, .bf16⟩
  | .hbm, ⟨4, _⟩ => ⟨S2x16384x3072, .f32⟩
  | .hbm, ⟨5, _⟩ => ⟨S3x1024, .f32⟩
  | .hbm, ⟨6, _⟩ => ⟨S3x1024x1024, .f32⟩
  | .hbm, ⟨7, _⟩ => ⟨S1024x1024, .f32⟩
  | .hbm, ⟨8, _⟩ => ⟨S2x16384x3x1024, .f32⟩
  | .hbm, ⟨9, _⟩ => ⟨S1x1x3x1024, .f32⟩
  | .hbm, ⟨10, _⟩ => ⟨S2x16384x3x1024, .f32⟩
  | .hbm, ⟨11, _⟩ => ⟨S2x16384x3x1024, .f32⟩
  | .hbm, ⟨12, _⟩ => ⟨S2x16384x3x1024, .f32⟩
  | .hbm, ⟨13, _⟩ => ⟨S2x16384x3x1024, .f32⟩
  | .hbm, ⟨14, _⟩ => ⟨S_, .f32⟩
  | .hbm, ⟨15, _⟩ => ⟨S2x16384x3x1024, .f32⟩
  | .hbm, ⟨16, _⟩ => ⟨S2x16384x3x1024, .f32⟩
  | .hbm, ⟨17, _⟩ => ⟨S_, .f32⟩
  | .hbm, ⟨18, _⟩ => ⟨S2x16384x3x1024, .f32⟩
  | .hbm, ⟨19, _⟩ => ⟨S2x16384x3x1024, .f32⟩
  | .hbm, ⟨20, _⟩ => ⟨S2x16384x1x1024, .f32⟩
  | .hbm, ⟨21, _⟩ => ⟨S2x16384x1024, .f32⟩
  | .hbm, ⟨22, _⟩ => ⟨S2x16384x1024, .f32⟩
  | .hbm, ⟨23, _⟩ => ⟨S1x1024x1024, .f32⟩
  | .hbm, ⟨24, _⟩ => ⟨S1024x1024, .f32⟩
  | .hbm, ⟨25, _⟩ => ⟨S2x16384x1024, .f32⟩
  | .hbm, ⟨26, _⟩ => ⟨S2x16384x1024, .f32⟩
  | .hbm, ⟨27, _⟩ => ⟨S2x16384x1x1024, .f32⟩
  | .hbm, ⟨28, _⟩ => ⟨S2x16384x1024, .f32⟩
  | .hbm, ⟨29, _⟩ => ⟨S2x16384x1024, .f32⟩
  | .hbm, ⟨30, _⟩ => ⟨S1x1024x1024, .f32⟩
  | .hbm, ⟨31, _⟩ => ⟨S1024x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1x1024, .f32⟩
  | .hbm, ⟨36, _⟩ => ⟨S2x16384x1024, .f32⟩
  | .hbm, ⟨37, _⟩ => ⟨S2x16384x1024, .f32⟩
  | .hbm, ⟨38, _⟩ => ⟨S1x1024x1024, .f32⟩
  | .hbm, ⟨39, _⟩ => ⟨S1024x1024, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel7.lean ====
abbrev S2x16384x1024 : Shape := ⟨3, ![2, 16384, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S32768x1024, .f32⟩
  | .hbm, ⟨3, _⟩ => ⟨S1x1024, .f32⟩
  | .hbm, ⟨4, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S2x16384x1024 : Shape := ⟨3, ![2, 16384, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x16384x1024, .f32⟩
  | .hbm, ⟨3, _⟩ => ⟨S_, .f32⟩
  | .hbm, ⟨4, _⟩ => ⟨S2x16384, .f32⟩
  | .hbm, ⟨5, _⟩ => ⟨S2x16384x1, .f32⟩
  | .hbm, ⟨6, _⟩ => ⟨S_, .f32⟩
  | .hbm, ⟨7, _⟩ => ⟨S2x16384x1, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S2x16384x1, .f32⟩
  | .hbm, ⟨13, _⟩ => ⟨S2x16384x1024, .f32⟩
  | .hbm, ⟨14, _⟩ => ⟨S2x16384x1024, .f32⟩
  | .hbm, ⟨15, _⟩ => ⟨S1x1x1024, .f32⟩
  | .hbm, ⟨16, _⟩ => ⟨S2x16384x1024, .f32⟩
  | .hbm, ⟨17, _⟩ => ⟨S2x16384x1024, .f32⟩
  | .hbm, ⟨18, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S2x256x1024 : Shape := ⟨3, ![2, 256, 1024]⟩
abbrev S1024 : Shape := ⟨1, ![1024]⟩
abbrev S1024x2048 : Shape := ⟨2, ![1024, 2048]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .f32⟩
  | .hbm, ⟨3, _⟩ => ⟨S512x1024, .f32⟩
  | .hbm, ⟨4, _⟩ => ⟨S1024x2048, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S512x1024, .bf16⟩
  | .hbm, ⟨9, _⟩ => ⟨S512x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S2x256x1024 : Shape := ⟨3, ![2, 256, 1024]⟩
abbrev S1024 : Shape := ⟨1, ![1024]⟩
abbrev S1024x2048 : Shape := ⟨2, ![1024, 2048]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x2048 : Shape := ⟨3, ![2, 256, 2048]⟩
abbrev S512x2048 : Shape := ⟨2, ![512, 2048]⟩
abbrev S512x1024 : Shape := ⟨2, ![512, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .f32⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S1x1x1024, .f32⟩
  | .hbm, ⟨17, _⟩ => ⟨S2x256x1024, .f32⟩
  | .hbm, ⟨18, _⟩ => ⟨S2x256x1024, .f32⟩
  | .hbm, ⟨19, _⟩ => ⟨S2x256x2048, .f32⟩
  | .hbm, ⟨20, _⟩ => ⟨S512x2048, .f32⟩
  | .hbm, ⟨21, _⟩ => ⟨S512x1024, .f32⟩
  | .hbm, ⟨22, _⟩ => ⟨S512x1024, .f32⟩
  | .hbm, ⟨23, _⟩ => ⟨S512x1024, .bf16⟩
  | .hbm, ⟨24, _⟩ => ⟨S512x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel9.lean ====
abbrev S2x16384x1024 : Shape := ⟨3, ![2, 16384, 1024]⟩
abbrev S2x256x1024 : Shape := ⟨3, ![2, 256, 1024]⟩
abbrev S1x512x1024 : Shape := ⟨3, ![1, 512, 1024]⟩
abbrev S1x256x1024 : Shape := ⟨3, ![1, 256, 1024]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S2x16384x1024, .bf16⟩
  | .hbm, ⟨1, _⟩ => ⟨S2x256x1024, .bf16⟩
  | .hbm, ⟨2, _⟩ => ⟨S2x256x1024, .bf16⟩
  | .hbm, ⟨3, _⟩ => ⟨S2x16384x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x512x1024, .bf16⟩
  | .local _ .vmem, ⟨7, _⟩ => ⟨S1x512x1024, .bf16⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S2x16384x1024 : Shape := ⟨3, ![2, 16384, 1024]⟩
abbrev S2x256x1024 : Shape := ⟨3, ![2, 256, 1024]⟩
abbrev S2x16384x4x256 : Shape := ⟨4, ![2, 16384, 4, 256]⟩
abbrev S2x256x4x256 : Shape := ⟨4, ![2, 256, 4, 256]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x256x16384 : Shape := ⟨4, ![2, 4, 256, 16384]⟩

abbrev nBuf : Space → Nat
  | .hbm => 31
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x256x1024, .bf16⟩
  | .hbm, ⟨2, _⟩ => ⟨S2x256x1024, .bf16⟩
  | .hbm, ⟨3, _⟩ => ⟨S2x16384x1024, .f32⟩
  | .hbm, ⟨4, _⟩ => ⟨S2x16384x4x256, .f32⟩
  | .hbm, ⟨5, _⟩ => ⟨S2x256x1024, .f32⟩
  | .hbm, ⟨6, _⟩ => ⟨S2x256x4x256, .f32⟩
  | .hbm, ⟨7, _⟩ => ⟨S2x256x1024, .f32⟩
  | .hbm, ⟨8, _⟩ => ⟨S2x256x4x256, .f32⟩
  | .hbm, ⟨9, _⟩ => ⟨S2x4x16384x256, .f32⟩
  | .hbm, ⟨10, _⟩ => ⟨S_, .f32⟩
  | .hbm, ⟨11, _⟩ => ⟨S2x4x16384x256, .f32⟩
  | .hbm, ⟨12, _⟩ => ⟨S2x4x16384x256, .f32⟩
  | .hbm, ⟨13, _⟩ => ⟨S_, .f32⟩
  | .hbm, ⟨14, _⟩ => ⟨S2x4x16384, .f32⟩
  | .hbm, ⟨15, _⟩ => ⟨S_, .f32⟩
  | .hbm, ⟨16, _⟩ => ⟨S2x4x16384, .f32⟩
  | .hbm, ⟨17, _⟩ => ⟨S2x4x16384, .f32⟩
  | .hbm, ⟨18, _⟩ => ⟨S2x4x16384x1, .f32⟩
  | .hbm, ⟨19, _⟩ => ⟨S2x4x16384x256, .f32⟩
  | .hbm, ⟨20, _⟩ => ⟨S2x4x16384x256, .f32⟩
  | .hbm, ⟨21, _⟩ => ⟨S2x4x16384x256, .f32⟩
  | .hbm, ⟨22, _⟩ => ⟨S_, .f32⟩
  | .hbm, ⟨23, _⟩ => ⟨S2x4x16384, .f32⟩
  | .hbm, ⟨24, _⟩ => ⟨S2x4x16384x1, .f32⟩
  | .hbm, ⟨25, _⟩ => ⟨S2x4x16384x256, .f32⟩
  | .hbm, ⟨26, _⟩ => ⟨S2x4x16384x256, .f32⟩
  | .hbm, ⟨27, _⟩ => ⟨S2x4x256x16384, .f32⟩
  | .hbm, ⟨28, _⟩ => ⟨S2x16384x4x256, .f32⟩
  | .hbm, ⟨29, _⟩ => ⟨S2x16384x1024, .f32⟩
  | .hbm, ⟨30, _⟩ => ⟨S2x16384x1024, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel10.lean ====
abbrev S2x16384x3072 : Shape := ⟨3, ![2, 16384, 3072]⟩
abbrev S2x16384x128 : Shape := ⟨3, ![2, 16384, 128]⟩
abbrev S4x3072 : Shape := ⟨2, ![4, 3072]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S2x16384x1024 : Shape := ⟨3, ![2, 16384, 1024]⟩
abbrev S1x256x3072 : Shape := ⟨3, ![1, 256, 3072]⟩
abbrev S1x8x3072 : Shape := ⟨3, ![1, 8, 3072]⟩
abbrev S1x256x128 : Shape := ⟨3, ![1, 256, 128]⟩
abbrev S1x256x1024 : Shape := ⟨3, ![1, 256, 1024]⟩
abbrev S1x8x1024 : Shape := ⟨3, ![1, 8, 1024]⟩
abbrev S8x1024 : Shape := ⟨2, ![8, 1024]⟩
abbrev S256x1024 : Shape := ⟨2, ![256, 1024]⟩
abbrev S264x1024 : Shape := ⟨2, ![264, 1024]⟩
abbrev S1x1024 : Shape := ⟨2, ![1, 1024]⟩
abbrev S256x128 : Shape := ⟨2, ![256, 128]⟩
abbrev S256 : Shape := ⟨1, ![256]⟩
abbrev S256x1 : Shape := ⟨2, ![256, 1]⟩

abbrev nBuf : Space → Nat
  | .hbm => 25
  | .vmem => 17
  | .smem => 0
  | _ => 0

abbrev bufTy : (tb : Table) → Fin (tcTables nBuf tb) → BufTy
  | .hbm, ⟨0, _⟩ => ⟨S2x16384x3072, .f32⟩
  | .hbm, ⟨1, _⟩ => ⟨S2x16384x128, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S1x128, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S1x128, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S2x16384x1024, .f32⟩
  | .hbm, ⟨22, _⟩ => ⟨S2x16384x1024, .f32⟩
  | .hbm, ⟨23, _⟩ => ⟨S2x16384x1024, .f32⟩
  | .hbm, ⟨24, _⟩ => ⟨S2x16384x128, .f32⟩
  | .local _ .vmem, ⟨0, _⟩ => ⟨S1x256x3072, .f32⟩
  | .local _ .vmem, ⟨1, _⟩ => ⟨S1x256x3072, .f32⟩
  | .local _ .vmem, ⟨2, _⟩ => ⟨S1x8x3072, .f32⟩
  | .local _ .vmem, ⟨3, _⟩ => ⟨S1x8x3072, .f32⟩
  | .local _ .vmem, ⟨4, _⟩ => ⟨S4x3072, .f32⟩
  | .local _ .vmem, ⟨5, _⟩ => ⟨S1x256x128, .f32⟩
  | .local _ .vmem, ⟨6, _⟩ => ⟨S1x256x128, .f32⟩
  | .local _ .vmem, ⟨7, _⟩ => ⟨S1x128, .f32⟩
  | .local _ .vmem, ⟨8, _⟩ => ⟨S1x128, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x128, .f32⟩
  | .local _ .vmem, ⟨16, _⟩ => ⟨S1x256x128, .f32⟩
  | _, _ => ⟨S2x16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference10Ideal.lean ====
abbrev S2x16384x3072 : Shape := ⟨3, ![2, 16384, 3072]⟩
abbrev S2x16384x128 : Shape := ⟨3, ![2, 16384, 128]⟩
abbrev S4x3072 : Shape := ⟨2, ![4, 3072]⟩
abbrev S8 : Shape := ⟨1, ![8]⟩
abbrev S_ : Shape := ⟨0, ![]⟩
abbrev S2x16387x3072 : Shape := ⟨3, ![2, 16387, 3072]⟩
abbrev S1x3072 : Shape := ⟨2, ![1, 3072]⟩
abbrev S3072 : Shape := ⟨1, ![3072]⟩
abbrev S1x1x3072 : Shape := ⟨3, ![1, 1, 3072]⟩
abbrev S2x16384x1024 : Shape := ⟨3, ![2, 16384, 1024]⟩
abbrev S2x16384x8x128 : Shape := ⟨4, ![2, 16384, 8, 128]⟩
abbrev S2x16384x8 : Shape := ⟨3, ![2, 16384, 8]⟩
abbrev S2x16384x8x1 : Shape := ⟨4, ![2, 16384, 8, 1]⟩
abbrev S112 : Shape := ⟨1, ![112]⟩
abbrev S120 : Shape := ⟨1, ![120]⟩
abbrev S2x16384x120 : Shape := ⟨3, ![2, 16384, 120]⟩
abbrev S1x1x120 : Shape := ⟨3, ![1, 1, 120]⟩

abbrev nBuf : Space → Nat
  | .hbm => 114
  | .vmem => 0
  | .smem => 0
  | _ => 0

abbrev bufTy : (tb : Table) → Fin (tcTables nBuf tb) → BufTy
  | .hbm, ⟨0, _⟩ => ⟨S2x16384x3072, .f32⟩
  | .hbm, ⟨1, _⟩ => ⟨S2x16384x128, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S_, .i32⟩
  | .hbm, ⟨6, _⟩ => ⟨S_, .f32⟩
  | .hbm, ⟨7, _⟩ => ⟨S2x16387x3072, .f32⟩
  | .hbm, ⟨8, _⟩ => ⟨S2x16384x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S2x16384x3072, .f32⟩
  | .hbm, ⟨13, _⟩ => ⟨S2x16384x3072, .f32⟩
  | .hbm, ⟨14, _⟩ => ⟨S_, .f32⟩
  | .hbm, ⟨15, _⟩ => ⟨S2x16384x3072, .f32⟩
  | .hbm, ⟨16, _⟩ => ⟨S2x16384x3072, .f32⟩
  | .hbm, ⟨17, _⟩ => ⟨S2x16384x3072, .f32⟩
  | .hbm, ⟨18, _⟩ => ⟨S1x3072, .f32⟩
  | .hbm, ⟨19, _⟩ => ⟨S3072, .f32⟩
  | .hbm, ⟨20, _⟩ => ⟨S1x1x3072, .f32⟩
  | .hbm, ⟨21, _⟩ => ⟨S2x16384x3072, .f32⟩
  | .hbm, ⟨22, _⟩ => ⟨S2x16384x3072, .f32⟩
  | .hbm, ⟨23, _⟩ => ⟨S2x16384x3072, .f32⟩
  | .hbm, ⟨24, _⟩ => ⟨S2x16384x3072, .f32⟩
  | .hbm, ⟨25, _⟩ => ⟨S1x3072, .f32⟩
  | .hbm, ⟨26, _⟩ => ⟨S3072, .f32⟩
  | .hbm, ⟨27, _⟩ => ⟨S1x1x3072, .f32⟩
  | .hbm, ⟨28, _⟩ => ⟨S2x16384x3072, .f32⟩
  | .hbm, ⟨29, _⟩ => ⟨S2x16384x3072, .f32⟩
  | .hbm, ⟨30, _⟩ => ⟨S2x16384x3072, .f32⟩
  | .hbm, ⟨31, _⟩ => ⟨S2x16384x3072, .f32⟩
  | .hbm, ⟨32, _⟩ => ⟨S1x3072, .f32⟩
  | .hbm, ⟨33, _⟩ => ⟨S3072, .f32⟩
  | .hbm, ⟨34, _⟩ => ⟨S1x1x3072, .f32⟩
  | .hbm, ⟨35, _⟩ => ⟨S2x16384x3072, .f32⟩
  | .hbm, ⟨36, _⟩ => ⟨S2x16384x3072, .f32⟩
  | .hbm, ⟨37, _⟩ => ⟨S2x16384x3072, .f32⟩
  | .hbm, ⟨38, _⟩ => ⟨S2x16384x3072, .f32⟩
  | .hbm, ⟨39, _⟩ => ⟨S2x16384x3072, .f32⟩
  | .hbm, ⟨40, _⟩ => ⟨S_, .f32⟩
  | .hbm, ⟨41, _⟩ => ⟨S2x16384x3072, .f32⟩
  | .hbm, ⟨42, _⟩ => ⟨S2x16384x3072, .f32⟩
  | .hbm, ⟨43, _⟩ => ⟨S_, .f32⟩
  | .hbm, ⟨44, _⟩ => ⟨S2x16384x3072, .f32⟩
  | .hbm, ⟨45, _⟩ => ⟨S2x16384x3072, .f32⟩
  | .hbm, ⟨46, _⟩ => ⟨S2x16384x3072, .f32⟩
  | .hbm, ⟨47, _⟩ => ⟨S2x16384x1024, .f32⟩
  | .hbm, ⟨48, _⟩ => ⟨S2x16384x1024, .f32⟩
  | .hbm, ⟨49, _⟩ => ⟨S2x16384x1024, .f32⟩
  | .hbm, ⟨50, _⟩ => ⟨S2x16384x8x128, .f32⟩
  | .hbm, ⟨51, _⟩ => ⟨S2x16384x8x128, .f32⟩
  | .hbm, ⟨52, _⟩ => ⟨S_, .f32⟩
  | .hbm, ⟨53, _⟩ => ⟨S2x16384x8, .f32⟩
  | .hbm, ⟨54, _⟩ => ⟨S2x16384x8x1, .f32⟩
  | .hbm, ⟨55, _⟩ => ⟨S_, .f32⟩
  | .hbm, ⟨56, _⟩ => ⟨S2x16384x8x1, .f32⟩
  | .hbm, ⟨57, _⟩ => ⟨S2x16384x8x1, .f32⟩
  | .hbm, ⟨58, _⟩ => ⟨S2x16384x8x1, .f32⟩
  | .hbm, ⟨59, _⟩ => ⟨S2x16384x8x128, .f32⟩
  | .hbm, ⟨60, _⟩ => ⟨S2x16384x8x128, .f32⟩
  | .hbm, ⟨61, _⟩ => ⟨S_, .f32⟩
  | .hbm, ⟨62, _⟩ => ⟨S2x16384x8x128, .f32⟩
  | .hbm, ⟨63, _⟩ => ⟨S2x16384x8x128, .f32⟩
  | .hbm, ⟨64, _⟩ => ⟨S2x16384x8x128, .f32⟩
  | .hbm, ⟨65, _⟩ => ⟨S2x16384x8x128, .f32⟩
  | .hbm, ⟨66, _⟩ => ⟨S_, .f32⟩
  | .hbm, ⟨67, _⟩ => ⟨S2x16384x8, .f32⟩
  | .hbm, ⟨68, _⟩ => ⟨S2x16384x8x1, .f32⟩
  | .hbm, ⟨69, _⟩ => ⟨S_, .f32⟩
  | .hbm, ⟨70, _⟩ => ⟨S2x16384x8x1, .f32⟩
  | .hbm, ⟨71, _⟩ => ⟨S2x16384x8x1, .f32⟩
  | .hbm, ⟨72, _⟩ => ⟨S2x16384x8x1, .f32⟩
  | .hbm, ⟨73, _⟩ => ⟨S2x16384x8x128, .f32⟩
  | .hbm, ⟨74, _⟩ => ⟨S2x16384x8x128, .f32⟩
  | .hbm, ⟨75, _⟩ => ⟨S2x16384x8, .f32⟩
  | .hbm, ⟨76, _⟩ => ⟨S2x16384x8, .f32⟩
  | .hbm, ⟨77, _⟩ => ⟨S2x16384x8, .f32⟩
  | .hbm, ⟨78, _⟩ => ⟨S_, .f32⟩
  | .hbm, ⟨79, _⟩ => ⟨S2x16384x8, .f32⟩
  | .hbm, ⟨80, _⟩ => ⟨S2x16384x8, .f32⟩
  | .hbm, ⟨81, _⟩ => ⟨S_, .f32⟩
  | .hbm, ⟨82, _⟩ => ⟨S2x16384x8, .f32⟩
  | .hbm, ⟨83, _⟩ => ⟨S2x16384x8, .f32⟩
  | .hbm, ⟨84, _⟩ => ⟨S_, .f32⟩
  | .hbm, ⟨85, _⟩ => ⟨S112, .f32⟩
  | .hbm, ⟨86, _⟩ => ⟨S120, .f32⟩
  | .hbm, ⟨87, _⟩ => ⟨S120, .f32⟩
  | .hbm, ⟨88, _⟩ => ⟨S120, .f32⟩
  | .hbm, ⟨89, _⟩ => ⟨S2x16384x120, .f32⟩
  | .hbm, ⟨90, _⟩ => ⟨S120, .f32⟩
  | .hbm, ⟨91, _⟩ => ⟨S1x1x120, .f32⟩
  | .hbm, ⟨92, _⟩ => ⟨S2x16384x120, .f32⟩
  | .hbm, ⟨93, _⟩ => ⟨S2x16384x120, .f32⟩
  | .hbm, ⟨94, _⟩ => ⟨S_, .f32⟩
  | .hbm, ⟨95, _⟩ => ⟨S2x16384x120, .f32⟩
  | .hbm, ⟨96, _⟩ => ⟨S2x16384x120, .f32⟩
  | .hbm, ⟨97, _⟩ => ⟨S2x16384x120, .f32⟩
  | .hbm, ⟨98, _⟩ => ⟨S2x16384x120, .f32⟩
  | .hbm, ⟨99, _⟩ => ⟨S2x16384x120, .i1⟩
  | .hbm, ⟨100, _⟩ => ⟨S2x16384x120, .f32⟩
  | .hbm, ⟨101, _⟩ => ⟨S2x16384x120, .f32⟩
  | .hbm, ⟨102, _⟩ => ⟨S2x16384x120, .f32⟩
  | .hbm, ⟨103, _⟩ => ⟨S2x16384x120, .f32⟩
  | .hbm, ⟨104, _⟩ => ⟨S2x16384x120, .f32⟩
  | .hbm, ⟨105, _⟩ => ⟨S2x16384x120, .f32⟩
  | .hbm, ⟨106, _⟩ => ⟨S2x16384x120, .f32⟩
  | .hbm, ⟨107, _⟩ => ⟨S2x16384x120, .f32⟩
  | .hbm, ⟨108, _⟩ => ⟨S1x1x120, .f32⟩
  | .hbm, ⟨109, _⟩ => ⟨S2x16384x120, .f32⟩
  | .hbm, ⟨110, _⟩ => ⟨S2x16384x120, .f32⟩
  | .hbm, ⟨111, _⟩ => ⟨S2x16384x1024, .f32⟩
  | .hbm, ⟨112, _⟩ => ⟨S2x16384x1024, .f32⟩
  | .hbm, ⟨113, _⟩ => ⟨S2x16384x128, .f32⟩
  | _, _ => ⟨S2x16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_0 : Ref sig .tc := ⟨.hbm, 52, rfl⟩
abbrev main_v36 : Ref sig .tc := ⟨.hbm, 53, rfl⟩
abbrev main_v37 : Ref sig .tc := ⟨.hbm, 54, rfl⟩
abbrev main_cst_1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_3 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_5 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call2_cst : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== Kernel11.lean ====
abbrev S2x16384x2048 : Shape := ⟨3, ![2, 16384, 2048]⟩
abbrev S2x16384x640 : Shape := ⟨3, ![2, 16384, 640]⟩
abbrev S2x16384x128 : Shape := ⟨3, ![2, 16384, 128]⟩
abbrev S2x16384x1024 : Shape := ⟨3, ![2, 16384, 1024]⟩
abbrev S2x8x16384x64 : Shape := ⟨4, ![2, 8, 16384, 64]⟩
abbrev S1x256x2048 : Shape := ⟨3, ![1, 256, 2048]⟩
abbrev S1x256x640 : Shape := ⟨3, ![1, 256, 640]⟩
abbrev S1x256x128 : Shape := ⟨3, ![1, 256, 128]⟩
abbrev S1x256x1024 : Shape := ⟨3, ![1, 256, 1024]⟩
abbrev S1x8x256x64 : Shape := ⟨4, ![1, 8, 256, 64]⟩
abbrev S256x128 : Shape := ⟨2, ![256, 128]⟩
abbrev S256x64 : Shape := ⟨2, ![256, 64]⟩
abbrev S1x1x256x64 : Shape := ⟨4, ![1, 1, 256, 64]⟩

abbrev nBuf : Space → Nat
  | .hbm => 12
  | .vmem => 24
  | .smem => 0
  | _ => 0

abbrev bufTy : (tb : Table) → Fin (tcTables nBuf tb) → BufTy
  | .hbm, ⟨0, _⟩ => ⟨S2x16384x2048, .f32⟩
  | .hbm, ⟨1, _⟩ => ⟨S2x16384x640, .f32⟩
  | .hbm, ⟨2, _⟩ => ⟨S2x16384x128, .f32⟩
  | .hbm, ⟨3, _⟩ => ⟨S2x16384x128, .f32⟩
  | .hbm, ⟨4, _⟩ => ⟨S2x16384x128, .f32⟩
  | .hbm, ⟨5, _⟩ => ⟨S2x16384x128, .f32⟩
  | .hbm, ⟨6, _⟩ => ⟨S2x16384x128, .f32⟩
  | .hbm, ⟨7, _⟩ => ⟨S2x16384x1024, .bf16⟩
  | .hbm, ⟨8, _⟩ => ⟨S2x16384x1024, .bf16⟩
  | .hbm, ⟨9, _⟩ => ⟨S2x8x16384x64, .bf16⟩
  | .hbm, ⟨10, _⟩ => ⟨S2x16384x128, .bf16⟩
  | .hbm, ⟨11, _⟩ => ⟨S2x16384x128, .f32⟩
  | .local _ .vmem, ⟨0, _⟩ => ⟨S1x256x2048, .f32⟩
  | .local _ .vmem, ⟨1, _⟩ => ⟨S1x256x2048, .f32⟩
  | .local _ .vmem, ⟨2, _⟩ => ⟨S1x256x640, .f32⟩
  | .local _ .vmem, ⟨3, _⟩ => ⟨S1x256x640, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x8x256x64, .bf16⟩
  | .local _ .vmem, ⟨19, _⟩ => ⟨S1x8x256x64, .bf16⟩
  | .local _ .vmem, ⟨20, _⟩ => ⟨S1x256x128, .bf16⟩
  | .local _ .vmem, ⟨21, _⟩ => ⟨S1x256x128, .bf16⟩
  | .local _ .vmem, ⟨22, _⟩ => ⟨S1x256x128, .f32⟩
  | .local _ .vmem, ⟨23, _⟩ => ⟨S1x256x128, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference11Ideal.lean ====
abbrev S2x16384x2048 : Shape := ⟨3, ![2, 16384, 2048]⟩
abbrev S2x16384x640 : Shape := ⟨3, ![2, 16384, 640]⟩
abbrev S2x16384x128 : Shape := ⟨3, ![2, 16384, 128]⟩
abbrev S2x16384x16 : Shape := ⟨3, ![2, 16384, 16]⟩
abbrev S2x16384x8 : Shape := ⟨3, ![2, 16384, 8]⟩
abbrev S2x16384x1024 : Shape := ⟨3, ![2, 16384, 1024]⟩
abbrev S2x16384x8x128 : Shape := ⟨4, ![2, 16384, 8, 128]⟩
abbrev S2x16384x1x16 : Shape := ⟨4, ![2, 16384, 1, 16]⟩
abbrev S2x16384x8x16 : Shape := ⟨4, ![2, 16384, 8, 16]⟩
abbrev S2x16384x8x96 : Shape := ⟨4, ![2, 16384, 8, 96]⟩
abbrev S2x16384x512 : Shape := ⟨3, ![2, 16384, 512]⟩
abbrev S2x16384x8x64 : Shape := ⟨4, ![2, 16384, 8, 64]⟩
abbrev S2x16384x1x8 : Shape := ⟨4, ![2, 16384, 1, 8]⟩
abbrev S2x16384x8x8 : Shape := ⟨4, ![2, 16384, 8, 8]⟩
abbrev S2x16384x8x48 : Shape := ⟨4, ![2, 16384, 8, 48]⟩
abbrev S2x16384x2x64 : Shape := ⟨4, ![2, 16384, 2, 64]⟩
abbrev S2x16384x2x8 : Shape := ⟨4, ![2, 16384, 2, 8]⟩
abbrev S2x16384x2x48 : Shape := ⟨4, ![2, 16384, 2, 48]⟩
abbrev S_ : Shape := ⟨0, ![]⟩
abbrev S2x8x16384x64 : Shape := ⟨4, ![2, 8, 16384, 64]⟩

abbrev nBuf : Space → Nat
  | .hbm => 97
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x640, .f32⟩
  | .hbm, ⟨2, _⟩ => ⟨S2x16384x128, .f32⟩
  | .hbm, ⟨3, _⟩ => ⟨S2x16384x128, .f32⟩
  | .hbm, ⟨4, _⟩ => ⟨S2x16384x128, .f32⟩
  | .hbm, ⟨5, _⟩ => ⟨S2x16384x128, .f32⟩
  | .hbm, ⟨6, _⟩ => ⟨S2x16384x128, .f32⟩
  | .hbm, ⟨7, _⟩ => ⟨S2x16384x16, .f32⟩
  | .hbm, ⟨8, _⟩ => ⟨S2x16384x16, .f32⟩
  | .hbm, ⟨9, _⟩ => ⟨S2x16384x8, .f32⟩
  | .hbm, ⟨10, _⟩ => ⟨S2x16384x8, .f32⟩
  | .hbm, ⟨11, _⟩ => ⟨S2x16384x1024, .f32⟩
  | .hbm, ⟨12, _⟩ => ⟨S2x16384x8x128, .f32⟩
  | .hbm, ⟨13, _⟩ => ⟨S2x16384x1x16, .f32⟩
  | .hbm, ⟨14, _⟩ => ⟨S2x16384x1x16, .f32⟩
  | .hbm, ⟨15, _⟩ => ⟨S2x16384x8x16, .f32⟩
  | .hbm, ⟨16, _⟩ => ⟨S2x16384x8x16, .f32⟩
  | .hbm, ⟨17, _⟩ => ⟨S2x16384x8x16, .f32⟩
  | .hbm, ⟨18, _⟩ => ⟨S2x16384x8x16, .f32⟩
  | .hbm, ⟨19, _⟩ => ⟨S2x16384x8x16, .f32⟩
  | .hbm, ⟨20, _⟩ => ⟨S2x16384x8x16, .f32⟩
  | .hbm, ⟨21, _⟩ => ⟨S2x16384x8x16, .f32⟩
  | .hbm, ⟨22, _⟩ => ⟨S2x16384x8x16, .f32⟩
  | .hbm, ⟨23, _⟩ => ⟨S2x16384x8x16, .f32⟩
  | .hbm, ⟨24, _⟩ => ⟨S2x16384x8x16, .f32⟩
  | .hbm, ⟨25, _⟩ => ⟨S2x16384x8x16, .f32⟩
  | .hbm, ⟨26, _⟩ => ⟨S2x16384x8x16, .f32⟩
  | .hbm, ⟨27, _⟩ => ⟨S2x16384x8x96, .f32⟩
  | .hbm, ⟨28, _⟩ => ⟨S2x16384x8x128, .f32⟩
  | .hbm, ⟨29, _⟩ => ⟨S2x16384x1024, .f32⟩
  | .hbm, ⟨30, _⟩ => ⟨S2x16384x8x128, .f32⟩
  | .hbm, ⟨31, _⟩ => ⟨S2x16384x1x16, .f32⟩
  | .hbm, ⟨32, _⟩ => ⟨S2x16384x1x16, .f32⟩
  | .hbm, ⟨33, _⟩ => ⟨S2x16384x8x16, .f32⟩
  | .hbm, ⟨34, _⟩ => ⟨S2x16384x8x16, .f32⟩
  | .hbm, ⟨35, _⟩ => ⟨S2x16384x8x16, .f32⟩
  | .hbm, ⟨36, _⟩ => ⟨S2x16384x8x16, .f32⟩
  | .hbm, ⟨37, _⟩ => ⟨S2x16384x8x16, .f32⟩
  | .hbm, ⟨38, _⟩ => ⟨S2x16384x8x16, .f32⟩
  | .hbm, ⟨39, _⟩ => ⟨S2x16384x8x16, .f32⟩
  | .hbm, ⟨40, _⟩ => ⟨S2x16384x8x16, .f32⟩
  | .hbm, ⟨41, _⟩ => ⟨S2x16384x8x16, .f32⟩
  | .hbm, ⟨42, _⟩ => ⟨S2x16384x8x16, .f32⟩
  | .hbm, ⟨43, _⟩ => ⟨S2x16384x8x16, .f32⟩
  | .hbm, ⟨44, _⟩ => ⟨S2x16384x8x16, .f32⟩
  | .hbm, ⟨45, _⟩ => ⟨S2x16384x8x96, .f32⟩
  | .hbm, ⟨46, _⟩ => ⟨S2x16384x8x128, .f32⟩
  | .hbm, ⟨47, _⟩ => ⟨S2x16384x512, .f32⟩
  | .hbm, ⟨48, _⟩ => ⟨S2x16384x8x64, .f32⟩
  | .hbm, ⟨49, _⟩ => ⟨S2x16384x1x8, .f32⟩
  | .hbm, ⟨50, _⟩ => ⟨S2x16384x1x8, .f32⟩
  | .hbm, ⟨51, _⟩ => ⟨S2x16384x8x8, .f32⟩
  | .hbm, ⟨52, _⟩ => ⟨S2x16384x8x8, .f32⟩
  | .hbm, ⟨53, _⟩ => ⟨S2x16384x8x8, .f32⟩
  | .hbm, ⟨54, _⟩ => ⟨S2x16384x8x8, .f32⟩
  | .hbm, ⟨55, _⟩ => ⟨S2x16384x8x8, .f32⟩
  | .hbm, ⟨56, _⟩ => ⟨S2x16384x8x8, .f32⟩
  | .hbm, ⟨57, _⟩ => ⟨S2x16384x8x8, .f32⟩
  | .hbm, ⟨58, _⟩ => ⟨S2x16384x8x8, .f32⟩
  | .hbm, ⟨59, _⟩ => ⟨S2x16384x8x8, .f32⟩
  | .hbm, ⟨60, _⟩ => ⟨S2x16384x8x8, .f32⟩
  | .hbm, ⟨61, _⟩ => ⟨S2x16384x8x8, .f32⟩
  | .hbm, ⟨62, _⟩ => ⟨S2x16384x8x8, .f32⟩
  | .hbm, ⟨63, _⟩ => ⟨S2x16384x8x48, .f32⟩
  | .hbm, ⟨64, _⟩ => ⟨S2x16384x8x64, .f32⟩
  | .hbm, ⟨65, _⟩ => ⟨S2x16384x128, .f32⟩
  | .hbm, ⟨66, _⟩ => ⟨S2x16384x2x64, .f32⟩
  | .hbm, ⟨67, _⟩ => ⟨S2x16384x1x8, .f32⟩
  | .hbm, ⟨68, _⟩ => ⟨S2x16384x1x8, .f32⟩
  | .hbm, ⟨69, _⟩ => ⟨S2x16384x2x8, .f32⟩
  | .hbm, ⟨70, _⟩ => ⟨S2x16384x2x8, .f32⟩
  | .hbm, ⟨71, _⟩ => ⟨S2x16384x2x8, .f32⟩
  | .hbm, ⟨72, _⟩ => ⟨S2x16384x2x8, .f32⟩
  | .hbm, ⟨73, _⟩ => ⟨S2x16384x2x8, .f32⟩
  | .hbm, ⟨74, _⟩ => ⟨S2x16384x2x8, .f32⟩
  | .hbm, ⟨75, _⟩ => ⟨S2x16384x2x8, .f32⟩
  | .hbm, ⟨76, _⟩ => ⟨S2x16384x2x8, .f32⟩
  | .hbm, ⟨77, _⟩ => ⟨S2x16384x2x8, .f32⟩
  | .hbm, ⟨78, _⟩ => ⟨S2x16384x2x8, .f32⟩
  | .hbm, ⟨79, _⟩ => ⟨S2x16384x2x8, .f32⟩
  | .hbm, ⟨80, _⟩ => ⟨S2x16384x2x8, .f32⟩
  | .hbm, ⟨81, _⟩ => ⟨S2x16384x2x48, .f32⟩
  | .hbm, ⟨82, _⟩ => ⟨S2x16384x2x64, .f32⟩
  | .hbm, ⟨83, _⟩ => ⟨S_, .f32⟩
  | .hbm, ⟨84, _⟩ => ⟨S2x16384x128, .f32⟩
  | .hbm, ⟨85, _⟩ => ⟨S2x16384x128, .f32⟩
  | .hbm, ⟨86, _⟩ => ⟨S_, .f32⟩
  | .hbm, ⟨87, _⟩ => ⟨S2x16384x8x128, .f32⟩
  | .hbm, ⟨88, _⟩ => ⟨S2x16384x8x128, .f32⟩
  | .hbm, ⟨89, _⟩ => ⟨S2x16384x1024, .f32⟩
  | .hbm, ⟨90, _⟩ => ⟨S2x16384x1024, .bf16⟩
  | .hbm, ⟨91, _⟩ => ⟨S2x16384x1024, .f32⟩
  | .hbm, ⟨92, _⟩ => ⟨S2x16384x1024, .bf16⟩
  | .hbm, ⟨93, _⟩ => ⟨S2x8x16384x64, .f32⟩
  | .hbm, ⟨94, _⟩ => ⟨S2x8x16384x64, .bf16⟩
  | .hbm, ⟨95, _⟩ => ⟨S2x16384x128, .f32⟩
  | .hbm, ⟨96, _⟩ => ⟨S2x16384x128, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_cst : Ref sig .tc := ⟨.hbm, 83, rfl⟩
abbrev main_v76 : Ref sig .tc := ⟨.hbm, 84, rfl⟩
abbrev main_v77 : Ref sig .tc := ⟨.hbm, 85, rfl⟩
abbrev main_cst_0 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩

abbrev nD : Nat := 1
abbrev τ : Topo := Topo.v7x

variable {F : FTy → Type} [FloatOps F]
-- ==== Proof.Dn.Head.lean ====
/-
  One head of the chunk kernel, as a function of what the head reads: the kernel repeats the same operations for each of
  its eight heads, and here they are stated once, stage by stage. `tile` is the head's output tile and `stateTile` the
  state it leaves.
-/
module

public import proofs.«01_k».proof.Proof.Gen.KernelIdeal.Skeleton

@[expose] public section

noncomputable section

namespace Cert.KernelIdeal.Head

open Cert.KernelIdeal Cert.KernelIdeal.Gen
open Idealize.ShloMosaic Idealize.SL.Sem

variable {F : FTy → Type} [FloatOps F]

/-- The zero splat. -/
def zeros (s : Shape) : FVec F s .f32 := broadcast s (Scalar.ofBits .f32 0x00000000#32)
/-- The mask of the lower triangle with the diagonal. -/
def incl : IVec S64x64 1 := cmpi .sge (iota .tc S64x64 32 [0] iota_S64x64_d0_w32) (iota .tc S64x64 32 [1] iota_S64x64_d1_w32)
/-- The mask of the strict lower triangle. -/
def strict : IVec S64x64 1 := cmpi .sgt (iota .tc S64x64 32 [0] iota_S64x64_d0_w32) (iota .tc S64x64 32 [1] iota_S64x64_d1_w32)
/-- The identity matrix. -/
def eye : FVec F S64x64 .f32 :=
  sitofp .f32 (extui 32 (cmpi .eq (iota .tc S64x64 32 [0] iota_S64x64_d0_w32) (iota .tc S64x64 32 [1] iota_S64x64_d1_w32)) natLt_1_32)
/-- The gates of the chunk, without the leading axis. -/
def gates (x : Vec F S1x64x128 .f32) : FVec F S64x128 .f32 := shapeCast S64x128 x shapeCasts_S1x64x128_S64x128
/-- The running sums of the gates down the chunk. -/
def cums (x : Vec F S1x64x128 .f32) : FVec F S64x128 .f32 :=
  matmul dot_S64x64_S64x128_S64x128_1_0_0_1_n_n (some .fp32) (sitofp .f32 (extui 32 incl natLt_1_32)) (gates x)
    (constant S64x128 .f32 0x00000000#32)
/-- The running sums transposed. -/
def cumsT (x : Vec F S1x64x128 .f32) : FVec F S128x64 .f32 := transpose S128x64 [1, 0] (cums x) transposes_S64x128_p1_0_S128x64

/-- The decay from token `j` to token `i`, zero above the diagonal. -/
def decay (gcol : FVec F S64x1 .f32) (grow : FVec F S1x64 .f32) : FVec F S64x64 .f32 :=
  select incl (exp (select incl (subf (broadcastTo S64x64 gcol broadcasts_S64x1_S64x64)
    (broadcastTo S64x64 grow broadcasts_S1x64_S64x64)) (zeros S64x64))) (zeros S64x64)
/-- The keys times their strengths. -/
def kb (k : FVec F S64x128 .f32) (bcol : FVec F S64x1 .f32) : FVec F S64x128 .f32 :=
  mulf k (broadcastTo S64x128 bcol broadcasts_S64x1_S64x128)
def lo (x : FVec F S64x128 .f32) : FVec F S64x128 .bf16 := truncf .bf16 x bitsLt_bf16_f32
/-- The products of the rows of two row blocks. -/
def rows (a b : FVec F S64x128 .f32) : FVec F S64x64 .f32 :=
  matmul dot_S64x128_S64x128_S64x64_1_1_0_0_n_n none (lo a) (lo b) (constant S64x64 .f32 0x00000000#32)
/-- Minus the strictly lower triangular matrix of the chunk's system. -/
def neg (k : FVec F S64x128 .f32) (bcol : FVec F S64x1 .f32) (dec : FVec F S64x64 .f32) : FVec F S64x64 .f32 :=
  subf (zeros S64x64) (select strict (mulf (rows (kb k bcol) k) dec) (zeros S64x64))
/-- The high part of a square. -/
def hi (x : FVec F S64x64 .f32) : FVec F S64x64 .bf16 := truncf .bf16 x bitsLt_bf16_f32
/-- What the high part leaves. -/
def rest (x : FVec F S64x64 .f32) : FVec F S64x64 .bf16 :=
  truncf .bf16 (subf x (extf .f32 (hi x) bitsLt_bf16_f32)) bitsLt_bf16_f32
def hiW (x : FVec F S64x256 .f32) : FVec F S64x256 .bf16 := truncf .bf16 x bitsLt_bf16_f32
def restW (x : FVec F S64x256 .f32) : FVec F S64x256 .bf16 :=
  truncf .bf16 (subf x (extf .f32 (hiW x) bitsLt_bf16_f32)) bitsLt_bf16_f32
def mm (a b : FVec F S64x64 .bf16) : FVec F S64x64 .f32 :=
  matmul dot_S64x64_S64x64_S64x64_1_0_0_1_n_n none a b (constant S64x64 .f32 0x00000000#32)
def mmW (a : FVec F S64x64 .bf16) (b : FVec F S64x256 .bf16) : FVec F S64x256 .f32 :=
  matmul dot_S64x64_S64x256_S64x256_1_0_0_1_n_n none a b (constant S64x256 .f32 0x00000000#32)
/-- The product of two squares in split precision. -/
def split (a b : FVec F S64x64 .f32) : FVec F S64x64 .f32 :=
  addf (mm (hi a) (hi b)) (addf (mm (hi a) (rest b)) (mm (rest a) (hi b)))
def splitW (a : FVec F S64x64 .f32) (b : FVec F S64x256 .f32) : FVec F S64x256 .f32 :=
  addf (mmW (hi a) (hiW b)) (addf (mmW (hi a) (restW b)) (mmW (rest a) (hiW b)))
/-- One doubling: the power squared, the product extended by it. -/
def double (x : FVec F S64x64 .f32 × FVec F S64x64 .f32) : FVec F S64x64 .f32 × FVec F S64x64 .f32 :=
  (split x.1 x.1, addf x.2 (split x.2 (split x.1 x.1)))
/-- The inverse of the chunk's system after five doublings. -/
def inv (x : FVec F S64x64 .f32) : FVec F S64x64 .f32 :=
  (double (double (double (double (double (x, addf eye x)))))).2
/-- The right sides of the system. -/
def rhs (k v : FVec F S64x128 .f32) (bcol gcol : FVec F S64x1 .f32) : FVec F S64x256 .f32 :=
  concatenate S64x256 1 [⟨S64x128, mulf v (broadcastTo S64x128 bcol broadcasts_S64x1_S64x128)⟩,
    ⟨S64x128, mulf (kb k bcol) (broadcastTo S64x128 (exp gcol) broadcasts_S64x1_S64x128)⟩]
    concatenates_S64x128_S64x128_S64x256_d1
def sol (k v : FVec F S64x128 .f32) (bcol gcol : FVec F S64x1 .f32) (dec : FVec F S64x64 .f32) : FVec F S64x256 .f32 :=
  splitW (inv (neg k bcol dec)) (rhs k v bcol gcol)
def loS (x : FVec F S128x128 .f32) : FVec F S128x128 .bf16 := truncf .bf16 x bitsLt_bf16_f32
/-- A row block through the state. -/
def through (a : FVec F S64x128 .f32) (st : FVec F S128x128 .f32) : FVec F S64x128 .f32 :=
  matmul dot_S64x128_S128x128_S64x128_1_0_0_1_n_n none (lo a) (loS st) (constant S64x128 .f32 0x00000000#32)
/-- What each token writes, from the solution and the state the chunk starts from. -/
def writes (sol : FVec F S64x256 .f32) (st : FVec F S128x128 .f32) : FVec F S64x128 .f32 :=
  subf (extractStridedSlice S64x128 ![0, 0] sol slices_S64x256_o0_0_S64x128)
    (through (extractStridedSlice S64x128 ![0, 128] sol slices_S64x256_o0_128_S64x128) st)
/-- What each token reads out. -/
def reads (q k : FVec F S64x128 .f32) (gcol : FVec F S64x1 .f32) (dec : FVec F S64x64 .f32) (st : FVec F S128x128 .f32)
    (w : FVec F S64x128 .f32) : FVec F S64x128 .f32 :=
  addf (through (mulf q (broadcastTo S64x128 (exp gcol) broadcasts_S64x1_S64x128)) st)
    (matmul dot_S64x64_S64x128_S64x128_1_0_0_1_n_n none (hi (mulf (rows q k) dec)) (lo w)
      (constant S64x128 .f32 0x00000000#32))
/-- The state after the chunk. -/
def next (k : FVec F S64x128 .f32) (gcol : FVec F S64x1 .f32) (glast : FVec F S1x1 .f32) (st : FVec F S128x128 .f32)
    (w : FVec F S64x128 .f32) : FVec F S128x128 .f32 :=
  addf (mulf st (broadcastTo S128x128 (exp glast) broadcasts_S1x1_S128x128))
    (matmul dot_S64x128_S64x128_S128x128_0_0_1_1_n_n none
      (lo (mulf k (broadcastTo S64x128 (exp (subf (broadcastTo S64x1 glast broadcasts_S1x1_S64x1) gcol))
        broadcasts_S64x1_S64x128))) (lo w) (constant S128x128 .f32 0x00000000#32))
/-- The normalised, gated output. -/
def fin (o z : FVec F S64x128 .f32) (nrm : FVec F S1x128 .f32) : FVec F S64x128 .bf16 :=
  truncf .bf16 (mulf (mulf (mulf o (broadcastTo S64x128 (rsqrt (addf (divf (shapeCast S64x1
      (multiReduction .add [1] S64 (mulf o o) 0x00000000#32 reduces_S64x128_S64 (.inl rfl) rfl) shapeCasts_S64_S64x1)
      (broadcast S64x1 (Scalar.ofBits .f32 0x43000000#32))) (broadcast S64x1 (Scalar.ofBits .f32 0x358637BD#32))))
      broadcasts_S64x1_S64x128)) (broadcastTo S64x128 nrm broadcasts_S1x128_S64x128))
    (mulf z (divf (broadcast S64x128 (Scalar.ofBits .f32 0x3F800000#32))
      (addf (broadcast S64x128 (Scalar.ofBits .f32 0x3F800000#32)) (exp (subf (zeros S64x128) z)))))) bitsLt_bf16_f32

/-- What a head reads: its slices of the chunk, already without the leading axis, and the state it starts from. -/
structure Ins (F : FTy → Type) [FloatOps F] where
  q : FVec F S64x128 .f32
  k : FVec F S64x128 .f32
  v : FVec F S64x128 .f32
  z : FVec F S64x128 .f32
  b : FVec F S64x1 .f32
  g : FVec F S64x1 .f32
  l : FVec F S1x1 .f32
  r : FVec F S1x64 .f32
  n : FVec F S1x128 .f32
  s : FVec F S128x128 .f32

/-- What each of the head's tokens writes. -/
def Ins.w (x : Ins F) : FVec F S64x128 .f32 := writes (sol x.k x.v x.b x.g (decay x.g x.r)) x.s
/-- The head's output tile. -/
def Ins.tile (x : Ins F) : FVec F S1x64x128 .bf16 :=
  shapeCast S1x64x128 (fin (reads x.q x.k x.g (decay x.g x.r) x.s x.w) x.z x.n) shapeCasts_S64x128_S1x64x128
/-- The state the head leaves. -/
def Ins.state (x : Ins F) : FVec F S1x128x128 .f32 :=
  shapeCast S1x128x128 (next x.k x.g x.l x.s x.w) shapeCasts_S128x128_S1x128x128

end Cert.KernelIdeal.Head

end
-- ==== Proof.Dn.Tiles.lean ====
/-
  What one grid point of the chunk kernel leaves: its output block is the eight heads' tiles side by side, and its scratch
  the eight heads' states, each head a function (`Head.Ins`) of its slices of the point's input blocks.
-/
module

public import proofs.«01_k».proof.Proof.Dn.Head
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Head

open Cert.KernelIdeal Cert.KernelIdeal.Gen
open Idealize.ShloMosaic Idealize.ShloMosaic.TcCoe Idealize.SL.Sem

variable {F : FTy → Type} [FloatOps F]

theorem lane_inb (h : Fin 8) : ∀ a, (![0, 0, 128 * h.val] : Fin 3 → Nat) a + S1x64x128.size a ≤ S1x64x1024.size a := by
  revert h; decide
theorem head_inb (h : Fin 8) : ∀ a, (![h.val, 0, 0] : Fin 3 → Nat) a + S1x128x128.size a ≤ S8x128x128.size a := by
  revert h; decide
theorem col_sl (j : Fin 16) : S64x128.Slices ![0, j.val] S64x1 := by revert j; decide
theorem last_sl (j : Fin 16) : S64x128.Slices ![63, j.val] S1x1 := by revert j; decide
theorem row_sl (j : Fin 16) : S128x64.Slices ![j.val, 0] S1x64 := by revert j; decide

/-- Head `h`'s lanes of a block. -/
def lanes (x : Vec F S1x64x1024 .f32) (h : Fin 8) : FVec F S64x128 .f32 :=
  shapeCast S64x128 (View.ld x (Rect.unit (s := S1x64x1024) ![0, 0, 128 * h.val] ![1, 64, 128] (lane_inb h)))
    shapeCasts_S1x64x128_S64x128
/-- Head `h`'s part of the scratch. -/
def part (x : Vec F S8x128x128 .f32) (h : Fin 8) : FVec F S128x128 .f32 :=
  shapeCast S128x128 (View.ld x (Rect.unit (s := S8x128x128) ![h.val, 0, 0] ![1, 128, 128] (head_inb h)))
    shapeCasts_S1x128x128_S128x128

/-- What head `h` reads of a grid point's blocks and of the scratch `s`. -/
def ins (q k v z : Vec F S1x64x1024 .f32) (gb : Vec F S1x64x128 .f32) (n : Vec F S1x128 .f32) (s : Vec F S8x128x128 .f32)
    (h : Fin 8) : Ins F where
  q := lanes q h
  k := lanes k h
  v := lanes v h
  z := lanes z h
  b := extractStridedSlice S64x1 ![0, h.val] (gates gb) (col_sl ⟨h.val, by omega⟩)
  g := extractStridedSlice S64x1 ![0, 8 + h.val] (cums gb) (col_sl ⟨8 + h.val, by omega⟩)
  l := extractStridedSlice S1x1 ![63, 8 + h.val] (cums gb) (last_sl ⟨8 + h.val, by omega⟩)
  r := extractStridedSlice S1x64 ![8 + h.val, 0] (cumsT gb) (row_sl ⟨8 + h.val, by omega⟩)
  n := shapeCast S1x128 n shapeCasts_S1x128_S1x128
  s := part s h

/-- The output block: at lane `l`, head `l / 128`'s tile. -/
def outBlk (q k v z : Vec F S1x64x1024 .f32) (gb : Vec F S1x64x128 .f32) (n : Vec F S1x128 .f32) (s : Vec F S8x128x128 .f32) :
    Vec F S1x64x1024 .bf16 := fun y =>
  (ins q k v z gb n s ⟨(y 2).val / 128, by have := (y 2).isLt; simp at this; omega⟩).tile
    (ix3 0 ⟨(y 1).val, by have := (y 1).isLt; simpa using this⟩ ⟨(y 2).val % 128, Nat.mod_lt _ (by decide)⟩)
/-- The scratch: at part `h`, head `h`'s state. -/
def scrBlk (q k v z : Vec F S1x64x1024 .f32) (gb : Vec F S1x64x128 .f32) (n : Vec F S1x128 .f32) (s : Vec F S8x128x128 .f32) :
    Vec F S8x128x128 .f32 := fun y =>
  (ins q k v z gb n s ⟨(y 0).val, by have := (y 0).isLt; simpa using this⟩).state
    (ix3 0 ⟨(y 1).val, by have := (y 1).isLt; simpa using this⟩ ⟨(y 2).val, by have := (y 2).isLt; simpa using this⟩)

/-- A buffer's contents at an index that the later stores cover do not depend on the earlier ones. -/
theorem canon_front [∀ e, Nonempty (Elt F e)] {S : Shape} {e : EltTy} (L' : List (View.Piece (Elt F) S e)) :
    ∀ (L : List (View.Piece (Elt F) S e)) (y : S.Idx) (_ : ∃ p ∈ L, y ∈ p.1.set), View.canon (L ++ L') y = View.canon L y
  | [], _, hy => by obtain ⟨p, hp, _⟩ := hy; simp at hp
  | p :: L, y, hy => by
      by_cases h : y ∈ p.1.set
      · obtain ⟨x, rfl⟩ := p.1.exists_idx_of_mem h
        exact (View.canon_cons_emb p.1 p.2 (L ++ L') x).trans (View.canon_cons_emb p.1 p.2 L x).symm
      · rw [List.cons_append, View.canon_cons_of_not_mem _ _ h, View.canon_cons_of_not_mem _ _ h]
        refine canon_front L' L y ?_
        obtain ⟨p', hp', hy'⟩ := hy
        rcases List.mem_cons.mp hp' with rfl | hp'
        · exact absurd hy' h
        · exact ⟨p', hp', hy'⟩

/-- A load of a buffer after one store of all of it reads what was stored. -/
theorem readCov_all [∀ e, Nonempty (Elt F e)] {sig : RefSig} {κ : Kind} {sp : Space} {S : Shape} {e : EltTy} (v : View sig κ sp S e)
    {off : Fin S.rank → Nat} (h : ∀ a, off a = 0) (inb : ∀ a, off a + S.size a ≤ S.size a) (w : S.Idx → Elt F e) (R : Rect S) :
    v.readCov [(⟨Rect.unit off S.size inb, w⟩ : View.Piece (Elt F) S e)] R.toLoadRect = View.ld w R := by
  have h : off = fun _ => 0 := funext h
  rw [View.readCov_eq_canon_ld _ _ _ (fun y => ⟨_, List.mem_singleton_self _, View.mem_set_unit_zero h inb y⟩),
    View.canon_unit_zero h]

/-- The output block at an index in head `o / 128`'s lanes. -/
theorem outBlk_at (q k v z : Vec F S1x64x1024 .f32) (gb : Vec F S1x64x128 .f32) (n : Vec F S1x128 .f32) (s : Vec F S8x128x128 .f32)
    (y : S1x64x1024.Idx) (x : S1x64x128.Idx) (o : Nat) (ho : o / 128 < 8) (h8 : 128 * (o / 128) = o)
    (e1 : (y 1).val = (x 1).val) (e2 : (y 2).val = o + (x 2).val) :
    outBlk q k v z gb n s y = (ins q k v z gb n s ⟨o / 128, ho⟩).tile x := by
  have hx : (x 2).val < 128 := (x 2).isLt
  have x0 : (x 0).val < 1 := (x 0).isLt
  unfold outBlk
  have eh : (⟨(y 2).val / 128, by have := (y 2).isLt; simp at this; omega⟩ : Fin 8) = ⟨o / 128, ho⟩ := Fin.ext (by show (y 2).val / 128 = o / 128; omega)
  rw [eh]
  congr 1
  funext a
  match a with
  | ⟨0, _⟩ => exact Fin.ext (by show 0 = (x 0).val; omega)
  | ⟨1, _⟩ => exact Fin.ext (by show (y 1).val = (x 1).val; omega)
  | ⟨2, _⟩ => exact Fin.ext (by show (y 2).val % 128 = (x 2).val; omega)

/-- The scratch at an index in head `o`'s part. -/
theorem scrBlk_at (q k v z : Vec F S1x64x1024 .f32) (gb : Vec F S1x64x128 .f32) (n : Vec F S1x128 .f32) (s : Vec F S8x128x128 .f32)
    (y : S8x128x128.Idx) (x : S1x128x128.Idx) (o : Nat) (ho : o < 8)
    (e0 : (y 0).val = o + (x 0).val) (e1 : (y 1).val = (x 1).val) (e2 : (y 2).val = (x 2).val) :
    scrBlk q k v z gb n s y = (ins q k v z gb n s ⟨o, ho⟩).state x := by
  have x0 : (x 0).val < 1 := (x 0).isLt
  unfold scrBlk
  have eh : (⟨(y 0).val, by have := (y 0).isLt; simpa using this⟩ : Fin 8) = ⟨o, ho⟩ := Fin.ext (by show (y 0).val = o; omega)
  rw [eh]
  congr 1
  funext a
  match a with
  | ⟨0, _⟩ => exact Fin.ext (by show 0 = (x 0).val; omega)
  | ⟨1, _⟩ => exact Fin.ext (by show (y 1).val = (x 1).val; omega)
  | ⟨2, _⟩ => exact Fin.ext (by show (y 2).val = (x 2).val; omega)

/-- What a later chunk leaves in its output block. -/
theorem out_B (c : Dev nD) (t : Fin cfg0.N) (h0 : ¬ t.val % 256 = 0) (x0 x1 x2 x3 : Vec F S1x64x1024 .f32) (x4 : Vec F S1x64x128 .f32) (x5 : Vec F S1x128 .f32) (xs0 : Vec F S8x128x128 .f32) (y) :
   out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) x0 x1 x2 x3 x4 x5 xs0 y
   = outBlk x0 x1 x2 x3 x4 x5 xs0 y := by
  frame_out
  clear h0
  canon_tiles x e
  all_goals
    first
      | rw [outBlk_at x0 x1 x2 x3 x4 x5 xs0 y x _ (by decide) (by decide) e1 e2]
      | rw [outBlk_at x0 x1 x2 x3 x4 x5 xs0 y x 0 (by decide) (by decide) e1 (e2.trans (Nat.zero_add _).symm)]
    refine congrFun (?_ : _ = _) x
    try rw [read_unread_whole]
    sl_kernel_rfl

/-- What a later chunk leaves in the scratch. -/
theorem sout_B (c : Dev nD) (t : Fin cfg0.N) (h0 : ¬ t.val % 256 = 0) (x0 x1 x2 x3 : Vec F S1x64x1024 .f32) (x4 : Vec F S1x64x128 .f32) (x5 : Vec F S1x128 .f32) (xs0 : Vec F S8x128x128 .f32) (y) :
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) x0 x1 x2 x3 x4 x5 xs0 y
   = scrBlk x0 x1 x2 x3 x4 x5 xs0 y := by
  frame_out
  clear h0
  canon_tiles x e
  all_goals
    first
      | rw [scrBlk_at x0 x1 x2 x3 x4 x5 xs0 y x _ (by decide) e0 e1 e2]
      | rw [scrBlk_at x0 x1 x2 x3 x4 x5 xs0 y x 0 (by decide) (e0.trans (Nat.zero_add _).symm) e1 e2]
    refine congrFun (?_ : _ = _) x
    try rw [read_unread_whole]
    sl_kernel_rfl

/-- What the first chunk of a sequence, whose scratch is zeroed, leaves in its output block. -/
theorem out_A (c : Dev nD) (t : Fin cfg0.N) (h0 : t.val % 256 = 0) (x0 x1 x2 x3 : Vec F S1x64x1024 .f32) (x4 : Vec F S1x64x128 .f32) (x5 : Vec F S1x128 .f32) (y) :
   out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) x0 x1 x2 x3 x4 x5 y
   = outBlk x0 x1 x2 x3 x4 x5 (zeros S8x128x128) y := by
  frame_out
  clear h0
  canon_tiles x e
  all_goals
    first
      | rw [outBlk_at x0 x1 x2 x3 x4 x5 (zeros S8x128x128) y x _ (by decide) (by decide) e1 e2]
      | rw [outBlk_at x0 x1 x2 x3 x4 x5 (zeros S8x128x128) y x 0 (by decide) (by decide) e1 (e2.trans (Nat.zero_add _).symm)]
    refine congrFun (?_ : _ = _) x
    try rw [readCov_all _ (by decide)]
    sl_kernel_rfl

/-- What the first chunk of a sequence leaves in the scratch. -/
theorem sout_A (c : Dev nD) (t : Fin cfg0.N) (h0 : t.val % 256 = 0) (x0 x1 x2 x3 : Vec F S1x64x1024 .f32) (x4 : Vec F S1x64x128 .f32) (x5 : Vec F S1x128 .f32) (y) :
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) x0 x1 x2 x3 x4 x5 y
   = scrBlk x0 x1 x2 x3 x4 x5 (zeros S8x128x128) y := by
  frame_out
  clear h0
  show View.canon ([_, _, _, _, _, _, _, _] ++ [_]) y = _
  refine (canon_front _ _ y ?_).trans ?_
  · exact View.cover_of_tiledL (s := S8x128x128) _ S1x128x128.size (by sl_kernel_rfl) y
  canon_tiles x e
  all_goals
    first
      | rw [scrBlk_at x0 x1 x2 x3 x4 x5 (zeros S8x128x128) y x _ (by decide) e0 e1 e2]
      | rw [scrBlk_at x0 x1 x2 x3 x4 x5 (zeros S8x128x128) y x 0 (by decide) (e0.trans (Nat.zero_add _).symm) e1 e2]
    refine congrFun (?_ : _ = _) x
    try rw [readCov_all _ (by decide)]
    sl_kernel_rfl

end Cert.KernelIdeal.Head

end
-- ==== Proof.Dn.Rule.lean ====
/-
  The gated delta rule over the reals, for one head: the recurrence token by token (`tokState`, `tokDelta`), the closed
  form of a chunk of tokens (`chunk_state`), and the block form a chunked program computes: a unit lower triangular
  system solved by the doubling product for the inverse (`doubling_solves`). No program is named here.
-/
module

public import Mathlib.Analysis.SpecialFunctions.Exp
public import Mathlib.LinearAlgebra.Matrix.Defs
public import Mathlib.Data.Matrix.Mul
public import Mathlib.Algebra.Ring.GeomSum
public import Mathlib.Tactic.Ring
public import Mathlib.Tactic.NormNum
public import Mathlib.Tactic.Linarith

@[expose] public section

noncomputable section

namespace DeltaRule

open Finset

/-! ## The recurrence -/

variable {A C : Type} [Fintype A]

/-- What token `(k, v, β, g)` writes over the decayed state: `β (v - (e^g S)ᵀ k)`. -/
def tokDelta (S : A → C → ℝ) (k : A → ℝ) (v : C → ℝ) (β g : ℝ) (c : C) : ℝ :=
  (v c - ∑ a, S a c * Real.exp g * k a) * β

/-- The state after one token. -/
def tokStep (S : A → C → ℝ) (k : A → ℝ) (v : C → ℝ) (β g : ℝ) (a : A) (c : C) : ℝ :=
  S a c * Real.exp g + k a * tokDelta S k v β g c

/-- The state after `t` tokens, from `S`. -/
def tokState (S : A → C → ℝ) (k : ℕ → A → ℝ) (v : ℕ → C → ℝ) (β g : ℕ → ℝ) : ℕ → A → C → ℝ
  | 0 => S
  | t + 1 => tokStep (tokState S k v β g t) (k t) (v t) (β t) (g t)

/-- The state after `s + t` tokens is the state after `t` more tokens, from the state after `s`. -/
theorem tokState_add (S : A → C → ℝ) (k : ℕ → A → ℝ) (v : ℕ → C → ℝ) (β g : ℕ → ℝ) (s t : ℕ) :
    tokState S k v β g (s + t)
      = tokState (tokState S k v β g s) (fun i => k (s + i)) (fun i => v (s + i)) (fun i => β (s + i))
          (fun i => g (s + i)) t := by
  induction t with
  | zero => rfl
  | succ t ih => rw [← add_assoc]; simp only [tokState, ih]

/-- The log-decay of the first `i` tokens. -/
def cum (g : ℕ → ℝ) (i : ℕ) : ℝ := ∑ j ∈ range i, g j

/-- A chunk's closed form: with `w` solving the chunk's triangular system, `w` is what each token writes, and the
    state after `i` tokens is the decayed start plus the decayed writes. -/
theorem chunk_state (S : A → C → ℝ) (k : ℕ → A → ℝ) (v : ℕ → C → ℝ) (β g : ℕ → ℝ) (n : ℕ) (w : ℕ → C → ℝ)
    (hw : ∀ i < n, ∀ c, w i c = β i * (v i c - Real.exp (cum g (i + 1)) * ∑ a, S a c * k i a
      - ∑ j ∈ range i, Real.exp (cum g (i + 1) - cum g (j + 1)) * (∑ a, k i a * k j a) * w j c)) :
    ∀ i ≤ n, ∀ a c, tokState S k v β g i a c
      = S a c * Real.exp (cum g i) + ∑ j ∈ range i, Real.exp (cum g i - cum g (j + 1)) * k j a * w j c := by
  intro i
  induction i with
  | zero => intro _ a c; simp [tokState, cum]
  | succ i ih =>
    intro hi a c
    have hdec : ∀ a c, tokState S k v β g i a c * Real.exp (g i)
        = S a c * Real.exp (cum g (i + 1))
          + ∑ j ∈ range i, Real.exp (cum g (i + 1) - cum g (j + 1)) * k j a * w j c := by
      intro a c
      have h1 : cum g (i + 1) = cum g i + g i := sum_range_succ _ _
      rw [ih (by omega) a c, add_mul, sum_mul, h1, Real.exp_add]
      congr 1
      · ring
      · refine sum_congr rfl fun j _ => ?_
        rw [show cum g i + g i - cum g (j + 1) = (cum g i - cum g (j + 1)) + g i by ring, Real.exp_add]; ring
    have hδ : tokDelta (tokState S k v β g i) (k i) (v i) (β i) (g i) c = w i c := by
      rw [hw i (by omega) c, tokDelta]
      have : (∑ a, tokState S k v β g i a c * Real.exp (g i) * k i a)
          = Real.exp (cum g (i + 1)) * ∑ a, S a c * k i a
            + ∑ j ∈ range i, Real.exp (cum g (i + 1) - cum g (j + 1)) * (∑ a, k i a * k j a) * w j c := by
        simp only [hdec, add_mul, sum_add_distrib, sum_mul, mul_sum]
        congr 1
        · exact sum_congr rfl fun a _ => by ring
        · rw [sum_comm]
          exact sum_congr rfl fun j _ => sum_congr rfl fun a _ => by ring
      rw [this]; ring
    rw [tokState, tokStep, hδ, hdec, sum_range_succ]
    simp; ring

/-! ## The doubling product -/

/-- The partial products `(1 + X)(1 + X²)(1 + X⁴)…` as the program forms them. -/
def dbl {n : ℕ} (X : Matrix (Fin n) (Fin n) ℝ) : ℕ → Matrix (Fin n) (Fin n) ℝ × Matrix (Fin n) (Fin n) ℝ
  | 0 => (X, 1 + X)
  | l + 1 => ((dbl X l).1 * (dbl X l).1, (dbl X l).2 + (dbl X l).2 * ((dbl X l).1 * (dbl X l).1))

theorem dbl_eq {n : ℕ} (X : Matrix (Fin n) (Fin n) ℝ) (l : ℕ) :
    dbl X l = (X ^ 2 ^ l, ∑ i ∈ range (2 ^ (l + 1)), X ^ i) := by
  induction l with
  | zero => simp [dbl, sum_range_succ]
  | succ l ih =>
    have h2 : X ^ 2 ^ l * X ^ 2 ^ l = X ^ 2 ^ (l + 1) := by rw [← pow_add]; congr 1; omega
    simp only [dbl, ih, h2, Prod.mk.injEq, true_and]
    rw [show 2 ^ (l + 1 + 1) = 2 ^ (l + 1) + 2 ^ (l + 1) by omega, sum_range_add, sum_mul]
    congr 1
    exact sum_congr rfl fun i _ => by rw [← pow_add, add_comm]

/-- A strictly lower triangular matrix has `X ^ l` zero but `l` and more below the diagonal. -/
theorem pow_strict {n : ℕ} (X : Matrix (Fin n) (Fin n) ℝ) (h : ∀ i j, i ≤ j → X i j = 0) (l : ℕ) :
    ∀ i j : Fin n, i.val < j.val + l → (X ^ l) i j = 0 := by
  induction l with
  | zero => intro i j hij; simp only [pow_zero]; exact Matrix.one_apply_ne (by rintro rfl; omega)
  | succ l ih =>
    intro i j hij
    rw [pow_succ, Matrix.mul_apply]
    refine sum_eq_zero fun x _ => ?_
    by_cases hx : x ≤ j
    · rw [h x j hx, mul_zero]
    · rw [ih i x (by have : j.val < x.val := not_le.mp hx; omega), zero_mul]

/-- Five doublings solve the unit lower triangular system of size 64. -/
theorem doubling_solves (X : Matrix (Fin 64) (Fin 64) ℝ) (h : ∀ i j, i ≤ j → X i j = 0) :
    (1 - X) * (dbl X 5).2 = 1 := by
  rw [dbl_eq, mul_neg_geom_sum]
  have : X ^ 2 ^ (5 + 1) = 0 := by
    ext i j; exact pow_strict X h _ i j (by have := i.isLt; norm_num; omega)
  rw [this, sub_zero]

end DeltaRule

end
-- ==== Proof.Dn.Real.lean ====
/-
  What the head's stages compute on the extended reals when what they read is finite: each stage as a function of real
  matrices.
-/
module

public import proofs.«01_k».proof.Proof.Dn.Head
public import proofs.«01_k».proof.Proof.Dn.Rule
public import Idealize.ShloMosaic.Lib.Pointwise

@[expose] public section

set_option maxRecDepth 16384

noncomputable section

namespace Cert.KernelIdeal.Head

open Cert.KernelIdeal Cert.KernelIdeal.Gen
open Idealize.ShloMosaic Idealize.ShloMosaic.TcCoe Idealize.SL.Sem
open DeltaRule

/-- The tensor `t` holds the real matrix `f`. -/
def Re {m n : Nat} {e : FTy} (t : FVec Ideal ⟨2, ![m, n]⟩ e) (f : Fin m → Fin n → ℝ) : Prop :=
  ∀ (i : Fin m) (j : Fin n), t (ix2 i j) = ((f i j : ℝ) : EReal)

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The mask of the lower triangle at a place. -/
theorem incl_at (i j : Fin 64) : IntOp.cmpi CmpIPredicate.sge (BitVec.ofNat 32 i.val) (BitVec.ofNat 32 j.val) = if j ≤ i then 1#1 else 0#1 := by
  revert i j; decide +kernel
/-- The mask of the strict lower triangle at a place. -/
theorem strict_at (i j : Fin 64) : IntOp.cmpi CmpIPredicate.sgt (BitVec.ofNat 32 i.val) (BitVec.ofNat 32 j.val) = if j < i then 1#1 else 0#1 := by
  revert i j; decide +kernel
/-- The mask of the diagonal at a place. -/
theorem eye_at (i j : Fin 64) : IntOp.cmpi CmpIPredicate.eq (BitVec.ofNat 32 i.val) (BitVec.ofNat 32 j.val) = if i = j then 1#1 else 0#1 := by
  revert i j; decide +kernel
/-- A mask bit as a number. -/
theorem bit_num (p : Prop) [Decidable p] :
    (FloatOps.sitofp (F := Ideal) FTy.f32 (BitVec.setWidth 32 (if p then 1#1 else 0#1)) : EReal) = ((if p then 1 else 0 : ℝ) : EReal) := by
  split_ifs <;> simp [FloatOps.sitofp]
theorem select_at {α : Type} (p : Prop) [Decidable p] (a b : α) : Scalar.select (if p then 1#1 else 0#1) a b = if p then a else b := by
  split_ifs <;> rfl

theorem mm_re {a b : FVec Ideal S64x64 .bf16} {A B : Matrix (Fin 64) (Fin 64) ℝ} (ha : Re a A) (hb : Re b B) :
    Re (mm a b) (A * B) := by
  intro i j
  pointwise [mm]
  simp only [ha _ _, hb _ _, Matrix.mul_apply, coe_sum, EReal.coe_mul, zero_add]

theorem mmW_re {a : FVec Ideal S64x64 .bf16} {b : FVec Ideal S64x256 .bf16} {A : Matrix (Fin 64) (Fin 64) ℝ}
    {B : Matrix (Fin 64) (Fin 256) ℝ} (ha : Re a A) (hb : Re b B) : Re (mmW a b) (A * B) := by
  intro i j
  pointwise [mmW]
  simp only [ha _ _, hb _ _, Matrix.mul_apply, coe_sum, EReal.coe_mul, zero_add]

theorem rest_re {a : FVec Ideal S64x64 .f32} {A : Matrix (Fin 64) (Fin 64) ℝ} (ha : Re a A) : Re (rest a) (0 : Matrix (Fin 64) (Fin 64) ℝ) := by
  intro i j
  pointwise [rest, hi]
  simp only [ha _ _, ← EReal.coe_sub, sub_self, Matrix.zero_apply]

theorem restW_re {a : FVec Ideal S64x256 .f32} {A : Matrix (Fin 64) (Fin 256) ℝ} (ha : Re a A) : Re (restW a) (0 : Matrix (Fin 64) (Fin 256) ℝ) := by
  intro i j
  pointwise [restW, hiW]
  simp only [ha _ _, ← EReal.coe_sub, sub_self, Matrix.zero_apply]

theorem hi_re {a : FVec Ideal S64x64 .f32} {A : Fin 64 → Fin 64 → ℝ} (ha : Re a A) : Re (hi a) A := by
  intro i j; pointwise [hi]; exact ha i j
theorem hiW_re {a : FVec Ideal S64x256 .f32} {A : Fin 64 → Fin 256 → ℝ} (ha : Re a A) : Re (hiW a) A := by
  intro i j; pointwise [hiW]; exact ha i j

theorem add_re {m n : Nat} {a b : FVec Ideal ⟨2, ![m, n]⟩ .f32} {A B : Matrix (Fin m) (Fin n) ℝ} (ha : Re a A) (hb : Re b B) :
    Re (addf a b) (A + B) := by
  intro i j
  pointwise []
  simp only [ha _ _, hb _ _, Matrix.add_apply, EReal.coe_add]

/-- The split product is the product: the low parts are zero. -/
theorem split_re {a b : FVec Ideal S64x64 .f32} {A B : Matrix (Fin 64) (Fin 64) ℝ} (ha : Re a A) (hb : Re b B) :
    Re (split a b) (A * B) := by
  have h := add_re (mm_re (hi_re ha) (hi_re hb)) (add_re (mm_re (hi_re ha) (rest_re hb)) (mm_re (rest_re ha) (hi_re hb)))
  rwa [Matrix.mul_zero, Matrix.zero_mul, add_zero, add_zero] at h

theorem splitW_re {a : FVec Ideal S64x64 .f32} {b : FVec Ideal S64x256 .f32} {A : Matrix (Fin 64) (Fin 64) ℝ}
    {B : Matrix (Fin 64) (Fin 256) ℝ} (ha : Re a A) (hb : Re b B) : Re (splitW a b) (A * B) := by
  have h := add_re (mmW_re (hi_re ha) (hiW_re hb)) (add_re (mmW_re (hi_re ha) (restW_re hb)) (mmW_re (rest_re ha) (hiW_re hb)))
  rwa [Matrix.mul_zero, Matrix.zero_mul, add_zero, add_zero] at h

theorem eye_re : Re (eye (F := Ideal)) (1 : Matrix (Fin 64) (Fin 64) ℝ) := by
  intro i j
  pointwise [eye]
  rw [eye_at, bit_num, Matrix.one_apply]

theorem double_re {x : FVec Ideal S64x64 .f32 × FVec Ideal S64x64 .f32} {X : Matrix (Fin 64) (Fin 64) ℝ} {l : Nat}
    (h1 : Re x.1 (dbl X l).1) (h2 : Re x.2 (dbl X l).2) :
    Re (double x).1 (dbl X (l + 1)).1 ∧ Re (double x).2 (dbl X (l + 1)).2 :=
  ⟨split_re h1 h1, add_re h2 (split_re h2 (split_re h1 h1))⟩

/-- Five doublings. -/
theorem inv_re {x : FVec Ideal S64x64 .f32} {X : Matrix (Fin 64) (Fin 64) ℝ} (hx : Re x X) : Re (inv x) (dbl X 5).2 := by
  have h0 : Re (x, addf eye x).1 (dbl X 0).1 ∧ Re (x, addf eye x).2 (dbl X 0).2 := ⟨hx, add_re eye_re hx⟩
  have h1 := double_re h0.1 h0.2
  have h2 := double_re h1.1 h1.2
  have h3 := double_re h2.1 h2.2
  have h4 := double_re h3.1 h3.2
  exact (double_re h4.1 h4.2).2

theorem decay_re {gc : FVec Ideal S64x1 .f32} {gr : FVec Ideal S1x64 .f32} {G : Fin 64 → ℝ}
    (hc : Re gc fun i _ => G i) (hr : Re gr fun _ j => G j) :
    Re (decay gc gr) fun i j => if j ≤ i then Real.exp (G i - G j) else 0 := by
  intro i j
  pointwise [decay, incl, zeros]
  simp only [hc _ _, hr _ _, incl_at, select_at]
  split_ifs
  · rw [← EReal.coe_sub, Ideal.exp_coe]
  · rfl

theorem kb_re {k : FVec Ideal S64x128 .f32} {b : FVec Ideal S64x1 .f32} {K : Fin 64 → Fin 128 → ℝ} {B : Fin 64 → ℝ}
    (hk : Re k K) (hb : Re b fun i _ => B i) : Re (kb k b) fun i a => K i a * B i := by
  intro i j
  pointwise [kb]
  simp only [hk _ _, hb _ _, EReal.coe_mul]

theorem rows_re {a b : FVec Ideal S64x128 .f32} {A B : Fin 64 → Fin 128 → ℝ} (ha : Re a A) (hb : Re b B) :
    Re (rows a b) fun i j => ∑ c, A i c * B j c := by
  intro i j
  pointwise [rows, lo]
  simp only [ha _ _, hb _ _, coe_sum, EReal.coe_mul, zero_add]

theorem neg_re {k : FVec Ideal S64x128 .f32} {b : FVec Ideal S64x1 .f32} {d : FVec Ideal S64x64 .f32} {K : Fin 64 → Fin 128 → ℝ} {B : Fin 64 → ℝ}
    {D : Fin 64 → Fin 64 → ℝ} (hk : Re k K) (hb : Re b fun i _ => B i) (hd : Re d D) :
    Re (neg k b d) fun i j => if j < i then - ((∑ c, K i c * B i * K j c) * D i j) else 0 := by
  intro i j
  have h := rows_re (kb_re hk hb) hk i j
  pointwise [neg, strict, zeros]
  simp only [hd _ _, h, strict_at, select_at]
  split_ifs
  · rw [← EReal.coe_mul, zero_sub, ← EReal.coe_neg]
  · simp

theorem rhs_re {k v : FVec Ideal S64x128 .f32} {b g : FVec Ideal S64x1 .f32} {K V : Fin 64 → Fin 128 → ℝ} {B G : Fin 64 → ℝ}
    (hk : Re k K) (hv : Re v V) (hb : Re b fun i _ => B i) (hg : Re g fun i _ => G i) :
    Re (rhs k v b g) fun i j => if h : j.val < 128 then V i ⟨j.val, h⟩ * B i
      else K i ⟨j.val - 128, by omega⟩ * B i * Real.exp (G i) := by
  intro i j
  pointwise [rhs, kb]
  by_cases h : j.val < 128
  · simp only [dif_pos h, hv _ _, hb _ _, EReal.coe_mul]
  · simp only [dif_neg h, hk _ _, hb _ _, hg _ _, EReal.coe_mul, Ideal.exp_coe]

theorem through_re {a : FVec Ideal S64x128 .f32} {s : FVec Ideal S128x128 .f32} {A : Fin 64 → Fin 128 → ℝ} {S : Fin 128 → Fin 128 → ℝ}
    (ha : Re a A) (hs : Re s S) : Re (through a s) fun i c => ∑ d, A i d * S d c := by
  intro i j
  pointwise [through, lo, loS]
  simp only [ha _ _, hs _ _, coe_sum, EReal.coe_mul, zero_add]

theorem writes_re {x : FVec Ideal S64x256 .f32} {s : FVec Ideal S128x128 .f32} {X : Fin 64 → Fin 256 → ℝ} {S : Fin 128 → Fin 128 → ℝ}
    (hx : Re x X) (hs : Re s S) :
    Re (writes x s) fun i c => X i ⟨c.val, by omega⟩ - ∑ d : Fin 128, X i ⟨128 + d.val, by omega⟩ * S d c := by
  intro i j
  have h : Re (extractStridedSlice S64x128 ![0, 128] x slices_S64x256_o0_128_S64x128) fun i d => X i ⟨128 + d.val, by omega⟩ := by
    intro i j
    pointwise []
    exact hx _ _
  have h := through_re h hs i j
  pointwise [writes]
  simp only [hx _ _, h, EReal.coe_sub]

theorem reads_re {q k : FVec Ideal S64x128 .f32} {g : FVec Ideal S64x1 .f32} {d : FVec Ideal S64x64 .f32} {s : FVec Ideal S128x128 .f32}
    {w : FVec Ideal S64x128 .f32} {Q K W : Fin 64 → Fin 128 → ℝ} {G : Fin 64 → ℝ} {D : Fin 64 → Fin 64 → ℝ} {S : Fin 128 → Fin 128 → ℝ}
    (hq : Re q Q) (hk : Re k K) (hg : Re g fun i _ => G i) (hd : Re d D) (hs : Re s S) (hw : Re w W) :
    Re (reads q k g d s w) fun i c => (∑ a, Q i a * Real.exp (G i) * S a c) + ∑ j, (∑ a, Q i a * K j a) * D i j * W j c := by
  intro i c
  have h1 : Re (mulf q (broadcastTo S64x128 (exp g) broadcasts_S64x1_S64x128)) fun i a => Q i a * Real.exp (G i) := by
    intro i j
    pointwise []
    simp only [hq _ _, hg _ _, EReal.coe_mul, Ideal.exp_coe]
  have h1 := through_re h1 hs i c
  have h2 := rows_re hq hk
  pointwise [reads, hi, lo]
  simp only [h1, h2 _ _, hd _ _, hw _ _, EReal.coe_add, EReal.coe_mul, coe_sum, zero_add]

theorem next_re {k : FVec Ideal S64x128 .f32} {g : FVec Ideal S64x1 .f32} {l : FVec Ideal S1x1 .f32} {s : FVec Ideal S128x128 .f32}
    {w : FVec Ideal S64x128 .f32} {K W : Fin 64 → Fin 128 → ℝ} {G : Fin 64 → ℝ} {L : ℝ} {S : Fin 128 → Fin 128 → ℝ}
    (hk : Re k K) (hg : Re g fun i _ => G i) (hl : Re l fun _ _ => L) (hs : Re s S) (hw : Re w W) :
    Re (next k g l s w) fun a c => S a c * Real.exp L + ∑ j, K j a * Real.exp (L - G j) * W j c := by
  intro a c
  pointwise [next, lo]
  simp only [hk _ _, hg _ _, hl _ _, hs _ _, hw _ _, EReal.coe_add, EReal.coe_mul, coe_sum, zero_add, Ideal.exp_coe, ← EReal.coe_sub]

/-- The running sums. -/
theorem cums_re {x : FVec Ideal S1x64x128 .f32} (j : Fin 128) {g : Fin 64 → ℝ} (h : ∀ i : Fin 64, x (ix3 0 i j) = ((g i : ℝ) : EReal)) (i : Fin 64) :
    (cums (F := Ideal) x (ix2 i j) : EReal) = ((∑ t : Fin 64, if t ≤ i then g t else 0 : ℝ) : EReal) := by
  pointwise [cums, gates, incl]
  simp only [h, incl_at, bit_num, coe_sum, zero_add, ← EReal.coe_mul]
  refine Finset.sum_congr rfl fun t _ => congrArg _ ?_
  split_ifs <;> simp

end Cert.KernelIdeal.Head

end
-- ==== Proof.Dn.Chunk.lean ====
/-
  One head of one chunk on finite inputs: the state it leaves is the token recurrence's state after the chunk's 64 tokens,
  and what it reads out at token `i` is the state after that token applied to the token's query.
-/
module

public import proofs.«01_k».proof.Proof.Dn.Real

@[expose] public section

set_option maxRecDepth 16384

noncomputable section

namespace Cert.KernelIdeal.Head

open Cert.KernelIdeal Cert.KernelIdeal.Gen
open Idealize.ShloMosaic Idealize.ShloMosaic.TcCoe Idealize.SL.Sem
open DeltaRule

/-- The decay matrix of a chunk, from the log gates. -/
def decayR (g : ℕ → ℝ) (i j : Fin 64) : ℝ := if j ≤ i then Real.exp (cum g (i.val + 1) - cum g (j.val + 1)) else 0
/-- Minus the chunk's system. -/
def negR (k : ℕ → Fin 128 → ℝ) (b g : ℕ → ℝ) : Matrix (Fin 64) (Fin 64) ℝ := fun i j =>
  if j < i then - ((∑ c, k i.val c * b i.val * k j.val c) * decayR g i j) else 0
/-- The right sides. -/
def rhsR (k v : ℕ → Fin 128 → ℝ) (b g : ℕ → ℝ) : Matrix (Fin 64) (Fin 256) ℝ := fun i j =>
  if h : j.val < 128 then v i.val ⟨j.val, h⟩ * b i.val else k i.val ⟨j.val - 128, by omega⟩ * b i.val * Real.exp (cum g (i.val + 1))
/-- The solution. -/
def solR (k v : ℕ → Fin 128 → ℝ) (b g : ℕ → ℝ) : Matrix (Fin 64) (Fin 256) ℝ := (dbl (negR k b g) 5).2 * rhsR k v b g
/-- What each token writes. -/
def wR (S : Fin 128 → Fin 128 → ℝ) (k v : ℕ → Fin 128 → ℝ) (b g : ℕ → ℝ) (i : Fin 64) (c : Fin 128) : ℝ :=
  solR k v b g i ⟨c.val, by omega⟩ - ∑ d : Fin 128, solR k v b g i ⟨128 + d.val, by omega⟩ * S d c
/-- The same, numbered by the naturals. -/
def wN (S : Fin 128 → Fin 128 → ℝ) (k v : ℕ → Fin 128 → ℝ) (b g : ℕ → ℝ) (i : ℕ) (c : Fin 128) : ℝ :=
  if h : i < 64 then wR S k v b g ⟨i, h⟩ c else 0

theorem wN_fin (S : Fin 128 → Fin 128 → ℝ) (k v : ℕ → Fin 128 → ℝ) (b g : ℕ → ℝ) (i : Fin 64) (c : Fin 128) :
    wN S k v b g i.val c = wR S k v b g i c := dif_pos i.isLt

theorem solR_solves (k v : ℕ → Fin 128 → ℝ) (b g : ℕ → ℝ) (i : Fin 64) (j : Fin 256) :
    solR k v b g i j = rhsR k v b g i j + ∑ m, negR k b g i m * solR k v b g m j := by
  have h : (1 - negR k b g) * solR k v b g = rhsR k v b g := by
    rw [solR, ← Matrix.mul_assoc, doubling_solves (negR k b g) (fun i j hij => if_neg (not_lt.2 hij)), Matrix.one_mul]
  rw [← h, Matrix.sub_mul, Matrix.one_mul, Matrix.sub_apply, Matrix.mul_apply]
  ring

/-- A sum over the tokens before `i` as a sum over the chunk. -/
theorem sum_before (f : ℕ → ℝ) (i : Fin 64) : ∑ j ∈ Finset.range i.val, f j = ∑ j : Fin 64, if j < i then f j.val else 0 := by
  have h := Fin.sum_univ_eq_sum_range (fun j => if j < i.val then f j else 0) 64
  have h2 : (∑ j : Fin 64, if j < i then f j.val else 0) = ∑ j : Fin 64, (fun j : ℕ => if j < i.val then f j else 0) j.val := rfl
  rw [h2, h, ← Finset.sum_filter]
  refine Finset.sum_congr ?_ fun _ _ => rfl
  ext j
  have := i.isLt
  simp only [Finset.mem_range, Finset.mem_filter]
  omega

theorem sum_upto (f : ℕ → ℝ) (i : Fin 64) : ∑ j ∈ Finset.range (i.val + 1), f j = ∑ j : Fin 64, if j ≤ i then f j.val else 0 := by
  have h := Fin.sum_univ_eq_sum_range (fun j => if j ≤ i.val then f j else 0) 64
  have h2 : (∑ j : Fin 64, if j ≤ i then f j.val else 0) = ∑ j : Fin 64, (fun j : ℕ => if j ≤ i.val then f j else 0) j.val := rfl
  rw [h2, h, ← Finset.sum_filter]
  refine Finset.sum_congr ?_ fun _ _ => rfl
  ext j
  have := i.isLt
  simp only [Finset.mem_range, Finset.mem_filter]
  omega

/-- What the tokens write solves the recurrence's own system. -/
theorem wN_solves (S : Fin 128 → Fin 128 → ℝ) (k v : ℕ → Fin 128 → ℝ) (b g : ℕ → ℝ) :
    ∀ i < 64, ∀ c, wN S k v b g i c = b i * (v i c - Real.exp (cum g (i + 1)) * ∑ a, S a c * k i a
      - ∑ j ∈ Finset.range i, Real.exp (cum g (i + 1) - cum g (j + 1)) * (∑ a, k i a * k j a) * wN S k v b g j c) := by
  intro i hi c
  lift i to Fin 64 using hi
  rw [wN_fin, sum_before]
  have e : wR S k v b g i c = rhsR k v b g i ⟨c.val, by omega⟩ - (∑ d : Fin 128, rhsR k v b g i ⟨128 + d.val, by omega⟩ * S d c)
      + ∑ m, negR k b g i m * wR S k v b g m c := by
    unfold wR
    rw [solR_solves k v b g i ⟨c.val, by omega⟩]
    have h : ∀ d : Fin 128, solR k v b g i ⟨128 + d.val, by omega⟩ * S d c = rhsR k v b g i ⟨128 + d.val, by omega⟩ * S d c
        + ∑ m, negR k b g i m * (solR k v b g m ⟨128 + d.val, by omega⟩ * S d c) := by
      intro d
      rw [solR_solves k v b g i ⟨128 + d.val, by omega⟩, add_mul, Finset.sum_mul]
      simp only [mul_assoc]
    rw [Finset.sum_congr rfl fun d _ => h d, Finset.sum_add_distrib, Finset.sum_comm]
    simp only [mul_sub, Finset.sum_sub_distrib, Finset.mul_sum]
    ring
  have r1 : rhsR k v b g i ⟨c.val, by omega⟩ = v i.val c * b i.val := dif_pos c.isLt
  have r2 : ∀ d : Fin 128, rhsR k v b g i ⟨128 + d.val, by omega⟩ = k i.val d * b i.val * Real.exp (cum g (i.val + 1)) := by
    intro d
    unfold rhsR
    rw [dif_neg (by simp)]
    simp
  have r3 : ∀ m, negR k b g i m * wR S k v b g m c = - (b i.val * if m < i then Real.exp (cum g (i.val + 1) - cum g (m.val + 1))
      * (∑ a, k i.val a * k m.val a) * wN S k v b g m.val c else 0) := by
    intro m
    unfold negR decayR
    split_ifs with h h2
    · rw [wN_fin]
      have : ∑ c, k i.val c * b i.val * k m.val c = b i.val * ∑ a, k i.val a * k m.val a := by
        rw [Finset.mul_sum]; exact Finset.sum_congr rfl fun _ _ => by ring
      rw [this]; ring
    · exact absurd (le_of_lt h) h2
    · simp
  have r4 : ∑ d : Fin 128, k i.val d * b i.val * Real.exp (cum g (i.val + 1)) * S d c
      = b i.val * (Real.exp (cum g (i.val + 1)) * ∑ a, S a c * k i.val a) := by
    rw [Finset.mul_sum, Finset.mul_sum]; exact Finset.sum_congr rfl fun _ _ => by ring
  rw [e, r1, Finset.sum_congr rfl fun d _ => congrArg (· * S d c) (r2 d), r4, Finset.sum_congr rfl fun m _ => r3 m,
    Finset.sum_neg_distrib, ← Finset.mul_sum]
  ring

/-- What a head reads is finite, and these are the values: keys, values, strengths and log gates as sequences from the
    chunk's first token on, and the state the chunk starts from. -/
structure Holds (x : Ins Ideal) (k v : ℕ → Fin 128 → ℝ) (b g : ℕ → ℝ) (S : Fin 128 → Fin 128 → ℝ) : Prop where
  hk : Re x.k fun i => k i.val
  hv : Re x.v fun i => v i.val
  hb : Re x.b fun i _ => b i.val
  hg : Re x.g fun i _ => cum g (i.val + 1)
  hr : Re x.r fun _ j => cum g (j.val + 1)
  hl : Re x.l fun _ _ => cum g 64
  hs : Re x.s S

theorem Holds.dec {x : Ins Ideal} {k v b g S} (h : Holds x k v b g S) : Re (decay x.g x.r) (decayR g) := decay_re h.hg h.hr

theorem Holds.w {x : Ins Ideal} {k v b g S} (h : Holds x k v b g S) : Re x.w (wR S k v b g) :=
  writes_re (splitW_re (inv_re (neg_re h.hk h.hb h.dec)) (rhs_re h.hk h.hv h.hb h.hg)) h.hs

/-- The state the head leaves. -/
theorem Holds.state {x : Ins Ideal} {k v b g S} (h : Holds x k v b g S) (a c : Fin 128) :
    (x.state (ix3 0 a c) : EReal) = ((tokState S k v b g 64 a c : ℝ) : EReal) := by
  have e := next_re h.hk h.hg h.hl h.hs h.w a c
  rw [chunk_state S k v b g 64 (wN S k v b g) (wN_solves S k v b g) 64 le_rfl a c]
  unfold Ins.state
  pointwise []
  refine e.trans (congrArg (fun r : ℝ => (r : EReal)) ?_)
  beta_reduce
  refine congrArg (S a c * Real.exp (cum g 64) + ·) ?_
  rw [← Fin.sum_univ_eq_sum_range (fun j => Real.exp (cum g 64 - cum g (j + 1)) * k j a * wN S k v b g j c) 64]
  refine Finset.sum_congr rfl fun j _ => ?_
  rw [wN_fin]; ring

/-- What the head reads out. -/
theorem Holds.reads {x : Ins Ideal} {k v b g S} (h : Holds x k v b g S) {q : ℕ → Fin 128 → ℝ} (hq : Re x.q fun i => q i.val) :
    Re (reads x.q x.k x.g (decay x.g x.r) x.s x.w) fun i c => ∑ a, tokState S k v b g (i.val + 1) a c * q i.val a := by
  intro i c
  rw [reads_re hq h.hk h.hg h.dec h.hs h.w i c]
  refine congrArg (fun r : ℝ => (r : EReal)) ?_
  beta_reduce
  rw [Finset.sum_congr rfl fun a _ => congrArg (· * q i.val a)
    (chunk_state S k v b g 64 (wN S k v b g) (wN_solves S k v b g) (i.val + 1) i.isLt a c)]
  simp only [add_mul, Finset.sum_add_distrib]
  congr 1
  · exact Finset.sum_congr rfl fun _ _ => by ring
  · simp only [Finset.sum_mul]
    refine Eq.trans ?_ Finset.sum_comm
    rw [sum_upto]
    refine Finset.sum_congr rfl fun j _ => ?_
    unfold decayR
    split_ifs
    · rw [wN_fin]; exact Finset.sum_congr rfl fun _ _ => by ring
    · simp

end Cert.KernelIdeal.Head

end
-- ==== Proof.Dn.Spec.lean ====
/-
  What the layer's recurrence computes, head by head, as real numbers: the state after `t` tokens of a sequence and what
  token `t`'s query reads out of it. The arrays are given as functions of batch, token and lane.
-/
module

public import proofs.«01_k».proof.Proof.Dn.Rule
public import Idealize.ShloMosaic.Lib.Pipeline.ValueKit

@[expose] public section

noncomputable section

namespace DeltaRule

/-- Head `h`'s lanes of token `t`, for a 1024-lane array. -/
def tok (A : Fin 2 → Fin 16384 → Fin 1024 → EReal) (p : Fin 2) (h : Fin 8) (t : ℕ) (a : Fin 128) : ℝ :=
  (A p ⟨t % 16384, Nat.mod_lt _ (by decide)⟩ ⟨128 * h.val + a.val, by omega⟩).toReal
/-- Lane `l` of token `t`, for the array of gates. -/
def gate (G : Fin 2 → Fin 16384 → Fin 128 → EReal) (p : Fin 2) (l : Fin 16) (t : ℕ) : ℝ :=
  (G p ⟨t % 16384, Nat.mod_lt _ (by decide)⟩ ⟨l.val, by omega⟩).toReal
/-- Head `h`'s state after `t` tokens: strengths in lane `h` of the gates, log decays in lane `8 + h`. -/
def stateAt (K V : Fin 2 → Fin 16384 → Fin 1024 → EReal) (G : Fin 2 → Fin 16384 → Fin 128 → EReal) (p : Fin 2) (h : Fin 8)
    (t : ℕ) : Fin 128 → Fin 128 → ℝ :=
  tokState (fun _ _ => 0) (tok K p h) (tok V p h) (gate G p ⟨h.val, by omega⟩) (gate G p ⟨8 + h.val, by omega⟩) t
/-- What token `t`'s query reads out of the state after token `t`. -/
def readAt (Q K V : Fin 2 → Fin 16384 → Fin 1024 → EReal) (G : Fin 2 → Fin 16384 → Fin 128 → EReal) (p : Fin 2) (h : Fin 8)
    (t : ℕ) (c : Fin 128) : ℝ := ∑ a, stateAt K V G p h (t + 1) a c * tok Q p h t a

open Idealize.ShloMosaic in
/-- A token's read-out `o` as the layer finishes it, at lane `l` of a head: over the root of its mean square plus the
    program's epsilon, times the norm's weight `nrm`, times the silu of `z`. -/
def finish (o : Fin 128 → EReal) (nrm z : EReal) (l : Fin 128) : EReal :=
  o l * Ideal.rsqrt (Ideal.div (∑ x, o x * o x) (Ideal.ofBits .f32 0x43000000#32) + Ideal.ofBits .f32 0x358637BD#32) * nrm
    * (z * Ideal.div 1 (1 + Ideal.exp (0 - z)))

/-- The array's entries are real numbers. -/
def Real3 {d : ℕ} (A : Fin 2 → Fin 16384 → Fin d → EReal) (n : ℕ) : Prop :=
  ∀ p t l, l.val < n → A p t l = (((A p t l).toReal : ℝ) : EReal)

theorem Real3.tok {A : Fin 2 → Fin 16384 → Fin 1024 → EReal} (hA : Real3 A 1024) (p : Fin 2) (h : Fin 8) (t : ℕ)
    (ht : t < 16384) (a : Fin 128) (l : Fin 1024) (hl : l.val = 128 * h.val + a.val) :
    A p ⟨t, ht⟩ l = ((DeltaRule.tok A p h t a : ℝ) : EReal) := by
  rw [show l = ⟨128 * h.val + a.val, by omega⟩ from Fin.ext hl]
  unfold DeltaRule.tok
  simp only [Nat.mod_eq_of_lt ht]
  exact hA _ _ _ (by omega)

theorem Real3.gate {G : Fin 2 → Fin 16384 → Fin 128 → EReal} (hG : Real3 G 16) (p : Fin 2) (t : ℕ) (ht : t < 16384)
    (l : Fin 16) (l' : Fin 128) (hl : l'.val = l.val) : G p ⟨t, ht⟩ l' = ((DeltaRule.gate G p l t : ℝ) : EReal) := by
  rw [show l' = ⟨l.val, by omega⟩ from Fin.ext hl]
  unfold DeltaRule.gate
  simp only [Nat.mod_eq_of_lt ht]
  exact hG _ _ _ (by simp)

end DeltaRule

end
-- ==== Proof.Dn.Fold.lean ====
/-
  The kernel's grid, point by point: point `256 p + n` reads chunk `n` of batch row `p`, its scratch holds the eight heads'
  states after `64 (n + 1)` tokens, and its output block the heads' finished read-outs.
-/
module

public import proofs.«01_k».proof.Proof.Dn.Tiles
public import proofs.«01_k».proof.Proof.Dn.Chunk
public import proofs.«01_k».proof.Proof.Dn.Spec

@[expose] public section

set_option maxRecDepth 16384

noncomputable section

namespace Cert.KernelIdeal.Head

open Cert.KernelIdeal Cert.KernelIdeal.Gen DeltaRule
open Idealize.ShloMosaic Idealize.ShloMosaic.TcCoe Idealize.SL.Sem

variable (m : (ℓ : Loc nD τ sig) → Buf (Elt Ideal) ℓ)

/-- The kernel's arguments as functions of batch, token and lane. -/
def argQ (c : Dev nD) (p : Fin 2) (t : Fin 16384) (l : Fin 1024) : EReal := m ((c : Thread nD τ).loc main_arg0) (ix3 p t l)
def argK (c : Dev nD) (p : Fin 2) (t : Fin 16384) (l : Fin 1024) : EReal := m ((c : Thread nD τ).loc main_arg1) (ix3 p t l)
def argV (c : Dev nD) (p : Fin 2) (t : Fin 16384) (l : Fin 1024) : EReal := m ((c : Thread nD τ).loc main_arg2) (ix3 p t l)
def argZ (c : Dev nD) (p : Fin 2) (t : Fin 16384) (l : Fin 1024) : EReal := m ((c : Thread nD τ).loc main_arg3) (ix3 p t l)
def argG (c : Dev nD) (p : Fin 2) (t : Fin 16384) (l : Fin 128) : EReal := m ((c : Thread nD τ).loc main_arg4) (ix3 p t l)
def argN (c : Dev nD) (l : Fin 128) : EReal := m ((c : Thread nD τ).loc main_arg5) (ix1 l)

theorem idx_val : ∀ t : Fin cfg0.N,
    win0_0.index t = ![t.val / 256, t.val % 256, 0] ∧ win0_1.index t = ![t.val / 256, t.val % 256, 0]
    ∧ win0_2.index t = ![t.val / 256, t.val % 256, 0] ∧ win0_3.index t = ![t.val / 256, t.val % 256, 0]
    ∧ win0_4.index t = ![t.val / 256, t.val % 256, 0] ∧ win0_5.index t = ![0, 0] :=
  (by decide +kernel : ∀ t : Fin grid0.N, _)

theorem lt_N (t : Fin cfg0.N) : t.val < 512 := t.isLt.trans_eq N_0
/-- The batch row and the token of row `i` of point `t`'s blocks. -/
def row (t : Fin cfg0.N) : Fin 2 := ⟨t.val / 256, by have := lt_N t; omega⟩
theorem tok_lt (t : Fin cfg0.N) (i : Fin 64) : 64 * (t.val % 256) + i.val < 16384 := by omega

theorem blkQ (c : Dev nD) (t : Fin cfg0.N) (i : Fin 64) (l : Fin 1024) :
    (iblk m c 0 t (ix3 0 i l) : EReal) = argQ m c (row t) ⟨_, tok_lt t i⟩ l := by
  have e := (idx_val t).1
  blk_ext [iblk, V, e, argQ, row]
theorem blkK (c : Dev nD) (t : Fin cfg0.N) (i : Fin 64) (l : Fin 1024) :
    (iblk m c 1 t (ix3 0 i l) : EReal) = argK m c (row t) ⟨_, tok_lt t i⟩ l := by
  have e := (idx_val t).2.1
  blk_ext [iblk, V, e, argK, row]
theorem blkV (c : Dev nD) (t : Fin cfg0.N) (i : Fin 64) (l : Fin 1024) :
    (iblk m c 2 t (ix3 0 i l) : EReal) = argV m c (row t) ⟨_, tok_lt t i⟩ l := by
  have e := (idx_val t).2.2.1
  blk_ext [iblk, V, e, argV, row]
theorem blkZ (c : Dev nD) (t : Fin cfg0.N) (i : Fin 64) (l : Fin 1024) :
    (iblk m c 3 t (ix3 0 i l) : EReal) = argZ m c (row t) ⟨_, tok_lt t i⟩ l := by
  have e := (idx_val t).2.2.2.1
  blk_ext [iblk, V, e, argZ, row]
theorem blkG (c : Dev nD) (t : Fin cfg0.N) (i : Fin 64) (l : Fin 128) :
    (iblk m c 4 t (ix3 0 i l) : EReal) = argG m c (row t) ⟨_, tok_lt t i⟩ l := by
  have e := (idx_val t).2.2.2.2.1
  blk_ext [iblk, V, e, argG, row]
theorem blkN (c : Dev nD) (t : Fin cfg0.N) (l : Fin 128) :
    (iblk m c 5 t (ix2 0 l) : EReal) = argN m c l := by
  have e := (idx_val t).2.2.2.2.2
  have e0 : win0_5.index t 0 = 0 := by rw [e]; rfl
  have e1 : win0_5.index t 1 = 0 := by rw [e]; rfl
  blk_simp [iblk, e]
  entry_read
  pointwise []
  blk_ext [argN, e0, e1]

/-- A head's lanes of a block, entry by entry. -/
theorem lanes_at (x : Vec Ideal S1x64x1024 .f32) (h : Fin 8) (i : Fin 64) (j : Fin 128) :
    (lanes x h (ix2 i j) : EReal) = x (ix3 0 i ⟨128 * h.val + j.val, by omega⟩) :=
  (shapeCast_dropUnit_apply ![64, 128] _ _ (ix2 i j)).trans (View.ld_unit_apply_of x _ _ _ _ _ (by
    intro a; fin_cases a <;> simp <;> rfl))
theorem part_at (x : Vec Ideal S8x128x128 .f32) (h : Fin 8) (i : Fin 128) (j : Fin 128) :
    (part x h (ix2 i j) : EReal) = x (ix3 h i j) :=
  (shapeCast_dropUnit_apply ![128, 128] _ _ (ix2 i j)).trans (View.ld_unit_apply_of x _ _ _ _ _ (by
    intro a; fin_cases a <;> simp <;> rfl))
theorem gates_at (x : Vec Ideal S1x64x128 .f32) (i : Fin 64) (j : Fin 128) : (gates x (ix2 i j) : EReal) = x (ix3 0 i j) := by
  pointwise [gates]
theorem col_at (X : FVec Ideal S64x128 .f32) (j : Fin 16) (i : Fin 64) (o : Fin 1) :
    (extractStridedSlice S64x1 ![0, j.val] X (col_sl j) (ix2 i o) : EReal) = X (ix2 i ⟨j.val, by omega⟩) := by
  pointwise []

theorem row_at (x : Vec Ideal S1x64x128 .f32) (j : Fin 16) (i : Fin 64) (o : Fin 1) :
    (extractStridedSlice S1x64 ![j.val, 0] (cumsT x) (row_sl j) (ix2 o i) : EReal) = cums x (ix2 i ⟨j.val, by omega⟩) := by
  unfold cumsT
  pointwise []
theorem last_at (X : FVec Ideal S64x128 .f32) (j : Fin 16) (o o' : Fin 1) :
    (extractStridedSlice S1x1 ![63, j.val] X (last_sl j) (ix2 o o') : EReal) = X (ix2 63 ⟨j.val, by omega⟩) := by
  pointwise []

/-- The chunk's running sum of a gate lane that holds log decays. -/
theorem cums_at (c : Dev nD) (hG : Real3 (argG m c) 16) (t : Fin cfg0.N) (j : Fin 16) (i : Fin 64) (n : ℕ) (hn : n = i.val + 1) :
    (cums (F := Ideal) (iblk m c 4 t) (ix2 i ⟨j.val, by omega⟩) : EReal)
      = ((cum (fun u => gate (argG m c) (row t) j (64 * (t.val % 256) + u)) n : ℝ) : EReal) := by
  subst hn
  rw [cums_re (g := fun u => gate (argG m c) (row t) j (64 * (t.val % 256) + u.val)) _
    (fun u => (blkG m c t u _).trans (hG.gate _ _ _ _ _ rfl)) i]
  exact congrArg _ (sum_upto (fun u => gate (argG m c) (row t) j (64 * (t.val % 256) + u)) i).symm

/-- What head `h` reads at point `t`, as the layer's sequences. -/
theorem holds_point (c : Dev nD) (hK : Real3 (argK m c) 1024) (hV : Real3 (argV m c) 1024) (hG : Real3 (argG m c) 16)
    (t : Fin cfg0.N) (h : Fin 8) (s : Vec Ideal S8x128x128 .f32) (S : Fin 128 → Fin 128 → ℝ)
    (hs : ∀ a b, (s (ix3 h a b) : EReal) = ((S a b : ℝ) : EReal)) :
    Holds (ins (iblk m c 0 t) (iblk m c 1 t) (iblk m c 2 t) (iblk m c 3 t) (iblk m c 4 t) (iblk m c 5 t) s h)
      (fun i => tok (argK m c) (row t) h (64 * (t.val % 256) + i))
      (fun i => tok (argV m c) (row t) h (64 * (t.val % 256) + i))
      (fun i => gate (argG m c) (row t) ⟨h.val, by omega⟩ (64 * (t.val % 256) + i))
      (fun i => gate (argG m c) (row t) ⟨8 + h.val, by omega⟩ (64 * (t.val % 256) + i)) S where
  hk := fun i j => (lanes_at _ _ _ _).trans ((blkK m c t i _).trans (hK.tok _ _ _ _ _ _ rfl))
  hv := fun i j => (lanes_at _ _ _ _).trans ((blkV m c t i _).trans (hV.tok _ _ _ _ _ _ rfl))
  hb := fun i o => (col_at _ ⟨h.val, by omega⟩ i o).trans ((gates_at _ _ _).trans ((blkG m c t i _).trans (hG.gate _ _ _ _ _ rfl)))
  hg := fun i o => (col_at _ ⟨8 + h.val, by omega⟩ i o).trans (cums_at m c hG t _ i _ rfl)
  hr := fun o i => (row_at _ ⟨8 + h.val, by omega⟩ i o).trans (cums_at m c hG t _ i _ rfl)
  hl := fun o o' => (last_at _ ⟨8 + h.val, by omega⟩ o o').trans (cums_at m c hG t ⟨8 + h.val, by omega⟩ 63 64 rfl)
  hs := fun a b => (part_at s h a b).trans (hs a b)

/-- A state of head `h` after the first `64 n` tokens. -/
def After (c : Dev nD) (p : Fin 2) (n : ℕ) (s : Vec Ideal S8x128x128 .f32) : Prop :=
  ∀ (h : Fin 8) (a b : Fin 128), (s (ix3 h a b) : EReal) = ((stateAt (argK m c) (argV m c) (argG m c) p h (64 * n) a b : ℝ) : EReal)

theorem after_zero (c : Dev nD) (p : Fin 2) : After m c p 0 (zeros (F := Ideal) S8x128x128) := fun h a b => by
  pointwise [zeros, stateAt, tokState]
  exact EReal.coe_zero.symm

theorem after_next (c : Dev nD) (hK : Real3 (argK m c) 1024) (hV : Real3 (argV m c) 1024) (hG : Real3 (argG m c) 16)
    (t : Fin cfg0.N) (s : Vec Ideal S8x128x128 .f32) (hs : After m c (row t) (t.val % 256) s) :
    After m c (row t) (t.val % 256 + 1)
      (scrBlk (iblk m c 0 t) (iblk m c 1 t) (iblk m c 2 t) (iblk m c 3 t) (iblk m c 4 t) (iblk m c 5 t) s) := fun h a b => by
  have e := (holds_point m c hK hV hG t h s _ (hs h)).state a b
  refine Eq.trans e (congrArg _ ?_)
  rw [show 64 * (t.val % 256 + 1) = 64 * (t.val % 256) + 64 by ring]
  exact (congrFun (congrFun (tokState_add _ _ _ _ _ _ _) a) b).symm

/-- The block and the scratch point `t` leaves, from the scratch `s`. -/
def outP (c : Dev nD) (t : Fin cfg0.N) (s : Vec Ideal S8x128x128 .f32) : Vec Ideal S1x64x1024 .bf16 :=
  outBlk (iblk m c 0 t) (iblk m c 1 t) (iblk m c 2 t) (iblk m c 3 t) (iblk m c 4 t) (iblk m c 5 t) s
def scrP (c : Dev nD) (t : Fin cfg0.N) (s : Vec Ideal S8x128x128 .f32) : Vec Ideal S8x128x128 .f32 :=
  scrBlk (iblk m c 0 t) (iblk m c 1 t) (iblk m c 2 t) (iblk m c 3 t) (iblk m c 4 t) (iblk m c 5 t) s

theorem point_A (c : Dev nD) (t : Fin cfg0.N) (h0 : t.val % 256 = 0) :
    (outsAt0 m c t.val t.isLt).1 = outP m c t (zeros (F := Ideal) S8x128x128)
      ∧ (outsAt0 m c t.val t.isLt).2 = scrP m c t (zeros (F := Ideal) S8x128x128) := by
  rw [outsAt0_A m c t h0]
  dsimp only
  refine ⟨?_, ?_⟩ <;> funext y
  · exact out_A c t h0 ..
  · exact sout_A c t h0 ..

theorem point_B (c : Dev nD) (t : Fin cfg0.N) (h0 : ¬ t.val % 256 = 0) (hp : t.val - 1 < cfg0.N) :
    (outsAt0 m c t.val t.isLt).1 = outP m c t (outsAt0 m c (t.val - 1) hp).2
      ∧ (outsAt0 m c t.val t.isLt).2 = scrP m c t (outsAt0 m c (t.val - 1) hp).2 := by
  rw [outsAt0_B m c t h0]
  dsimp only
  refine ⟨?_, ?_⟩ <;> funext y
  · exact out_B c t h0 ..
  · exact sout_B c t h0 ..

/-- At each point: the block and the scratch it leaves, from a scratch `s` that holds the states before the chunk. -/
theorem point_both (c : Dev nD) (hK : Real3 (argK m c) 1024) (hV : Real3 (argV m c) 1024) (hG : Real3 (argG m c) 16) :
    ∀ (n : ℕ) (hn : n < cfg0.N), ∃ s, After m c (row ⟨n, hn⟩) (n % 256) s
      ∧ (outsAt0 m c n hn).1 = outP m c ⟨n, hn⟩ s ∧ (outsAt0 m c n hn).2 = scrP m c ⟨n, hn⟩ s
  | n, hn => by
    by_cases h0 : n % 256 = 0
    · exact ⟨zeros (F := Ideal) S8x128x128, by rw [h0]; exact after_zero m c _, point_A m c ⟨n, hn⟩ h0⟩
    · have hp : n - 1 < cfg0.N := by omega
      have hd : n - 1 < n := by omega
      obtain ⟨s, hs, -, ho⟩ := point_both c hK hV hG (n - 1) hp
      refine ⟨(outsAt0 m c (n - 1) hp).2, ?_, point_B m c ⟨n, hn⟩ h0 hp⟩
      have e1 : row ⟨n, hn⟩ = row ⟨n - 1, hp⟩ := Fin.ext (by show n / 256 = (n - 1) / 256; omega)
      rw [e1, show n % 256 = (n - 1) % 256 + 1 by omega, ho]
      exact after_next m c hK hV hG ⟨n - 1, hp⟩ s hs

theorem fin_at (o z : FVec Ideal S64x128 .f32) (n : FVec Ideal S1x128 .f32) (i : Fin 64) (l : Fin 128) :
    (fin (F := Ideal) o z n (ix2 i l) : EReal) = finish (fun a => o (ix2 i a)) (n (ix2 0 l)) (z (ix2 i l)) l := by
  pointwise [fin, zeros, finish]
theorem tile_at (x : Ins Ideal) (i : Fin 64) (l : Fin 128) :
    (x.tile (ix3 0 i l) : EReal) = fin (F := Ideal) (reads x.q x.k x.g (decay x.g x.r) x.s x.w) x.z x.n (ix2 i l) := by
  unfold Ins.tile
  exact (shapeCast_addUnit_apply ![64, 128] _ shapeCasts_S64x128_S1x64x128 (ix3 0 i l)).trans
    (congrArg _ (funext fun a => by fin_cases a <;> rfl))
theorem outBlk_head (q k v z : Vec Ideal S1x64x1024 .f32) (gb : Vec Ideal S1x64x128 .f32) (n : Vec Ideal S1x128 .f32)
    (s : Vec Ideal S8x128x128 .f32) (y : S1x64x1024.Idx) (h : Fin 8) (i : Fin 64) (l : Fin 128) (e1 : (y 1).val = i.val)
    (e2 : (y 2).val = 128 * h.val + l.val) : outBlk q k v z gb n s y = (ins q k v z gb n s h).tile (ix3 0 i l) := by
  have hd : 128 * h.val / 128 = h.val := by omega
  rw [outBlk_at q k v z gb n s y (ix3 0 i l) (128 * h.val) (by omega) (by omega) e1 e2,
    show (⟨128 * h.val / 128, by omega⟩ : Fin 8) = h from Fin.ext hd]

/-- The kernel's result at an index. -/
theorem result_at (c : Dev nD) (hQ : Real3 (argQ m c) 1024) (hK : Real3 (argK m c) 1024) (hV : Real3 (argV m c) 1024)
    (hG : Real3 (argG m c) 16) (p : Fin 2) (t : Fin 16384) (h : Fin 8) (l : Fin 128) :
    (Value.G6 m c (ix3 p t ⟨128 * h.val + l.val, by omega⟩) : EReal)
      = finish (fun a => ((readAt (argQ m c) (argK m c) (argV m c) (argG m c) p h t.val a : ℝ) : EReal)) (argN m c l)
          (argZ m c p t ⟨128 * h.val + l.val, by omega⟩) l := by
  have hb : 256 * p.val + t.val / 64 < cfg0.N := lt_of_lt_of_eq (by omega) N_0.symm
  obtain ⟨s, hs, ho, -⟩ := point_both m c hK hV hG _ hb
  have e : Value.pt6Of (ix3 p t ⟨128 * h.val + l.val, by omega⟩) = 256 * p.val + t.val / 64 := by
    show 256 * (p.val / 1 - 0) + 1 * (t.val / 64 - 0) + 1 * ((128 * h.val + l.val) / 1024 - 0) = _
    omega
  have e6 : Value.G6 m c (ix3 p t ⟨128 * h.val + l.val, by omega⟩)
      = outP m c ⟨_, hb⟩ s (Value.loc6Of (ix3 p t ⟨128 * h.val + l.val, by omega⟩)) := by
    rw [← ho, Value.outsAt0_sweep m c _ hb]
    unfold Value.G6
    rw [dif_pos (lt_of_eq_of_lt e hb)]
    simp only [e]
  rw [e6]
  obtain ⟨T, hT⟩ : ∃ T : Fin cfg0.N, T = ⟨256 * p.val + t.val / 64, hb⟩ := ⟨_, rfl⟩
  have eT : T.val % 256 = t.val / 64 := by rw [hT]; show (256 * p.val + t.val / 64) % 256 = _; omega
  have eR : row T = p := Fin.ext (by rw [hT]; show (256 * p.val + t.val / 64) / 256 = _; omega)
  rw [← hT] at hs ⊢
  rw [show (256 * p.val + t.val / 64) % 256 = T.val % 256 by rw [hT]] at hs
  have hr := (holds_point m c hK hV hG T h s _ (hs h)).reads
    (q := fun i => tok (argQ m c) (row T) h (64 * (T.val % 256) + i))
    (fun i j => (lanes_at _ _ _ _).trans ((blkQ m c T i _).trans (hQ.tok _ _ _ _ _ _ rfl)))
  have hd : 64 * (T.val % 256) + t.val % 64 = t.val := by omega
  have hi : ∀ a : Fin 128, _ := fun a => (hr ⟨t.val % 64, Nat.mod_lt _ (by decide)⟩ a).trans (congrArg (fun r : ℝ => (r : EReal))
    (show _ = readAt (argQ m c) (argK m c) (argV m c) (argG m c) p h t.val a from by
      unfold readAt
      refine Finset.sum_congr rfl fun b _ => ?_
      simp only [hd, eR]
      rw [show t.val + 1 = 64 * (T.val % 256) + (t.val % 64 + 1) by omega]
      unfold stateAt
      rw [tokState_add (fun _ _ => 0) _ _ _ _ (64 * (T.val % 256)) (t.val % 64 + 1)]))
  have hz : ∀ i : Fin 64, i.val = t.val % 64 → (lanes (iblk m c 3 T) h (ix2 i l) : EReal) = argZ m c p t ⟨128 * h.val + l.val, by omega⟩ := by
    intro i hi
    rw [lanes_at, blkZ, eR]
    exact congrArg (fun u => argZ m c p u _) (Fin.ext (by show 64 * (T.val % 256) + i.val = _; omega))
  have hn : (shapeCast S1x128 (iblk m c 5 T) shapeCasts_S1x128_S1x128 (ix2 0 l) : EReal) = argN m c l :=
    (congrFun (shapeCast_self _ _) _).trans (blkN m c T l)
  unfold outP
  rw [outBlk_head _ _ _ _ _ _ _ _ h ⟨t.val % 64, Nat.mod_lt _ (by decide)⟩ l rfl
    (by show (128 * h.val + l.val) % 1024 = _; omega), tile_at, fin_at]
  simp only [hi]
  exact congrArg₂ (fun u w => finish _ u w l) hn (hz _ rfl)

end Cert.KernelIdeal.Head

end
-- ==== Proof.Dn.Token.lean ====
/-
  The reference's loop, trip by trip: after `t` trips it carries the eight heads' states after `t` tokens and the read-outs
  of the tokens before `t`.
-/
module

public import proofs.«01_k».proof.Proof.Gen.ReferenceIdeal.Run
public import proofs.«01_k».proof.Proof.Dn.Spec
public import Idealize.ShloMosaic.Lib.Pipeline.ValueKit

@[expose] public section

set_option maxRecDepth 16384

noncomputable section

namespace Cert.ReferenceIdeal.Token

open Cert.ReferenceIdeal Cert.ReferenceIdeal.Gen Cert.ReferenceIdeal.Value DeltaRule
open Idealize.ShloMosaic Idealize.ShloMosaic.TcCoe Idealize.SL.Sem Idealize.ShloMosaic.StableHlo

/-- A loop's contents of the buffer `b`. -/
abbrev buf (V0 : Valuation τ sig (Elt Ideal)) (b : Ref sig .tc) := V0 (Proc.devRef .tc b : DevRef τ sig)

/-- The loop's starts: token `k`, and 0 on the other axes. -/
theorem start0 (C : (⟨S_, .i32⟩ : BufTy).Contents (Elt Ideal)) (k : ℕ) (hk : k < 16384) (hC : C = fun _ => BitVec.ofNat 32 k)
    (i : S_.Idx) : (C i : BitVec 32).toInt = (k : Int) := by
  rw [hC]
  show (BitVec.ofNat 32 k).toInt = _
  have hn : (BitVec.ofNat 32 k).toNat = k := by rw [BitVec.toNat_ofNat]; omega
  rw [BitVec.toInt_eq_toNat_of_lt (by rw [hn]; omega), hn]

/-- Token `k` sliced out of an array with four axes, the tokens first. -/
theorem slice4 (X : FVec Ideal S16384x2x8x128 .f32) (st : Fin 4 → Int) (k : ℕ) (hk : k < 16384) (h0 : st 0 = k) (h1 : st 1 = 0)
    (h2 : st 2 = 0) (h3 : st 3 = 0) (p : Fin 2) (h : Fin 8) (a : Fin 128) :
    (shapeCast S2x8x128 (Host.dynamicSlice S1x2x8x128 X st sliceFits_S16384x2x8x128_S1x2x8x128)
      shapeCasts_S1x2x8x128_S2x8x128 (ix3 p h a) : EReal) = X (ix4 ⟨k, hk⟩ p h a) := by
  have c0 := Host.clampedStart_of_le (s := S16384x2x8x128) (t := S1x2x8x128) rfl st 0 k h0 (by show k + 1 ≤ 16384; omega)
  have c1 := Host.clampedStart_of_le (s := S16384x2x8x128) (t := S1x2x8x128) rfl st 1 0 h1 (by decide)
  have c2 := Host.clampedStart_of_le (s := S16384x2x8x128) (t := S1x2x8x128) rfl st 2 0 h2 (by decide)
  have c3 := Host.clampedStart_of_le (s := S16384x2x8x128) (t := S1x2x8x128) rfl st 3 0 h3 (by decide)
  pointwise [c0, c1, c2, c3]
/-- Token `k` sliced out of an array with three axes, the tokens first. -/
theorem slice3 (X : FVec Ideal S16384x2x8 .f32) (st : Fin 3 → Int) (k : ℕ) (hk : k < 16384) (h0 : st 0 = k) (h1 : st 1 = 0)
    (h2 : st 2 = 0) (p : Fin 2) (h : Fin 8) :
    (shapeCast S2x8 (Host.dynamicSlice S1x2x8 X st sliceFits_S16384x2x8_S1x2x8) shapeCasts_S1x2x8_S2x8 (ix2 p h) : EReal)
      = X (ix3 ⟨k, hk⟩ p h) := by
  have c0 := Host.clampedStart_of_le (s := S16384x2x8) (t := S1x2x8) rfl st 0 k h0 (by show k + 1 ≤ 16384; omega)
  have c1 := Host.clampedStart_of_le (s := S16384x2x8) (t := S1x2x8) rfl st 1 0 h1 (by decide)
  have c2 := Host.clampedStart_of_le (s := S16384x2x8) (t := S1x2x8) rfl st 2 0 h2 (by decide)
  pointwise [c0, c1, c2]
/-- Token `k` written into an array with four axes, the tokens first. -/
theorem update4 (X : FVec Ideal S16384x2x8x128 .f32) (Y : FVec Ideal S2x8x128 .f32) (st : Fin 4 → Int) (k : ℕ) (hk : k < 16384)
    (h0 : st 0 = k) (h1 : st 1 = 0) (h2 : st 2 = 0) (h3 : st 3 = 0) (t : Fin 16384) (p : Fin 2) (h : Fin 8) (a : Fin 128) :
    (Host.dynamicUpdateSlice X (broadcastInDim S1x2x8x128 ![1, 2, 3] bcast_S2x8x128_S1x2x8x128_1_2_3 Y) st
      updateFits_S16384x2x8x128_S1x2x8x128 (ix4 t p h a) : EReal) = if t.val = k then Y (ix3 p h a) else X (ix4 t p h a) := by
  have c0 := Host.clampedStart_of_le (s := S16384x2x8x128) (t := S1x2x8x128) rfl st 0 k h0 (by show k + 1 ≤ 16384; omega)
  have c1 := Host.clampedStart_of_le (s := S16384x2x8x128) (t := S1x2x8x128) rfl st 1 0 h1 (by decide)
  have c2 := Host.clampedStart_of_le (s := S16384x2x8x128) (t := S1x2x8x128) rfl st 2 0 h2 (by decide)
  have c3 := Host.clampedStart_of_le (s := S16384x2x8x128) (t := S1x2x8x128) rfl st 3 0 h3 (by decide)
  pointwise [c0, c1, c2, c3]
  by_cases ht : t.val = k
  · rw [if_pos ht, dif_pos (by omega)]
  · rw [if_neg ht, dif_neg (by omega)]

/-- The state decayed by a token's gates. -/
def decayed (S : FVec Ideal S2x8x128x128 .f32) (g : FVec Ideal S2x8 .f32) : FVec Ideal S2x8x128x128 .f32 :=
  mulf S (broadcastInDim S2x8x128x128 ![0, 1, 2, 3] bcast_S2x8x1x1_S2x8x128x128_0_1_2_3
    (broadcastInDim S2x8x1x1 ![0, 1] bcast_S2x8_S2x8x1x1_0_1 (Host.exp g)))
/-- The state with a token's correction written at its key. -/
def written (D : FVec Ideal S2x8x128x128 .f32) (k v : FVec Ideal S2x8x128 .f32) (b : FVec Ideal S2x8 .f32) :
    FVec Ideal S2x8x128x128 .f32 :=
  addf D (mulf (broadcastInDim S2x8x128x128 ![0, 1, 2, 3] bcast_S2x8x128x1_S2x8x128x128_0_1_2_3
      (broadcastInDim S2x8x128x1 ![0, 1, 2] bcast_S2x8x128_S2x8x128x1_0_1_2 k))
    (broadcastInDim S2x8x128x128 ![0, 1, 2, 3] bcast_S2x8x1x128_S2x8x128x128_0_1_2_3
      (broadcastInDim S2x8x1x128 ![0, 1, 3] bcast_S2x8x128_S2x8x1x128_0_1_3
        (mulf (subf v (Host.dotGeneral dot_S2x8x128x128_S2x8x128_S2x8x128_2_2_3_n_01_01 none D k))
          (broadcastInDim S2x8x128 ![0, 1, 2] bcast_S2x8x1_S2x8x128_0_1_2
            (broadcastInDim S2x8x1 ![0, 1] bcast_S2x8_S2x8x1_0_1 b))))))

theorem decayed_at (S : FVec Ideal S2x8x128x128 .f32) (g : FVec Ideal S2x8 .f32) (p : Fin 2) (h : Fin 8) (a c : Fin 128) :
    (decayed S g (ix4 p h a c) : EReal) = S (ix4 p h a c) * Ideal.exp (g (ix2 p h)) := by
  pointwise [decayed]
theorem dot_at (D : FVec Ideal S2x8x128x128 .f32) (k : FVec Ideal S2x8x128 .f32) (p : Fin 2) (h : Fin 8) (c : Fin 128) :
    (Host.dotGeneral dot_S2x8x128x128_S2x8x128_S2x8x128_2_2_3_n_01_01 none D k (ix3 p h c) : EReal)
      = ∑ a, D (ix4 p h a c) * k (ix3 p h a) := by
  pointwise []
theorem written_at (D : FVec Ideal S2x8x128x128 .f32) (k v : FVec Ideal S2x8x128 .f32) (b : FVec Ideal S2x8 .f32)
    (p : Fin 2) (h : Fin 8) (a c : Fin 128) :
    (written D k v b (ix4 p h a c) : EReal)
      = D (ix4 p h a c) + k (ix3 p h a) * ((v (ix3 p h c) - ∑ a, D (ix4 p h a c) * k (ix3 p h a)) * b (ix2 p h)) := by
  pointwise [written]

/-- One token's step on finite contents is the recurrence's step. -/
theorem step_at (S : FVec Ideal S2x8x128x128 .f32) (k v : FVec Ideal S2x8x128 .f32) (b g : FVec Ideal S2x8 .f32)
    (p : Fin 2) (h : Fin 8) (s : Fin 128 → Fin 128 → ℝ) (kr vr : Fin 128 → ℝ) (br gr : ℝ)
    (hs : ∀ a c, S (ix4 p h a c) = ((s a c : ℝ) : EReal)) (hk : ∀ a, k (ix3 p h a) = ((kr a : ℝ) : EReal))
    (hv : ∀ a, v (ix3 p h a) = ((vr a : ℝ) : EReal)) (hb : b (ix2 p h) = ((br : ℝ) : EReal)) (hg : g (ix2 p h) = ((gr : ℝ) : EReal))
    (a c : Fin 128) :
    (written (decayed S g) k v b (ix4 p h a c) : EReal) = ((tokStep s kr vr br gr a c : ℝ) : EReal) := by
  rw [written_at]
  simp only [decayed_at, hs, hk, hv, hb, hg, Ideal.exp_coe, ← EReal.coe_mul, ← EReal.coe_sub, ← EReal.coe_add]
  rw [show (∑ x, ((s x c * Real.exp gr * kr x : ℝ) : EReal)) = ((∑ x, s x c * Real.exp gr * kr x : ℝ) : EReal) from
    (map_sum (⟨⟨Real.toEReal, EReal.coe_zero⟩, EReal.coe_add⟩ : ℝ →+ EReal) _ _).symm]
  simp only [← EReal.coe_mul, ← EReal.coe_sub, ← EReal.coe_add]
  rfl

/-- A loop's contents: the queries, keys, values, strengths, log decays, counter, state and read-outs. -/
abbrev bQ (X : Valuation τ sig (Elt Ideal)) : FVec Ideal S16384x2x8x128 .f32 := X (Proc.devRef .tc main_v12_0)
abbrev bK (X : Valuation τ sig (Elt Ideal)) : FVec Ideal S16384x2x8x128 .f32 := X (Proc.devRef .tc main_v12_1)
abbrev bV (X : Valuation τ sig (Elt Ideal)) : FVec Ideal S16384x2x8x128 .f32 := X (Proc.devRef .tc main_v12_2)
abbrev bB (X : Valuation τ sig (Elt Ideal)) : FVec Ideal S16384x2x8 .f32 := X (Proc.devRef .tc main_v12_3)
abbrev bG (X : Valuation τ sig (Elt Ideal)) : FVec Ideal S16384x2x8 .f32 := X (Proc.devRef .tc main_v12_4)
abbrev bC (X : Valuation τ sig (Elt Ideal)) : (⟨S_, .i32⟩ : BufTy).Contents (Elt Ideal) := X (Proc.devRef .tc main_v12_5)
abbrev bS (X : Valuation τ sig (Elt Ideal)) : FVec Ideal S2x8x128x128 .f32 := X (Proc.devRef .tc main_v12_6)
abbrev bO (X : Valuation τ sig (Elt Ideal)) : FVec Ideal S16384x2x8x128 .f32 := X (Proc.devRef .tc main_v12_7)

/-- What the loop holds before trip `k`, for batch row `p` and head `h`. -/
structure Before (X : Valuation τ sig (Elt Ideal)) (p : Fin 2) (h : Fin 8) (q kk v : ℕ → Fin 128 → ℝ) (b g : ℕ → ℝ)
    (s : Fin 128 → Fin 128 → ℝ) (k : ℕ) : Prop where
  hq : ∀ t : Fin 16384, ∀ a, bQ X (ix4 t p h a) = ((q t.val a : ℝ) : EReal)
  hk : ∀ t : Fin 16384, ∀ a, bK X (ix4 t p h a) = ((kk t.val a : ℝ) : EReal)
  hv : ∀ t : Fin 16384, ∀ a, bV X (ix4 t p h a) = ((v t.val a : ℝ) : EReal)
  hb : ∀ t : Fin 16384, bB X (ix3 t p h) = ((b t.val : ℝ) : EReal)
  hg : ∀ t : Fin 16384, bG X (ix3 t p h) = ((g t.val : ℝ) : EReal)
  hc : bC X = fun _ => BitVec.ofNat 32 k
  hs : ∀ a c, bS X (ix4 p h a c) = ((tokState s kk v b g k a c : ℝ) : EReal)
  ho : ∀ t : Fin 16384, t.val < k → ∀ c,
    bO X (ix4 t p h c) = ((∑ a, tokState s kk v b g (t.val + 1) a c * q t.val a : ℝ) : EReal)

theorem Before.state {X p h q kk v b g s k} (H : Before X p h q kk v b g s k) (hk : k < 16384) (a c : Fin 128) :
    (res_main_while0b_v51 X (ix4 p h a c) : EReal) = ((tokState s kk v b g (k + 1) a c : ℝ) : EReal) :=
  step_at (bS X) _ _ _ _ p h _ _ _ _ _ H.hs
    (fun a => (slice4 (bK X) _ k hk (start0 _ k hk H.hc _) rfl rfl rfl p h a).trans (H.hk ⟨k, hk⟩ a))
    (fun a => (slice4 (bV X) _ k hk (start0 _ k hk H.hc _) rfl rfl rfl p h a).trans (H.hv ⟨k, hk⟩ a))
    ((slice3 (bB X) _ k hk (start0 _ k hk H.hc _) rfl rfl p h).trans (H.hb ⟨k, hk⟩))
    ((slice3 (bG X) _ k hk (start0 _ k hk H.hc _) rfl rfl p h).trans (H.hg ⟨k, hk⟩)) a c

theorem Before.step {X p h q kk v b g s k} (H : Before X p h q kk v b g s k) (hk : k < 16384) :
    Before (STEP X) p h q kk v b g s (k + 1) where
  hq := fun t a => (congrFun (STEP_main_v12_0 X) _).trans (H.hq t a)
  hk := fun t a => (congrFun (STEP_main_v12_1 X) _).trans (H.hk t a)
  hv := fun t a => (congrFun (STEP_main_v12_2 X) _).trans (H.hv t a)
  hb := fun t => (congrFun (STEP_main_v12_3 X) _).trans (H.hb t)
  hg := fun t => (congrFun (STEP_main_v12_4 X) _).trans (H.hg t)
  hc := (STEP_main_v12_5 X).trans (by
    show addi (bC X) (constantI S_ 32 1#32) = _
    rw [H.hc]
    funext i
    show BitVec.ofNat 32 k + 1#32 = _
    rw [BitVec.ofNat_add])
  hs := fun a c => (congrFun (STEP_main_v12_6 X) _).trans (H.state hk a c)
  ho := fun t ht c => (congrFun (STEP_main_v12_7 X) _).trans (by
    refine (update4 (bO X) _ _ k hk (start0 _ k hk H.hc _) rfl rfl rfl t p h c).trans ?_
    split_ifs with e
    · rw [dot_at]
      simp only [H.state hk]
      obtain rfl : t = ⟨k, hk⟩ := Fin.ext e
      refine (Finset.sum_congr rfl fun a _ => congrArg (_ * ·)
        ((slice4 (bQ X) _ k hk (start0 _ k hk H.hc _) rfl rfl rfl p h a).trans (H.hq ⟨k, hk⟩ a))).trans ?_
      simp only [← EReal.coe_mul]
      exact (map_sum (⟨⟨Real.toEReal, EReal.coe_zero⟩, EReal.coe_add⟩ : ℝ →+ EReal) _ _).symm
    · exact H.ho t (by omega) c)

/-- From what the loop starts with to what it holds after all its trips. -/
theorem Before.all {X p h q kk v b g s} (H : Before X p h q kk v b g s 0) : ∀ k ≤ 16384, Before (STEP^[k] X) p h q kk v b g s k
  | 0, _ => H
  | k + 1, hk => by
    rw [Function.iterate_succ_apply']
    exact (H.all k (by omega)).step (by omega)

variable (m : (ℓ : Loc nD τ sig) → Buf (Elt Ideal) ℓ)

/-- The reference's arguments as functions of batch, token and lane. -/
def argQ (c : Dev nD) (p : Fin 2) (t : Fin 16384) (l : Fin 1024) : EReal := m ((c.tc : Thread nD τ).loc main_arg0) (ix3 p t l)
def argK (c : Dev nD) (p : Fin 2) (t : Fin 16384) (l : Fin 1024) : EReal := m ((c.tc : Thread nD τ).loc main_arg1) (ix3 p t l)
def argV (c : Dev nD) (p : Fin 2) (t : Fin 16384) (l : Fin 1024) : EReal := m ((c.tc : Thread nD τ).loc main_arg2) (ix3 p t l)
def argZ (c : Dev nD) (p : Fin 2) (t : Fin 16384) (l : Fin 1024) : EReal := m ((c.tc : Thread nD τ).loc main_arg3) (ix3 p t l)
def argG (c : Dev nD) (p : Fin 2) (t : Fin 16384) (l : Fin 128) : EReal := m ((c.tc : Thread nD τ).loc main_arg4) (ix3 p t l)
def argN (c : Dev nD) (l : Fin 128) : EReal := m ((c.tc : Thread nD τ).loc main_arg5) (ix1 l)

theorem lane_eq (h : Fin 8) (a : Fin 128) (e : h.val * 128 + a.val < 1024) (e' : 128 * h.val + a.val < 1024) :
    (⟨h.val * 128 + a.val, e⟩ : Fin 1024) = ⟨128 * h.val + a.val, e'⟩ := Fin.ext (by show h.val * 128 + a.val = 128 * h.val + a.val; omega)

/-- A 1024-lane array cut into heads, the tokens first. -/
theorem heads_at (X : FVec Ideal S2x16384x1024 .f32) (t : Fin 16384) (p : Fin 2) (h : Fin 8) (a : Fin 128) :
    (transpose S16384x2x8x128 [1, 0, 2, 3] (shapeCast S2x16384x8x128 X shapeCasts_S2x16384x1024_S2x16384x8x128)
      transposes_S2x16384x8x128_S16384x2x8x128_1_0_2_3 (ix4 t p h a) : EReal) = X (ix3 p t ⟨128 * h.val + a.val, by omega⟩) := by
  pointwise []
  rw [lane_eq h a _ (by omega)]
/-- The lanes of strengths and of log decays, the tokens first. -/
theorem strengths_at (X : FVec Ideal S2x16384x128 .f32) (t : Fin 16384) (p : Fin 2) (h : Fin 8) :
    (transpose S16384x2x8 [1, 0, 2] (extractStridedSlice S2x16384x8 ![0, 0, 0] X slices_S2x16384x128_S2x16384x8_0_0_0)
      transposes_S2x16384x8_S16384x2x8_1_0_2 (ix3 t p h) : EReal) = X (ix3 p t ⟨h.val, by omega⟩) := by
  pointwise []
theorem decays_at (X : FVec Ideal S2x16384x128 .f32) (t : Fin 16384) (p : Fin 2) (h : Fin 8) :
    (transpose S16384x2x8 [1, 0, 2] (extractStridedSlice S2x16384x8 ![0, 0, 8] X slices_S2x16384x128_S2x16384x8_0_0_8)
      transposes_S2x16384x8_S16384x2x8_1_0_2 (ix3 t p h) : EReal) = X (ix3 p t ⟨8 + h.val, by omega⟩) := by
  pointwise []
theorem zero_at (p : Fin 2) (h : Fin 8) (a d : Fin 128) :
    (broadcastInDim S2x8x128x128 ![] bcast_S_S2x8x128x128 (constant (F := Ideal) S_ .f32 0#32) (ix4 p h a d) : EReal) = ((0 : ℝ) : EReal) := by
  pointwise []
  exact EReal.coe_zero.symm

theorem entry_q (c : Dev nD) (t : Fin 16384) (p : Fin 2) (h : Fin 8) (a : Fin 128) :
    (bQ (entryContents preI m c) (ix4 t p h a) : EReal) = argQ m c p t ⟨128 * h.val + a.val, by omega⟩ := by
  unfold bQ
  simp only [entryContents, afterL_cons, afterL_nil]
  after_reads_simp
  exact heads_at (m (c.tc.loc main_arg0)) t p h a
theorem entry_k (c : Dev nD) (t : Fin 16384) (p : Fin 2) (h : Fin 8) (a : Fin 128) :
    (bK (entryContents preI m c) (ix4 t p h a) : EReal) = argK m c p t ⟨128 * h.val + a.val, by omega⟩ := by
  unfold bK
  simp only [entryContents, afterL_cons, afterL_nil]
  after_reads_simp
  exact heads_at (m (c.tc.loc main_arg1)) t p h a
theorem entry_v (c : Dev nD) (t : Fin 16384) (p : Fin 2) (h : Fin 8) (a : Fin 128) :
    (bV (entryContents preI m c) (ix4 t p h a) : EReal) = argV m c p t ⟨128 * h.val + a.val, by omega⟩ := by
  unfold bV
  simp only [entryContents, afterL_cons, afterL_nil]
  after_reads_simp
  exact heads_at (m (c.tc.loc main_arg2)) t p h a
theorem entry_b (c : Dev nD) (t : Fin 16384) (p : Fin 2) (h : Fin 8) :
    (bB (entryContents preI m c) (ix3 t p h) : EReal) = argG m c p t ⟨h.val, by omega⟩ := by
  unfold bB
  simp only [entryContents, afterL_cons, afterL_nil]
  after_reads_simp
  exact strengths_at (m (c.tc.loc main_arg4)) t p h
theorem entry_g (c : Dev nD) (t : Fin 16384) (p : Fin 2) (h : Fin 8) :
    (bG (entryContents preI m c) (ix3 t p h) : EReal) = argG m c p t ⟨8 + h.val, by omega⟩ := by
  unfold bG
  simp only [entryContents, afterL_cons, afterL_nil]
  after_reads_simp
  exact decays_at (m (c.tc.loc main_arg4)) t p h
theorem entry_c (c : Dev nD) : bC (entryContents preI m c) = fun _ => BitVec.ofNat 32 0 := by
  unfold bC
  simp only [entryContents, afterL_cons, afterL_nil]
  after_reads_simp
  rfl
theorem entry_s (c : Dev nD) (p : Fin 2) (h : Fin 8) (a d : Fin 128) :
    (bS (entryContents preI m c) (ix4 p h a d) : EReal) = ((0 : ℝ) : EReal) := by
  unfold bS
  simp only [entryContents, afterL_cons, afterL_nil]
  after_reads_simp
  exact zero_at p h a d

/-- The result at an index, from what the loop leaves. -/
theorem out_at (X : Valuation τ sig (Elt Ideal)) (p : Fin 2) (t : Fin 16384) (h : Fin 8) (l : Fin 128) :
    (out_main_v31 X (ix3 p t ⟨128 * h.val + l.val, by omega⟩) : EReal)
      = finish (fun a => bO X (ix4 t p h a)) ((X (Proc.devRef .tc main_arg5) : FVec Ideal S128 .f32) (ix1 l))
          ((X (Proc.devRef .tc main_arg3) : FVec Ideal S2x16384x1024 .f32) (ix3 p t ⟨128 * h.val + l.val, by omega⟩)) l := by
  unfold out_main_v31
  pointwise [finish]
  rw [lane_eq h l _ (by omega), sub_eq_add_neg (0 : EReal), zero_add]

/-- What the loop starts with, on finite arguments. -/
theorem before_entry (c : Dev nD) (hQ : Real3 (argQ m c) 1024) (hK : Real3 (argK m c) 1024) (hV : Real3 (argV m c) 1024)
    (hG : Real3 (argG m c) 16) (p : Fin 2) (h : Fin 8) :
    Before (entryContents preI m c) p h (tok (argQ m c) p h) (tok (argK m c) p h) (tok (argV m c) p h)
      (gate (argG m c) p ⟨h.val, by omega⟩) (gate (argG m c) p ⟨8 + h.val, by omega⟩) (fun _ _ => 0) 0 where
  hq := fun t a => (entry_q m c t p h a).trans (hQ.tok p h t.val t.isLt a _ rfl)
  hk := fun t a => (entry_k m c t p h a).trans (hK.tok p h t.val t.isLt a _ rfl)
  hv := fun t a => (entry_v m c t p h a).trans (hV.tok p h t.val t.isLt a _ rfl)
  hb := fun t => (entry_b m c t p h).trans (hG.gate p t.val t.isLt _ _ rfl)
  hg := fun t => (entry_g m c t p h).trans (hG.gate p t.val t.isLt _ _ rfl)
  hc := entry_c m c
  hs := fun a d => entry_s m c p h a d
  ho := fun t ht => absurd ht (Nat.not_lt_zero _)

/-- The reference's result at an index. -/
theorem result_at (c : Dev nD) (hQ : Real3 (argQ m c) 1024) (hK : Real3 (argK m c) 1024) (hV : Real3 (argV m c) 1024)
    (hG : Real3 (argG m c) 16) (p : Fin 2) (t : Fin 16384) (h : Fin 8) (l : Fin 128) :
    (out_main_v31 (STEP^[16384] (entryContents preI m c)) (ix3 p t ⟨128 * h.val + l.val, by omega⟩) : EReal)
      = finish (fun a => ((readAt (argQ m c) (argK m c) (argV m c) (argG m c) p h t.val a : ℝ) : EReal)) (argN m c l)
          (argZ m c p t ⟨128 * h.val + l.val, by omega⟩) l := by
  rw [out_at, iter_main_arg5, iter_main_arg3]
  refine congrArg (fun o => finish o _ _ l) (funext fun a => ?_)
  exact ((before_entry m c hQ hK hV hG p h).all 16384 le_rfl).ho t t.isLt a

end Cert.ReferenceIdeal.Token

end
-- ==== Proof.Dn.Finite.lean ====
/-
  The precondition read at an entry: an entry whose absolute value is below infinity is a real number.
-/
module

public import proofs.«01_k».proof.Defs
public import proofs.«01_k».proof.Proof.Dn.Spec
public import Idealize.ShloMosaic.Lib.Pipeline.ValueKit

@[expose] public section

noncomputable section

namespace DeltaRule

open Idealize.ShloMosaic

theorem real_of_below (x : EReal) (h : BitVec.ofBool (decide (max x (-x) < Ideal.ofBits .f32 0x7F800000#32)) = 1#1) :
    x = ((x.toReal : ℝ) : EReal) := by
  have htop : Ideal.ofBits .f32 0x7F800000#32 = ⊤ := by simp [Ideal.ofBits, Ideal.ieee]
  rw [htop] at h
  induction x using EReal.rec with
  | bot => simp at h
  | coe r => rfl
  | top => simp at h

open Cert.Pre_finite in
/-- A 1024-lane array whose mask is all ones has real entries. -/
theorem real_wide [Cert.Pre_finite.Facts] (X : FVec Ideal S2x16384x1024 .f32)
    (h : cmpf .olt (Host.absf X) (broadcastInDim S2x16384x1024 ![] Facts.bcast_S_S2x16384x1024 (constant S_ .f32 0x7F800000#32))
      = fun _ => 1#1) : Real3 (fun p t l => X (ix3 p t l)) 1024 := fun p t l _ => by
  have e := congrFun h (ix3 p t l)
  pointwise at e
  exact real_of_below _ e

open Cert.Pre_finite in
/-- An array of gates whose first sixteen lanes' mask is all ones has real entries there. -/
theorem real_gates [Cert.Pre_finite.Facts] (X : FVec Ideal S2x16384x128 .f32)
    (h : cmpf .olt (Host.absf (extractStridedSlice S2x16384x16 ![0, 0, 0] X Facts.slices_S2x16384x128_S2x16384x16_0_0_0))
      (broadcastInDim S2x16384x16 ![] Facts.bcast_S_S2x16384x16 (constant S_ .f32 0x7F800000#32)) = fun _ => 1#1) :
    Real3 (fun p t l => X (ix3 p t l)) 16 := fun p t l hl => by
  have e := congrFun h (ix3 p t ⟨l.val, hl⟩)
  pointwise at e
  exact real_of_below _ e

end DeltaRule

end
-- ==== Proof.Layer.Spec.lean ====
/-
  The dense parts of a layer, one row (token) at a time, over the extended reals: the rms norm, a product by a weight matrix,
  the sigmoid, and a row of an array of 32768 tokens as a token of two batch rows of 16384.
-/
module

public import Idealize.ShloMosaic.Lib.Pipeline.ValueKit

@[expose] public section

noncomputable section

namespace Layer

open Idealize.ShloMosaic

/-- A row over the root of its mean square plus the program's epsilon, times the norm's gain. -/
def normed (x g : Fin 1024 → EReal) (l : Fin 1024) : EReal :=
  x l * Ideal.rsqrt (Ideal.div (∑ k, x k * x k) (Ideal.ofBits .f32 0x44800000#32) + Ideal.ofBits .f32 0x358637BD#32) * g l

/-- A row times a matrix. -/
def times {k n : ℕ} (x : Fin k → EReal) (w : Fin k → Fin n → EReal) (l : Fin n) : EReal := ∑ j, x j * w j l

def sigmoid (z : EReal) : EReal := Ideal.div 1 (1 + Ideal.exp (0 - z))

/-- Token `r` of 32768, as a token of the batch row it belongs to. -/
def row {d : ℕ} (A : Fin 2 → Fin 16384 → Fin d → EReal) (r : Fin 32768) : Fin d → EReal :=
  A ⟨r.val / 16384, by omega⟩ ⟨r.val % 16384, Nat.mod_lt _ (by decide)⟩

/-- An array of two batch rows laid out as 32768 rows, read at one of them. -/
theorem flat_apply {d : ℕ} {α : Type} (X : (⟨3, ![2, 16384, d]⟩ : Shape).Idx → α)
    (h : (⟨3, ![2, 16384, d]⟩ : Shape).ShapeCasts ⟨2, ![32768, d]⟩) (r : Fin 32768) (l : Fin d) :
    shapeCast ⟨2, ![32768, d]⟩ X h (ix2 r l)
      = X (ix3 ⟨r.val / 16384, by omega⟩ ⟨r.val % 16384, Nat.mod_lt _ (by decide)⟩ l) := by
  refine shapeCast_apply _ _ _ _ ?_
  rw [Shape.rowMajor_val_two, Shape.rowMajor_val_three]
  show (r.val / 16384 * 16384 + r.val % 16384) * d + l.val = r.val * d + l.val
  rw [Nat.div_add_mod']

/-- Every row of an array normed. -/
def normArr (X : FVec Ideal ⟨3, ![2, 16384, 1024]⟩ .f32) (g : FVec Ideal ⟨1, ![1024]⟩ .f32) :
    FVec Ideal ⟨3, ![2, 16384, 1024]⟩ .f32 :=
  fun i => normed (fun l => X (ix3 (i 0) (i 1) l)) (fun l => g (ix1 l)) (i 2)

/-- The norm as the reference's operations spell it, on whole arrays. -/
theorem normArr_eq (X : FVec Ideal ⟨3, ![2, 16384, 1024]⟩ .f32) (g : FVec Ideal ⟨1, ![1024]⟩ .f32)
    (h1 h2) (h3 : (⟨3, ![2, 16384, 1024]⟩ : Shape).ReducesTo [2] ⟨2, ![2, 16384]⟩) (h4 h5 h6 h7) :
    mulf (mulf X (broadcastInDim ⟨3, ![2, 16384, 1024]⟩ ![0, 1, 2] h1 (Host.rsqrt (addf (Host.divf
      (broadcastInDim ⟨3, ![2, 16384, 1]⟩ ![0, 1] h2 (Host.reduceAdd (t := ⟨2, ![2, 16384]⟩) (mulf X X) (constant (F := Ideal) ⟨0, ![]⟩ .f32 0x00000000#32) h3 h4))
      (broadcastInDim ⟨3, ![2, 16384, 1]⟩ ![] h5 (constant (F := Ideal) ⟨0, ![]⟩ .f32 0x44800000#32)))
      (broadcastInDim ⟨3, ![2, 16384, 1]⟩ ![] h5 (constant (F := Ideal) ⟨0, ![]⟩ .f32 0x358637BD#32))))))
      (broadcastInDim ⟨3, ![2, 16384, 1024]⟩ ![0, 1, 2] h6 (broadcastInDim ⟨3, ![1, 1, 1024]⟩ ![2] h7 g)) = normArr X g := by
  funext i
  obtain ⟨p, t, l, rfl⟩ : ∃ (p : Fin 2) (t : Fin 16384) (l : Fin 1024), i = ix3 p t l := ⟨i 0, i 1, i 2, eq_ix3 i⟩
  pointwise [normArr, normed]

end Layer

end
-- ==== Proof.Layer.Prep.lean ====
/-
  What the delta rule takes, one token at a time: a causal convolution over four tokens, swish, the unit length of each head of 128
  lanes, and the lanes of beta and of the log-decay.
-/
module

public import proofs.«01_k».proof.Proof.Layer.Spec

@[expose] public section

set_option maxRecDepth 16384

noncomputable section

open Idealize.ShloMosaic Idealize.ShloMosaic.TcCoe Idealize.SL.Sem

namespace Layer

/-- The value `k` tokens back, zero before the first token. -/
def back (x : Fin 16384 → EReal) (k : ℕ) (t : Fin 16384) : EReal :=
  if h : t.val < k then 0 else x ⟨t.val - k, by omega⟩

/-- The convolution over a token and the three before it. -/
def short (x : Fin 16384 → EReal) (w : Fin 4 → EReal) (t : Fin 16384) : EReal :=
  back x 3 t * w 0 + back x 2 t * w 1 + back x 1 t * w 2 + back x 0 t * w 3

def swish (y : EReal) : EReal := y * sigmoid y

/-- Lane `l` of a token after the convolution. -/
def mixed (X : FVec Ideal ⟨3, ![2, 16384, 3072]⟩ .f32) (W : FVec Ideal ⟨2, ![4, 3072]⟩ .f32) (p : Fin 2) (t : Fin 16384) (l : Fin 3072) : EReal :=
  swish (short (fun s => X (ix3 p s l)) (fun k => W (ix2 k l)) t)

/-- Lane `d` of the head that lane `l` lies in. -/
def peer (l : Fin 1024) (d : Fin 128) : Fin 1024 := ⟨l.val / 128 * 128 + d.val, by omega⟩

/-- A token's lanes over the length of their head. -/
def unitAt (y : Fin 1024 → EReal) (l : Fin 1024) : EReal :=
  y l * Ideal.rsqrt (∑ d, y (peer l d) * y (peer l d) + Ideal.ofBits .f32 0x358637BD#32)

/-- The 1024 lanes from `off` on, of one token. -/
def part (off : ℕ) (h : off ≤ 2048) (X : FVec Ideal ⟨3, ![2, 16384, 3072]⟩ .f32) (W : FVec Ideal ⟨2, ![4, 3072]⟩ .f32)
    (p : Fin 2) (t : Fin 16384) (l : Fin 1024) : EReal := mixed X W p t ⟨off + l.val, by omega⟩

def queries (X : FVec Ideal ⟨3, ![2, 16384, 3072]⟩ .f32) (W : FVec Ideal ⟨2, ![4, 3072]⟩ .f32) :
    (⟨3, ![2, 16384, 1024]⟩ : Shape).Idx → EReal :=
  fun i => unitAt (part 0 (by decide) X W (i 0) (i 1)) (i 2) * Ideal.ofBits .f32 0x3DB504F3#32

def keys (X : FVec Ideal ⟨3, ![2, 16384, 3072]⟩ .f32) (W : FVec Ideal ⟨2, ![4, 3072]⟩ .f32) :
    (⟨3, ![2, 16384, 1024]⟩ : Shape).Idx → EReal :=
  fun i => unitAt (part 1024 (by decide) X W (i 0) (i 1)) (i 2)

def values (X : FVec Ideal ⟨3, ![2, 16384, 3072]⟩ .f32) (W : FVec Ideal ⟨2, ![4, 3072]⟩ .f32) :
    (⟨3, ![2, 16384, 1024]⟩ : Shape).Idx → EReal :=
  fun i => part 2048 (by decide) X W (i 0) (i 1) (i 2)

/-- Eight numbers on the lanes 8 to 15 of 128, zeros on the others. -/
def onLanes (a : FVec Ideal ⟨1, ![8]⟩ .f32) (l : Fin 128) : EReal :=
  if h : 8 ≤ l.val ∧ l.val < 16 then a (ix1 ⟨l.val - 8, by omega⟩) else 0

def softplus (z : EReal) : EReal := max z 0 + Ideal.log1p (Ideal.exp (-(max z (-z))))

/-- A lane of beta (the first eight) or of the log-decay. -/
def gateAt (s : EReal) (al dt : Fin 128 → EReal) (l : Fin 128) : EReal :=
  if l.val < 8 then sigmoid s else (-Ideal.exp (al l)) * softplus (s + dt l)

def gates (S : FVec Ideal ⟨3, ![2, 16384, 128]⟩ .f32) (a d : FVec Ideal ⟨1, ![8]⟩ .f32) :
    (⟨3, ![2, 16384, 128]⟩ : Shape).Idx → EReal :=
  fun i => gateAt (S (ix3 (i 0) (i 1) (i 2))) (onLanes a) (onLanes d) (i 2)

end Layer

end
-- ==== Proof.Layer.PrepRef.lean ====
/-
  The reference's queries, keys, values and gates, in the terms of one token at a time.
-/
module

public import proofs.«01_k».proof.Proof.Gen.Reference10Ideal.Run
public import proofs.«01_k».proof.Proof.Layer.Prep

@[expose] public section

set_option maxRecDepth 16384

noncomputable section

open Idealize.ShloMosaic Idealize.ShloMosaic.TcCoe Idealize.SL.Sem

namespace Cert.Reference10Ideal.Rows

open Cert.Reference10Ideal Cert.Reference10Ideal.Gen Layer

/-- The tokens from `o` on of the padded array are those `3 - o` back. -/
theorem pad_at (X : FVec Ideal S2x16384x3072 .f32) (o k : ℕ) (hk : o + k = 3) (h h' h'') (p : Fin 2) (t : Fin 16384) (l : Fin 3072) :
    (extractStridedSlice S2x16384x3072 ![0, o, 0] (pad S2x16387x3072 ![0, 3, 0] ![0, 0, 0] ![0, 0, 0] X
      (sitofp (F := Ideal) .f32 (constantI S_ 32 0#32)) h h') h'' (ix3 p t l) : EReal) = back (fun s => X (ix3 p s l)) k t := by
  have hz : (FloatOps.sitofp (F := Ideal) FTy.f32 (0#32 : BitVec 32) : EReal) = 0 := by
    show (((0#32 : BitVec 32).toInt : ℝ) : EReal) = 0
    simp
  obtain rfl : o = 3 - k := by omega
  have : k ≤ 3 := by omega
  interval_cases k <;>
  · pointwise [back]
    try (split_ifs <;> first | rfl | omega | exact hz | exact congrArg X (congrArg (fun s => ix3 p s l) (Fin.ext (by dsimp only; omega))))

/-- The convolution as the reference's operations spell it. -/
def convR (X : FVec Ideal S2x16384x3072 .f32) (W : FVec Ideal S4x3072 .f32) : FVec Ideal S2x16384x3072 .f32 :=
  addf (addf (addf (addf (broadcastInDim S2x16384x3072 ![] bcast_S_S2x16384x3072 (constant S_ .f32 0x00000000#32))
    (mulf (extractStridedSlice S2x16384x3072 ![0, 0, 0] (pad S2x16387x3072 ![0, 3, 0] ![0, 0, 0] ![0, 0, 0] X (sitofp .f32 (constantI S_ 32 0#32)) pads_S2x16384x3072_S2x16387x3072_000_300_000 h_S_) slices_S2x16387x3072_S2x16384x3072_0_0_0)
      (broadcastInDim S2x16384x3072 ![0, 1, 2] bcast_S1x1x3072_S2x16384x3072_0_1_2 (broadcastInDim S1x1x3072 ![2] bcast_S3072_S1x1x3072_2 (shapeCast _ (extractStridedSlice S1x3072 ![0, 0] W slices_S4x3072_S1x3072_0_0) shapeCasts_S1x3072_S3072)))))
    (mulf (extractStridedSlice S2x16384x3072 ![0, 1, 0] (pad S2x16387x3072 ![0, 3, 0] ![0, 0, 0] ![0, 0, 0] X (sitofp .f32 (constantI S_ 32 0#32)) pads_S2x16384x3072_S2x16387x3072_000_300_000 h_S_) slices_S2x16387x3072_S2x16384x3072_0_1_0)
      (broadcastInDim S2x16384x3072 ![0, 1, 2] bcast_S1x1x3072_S2x16384x3072_0_1_2 (broadcastInDim S1x1x3072 ![2] bcast_S3072_S1x1x3072_2 (shapeCast _ (extractStridedSlice S1x3072 ![1, 0] W slices_S4x3072_S1x3072_1_0) shapeCasts_S1x3072_S3072)))))
    (mulf (extractStridedSlice S2x16384x3072 ![0, 2, 0] (pad S2x16387x3072 ![0, 3, 0] ![0, 0, 0] ![0, 0, 0] X (sitofp .f32 (constantI S_ 32 0#32)) pads_S2x16384x3072_S2x16387x3072_000_300_000 h_S_) slices_S2x16387x3072_S2x16384x3072_0_2_0)
      (broadcastInDim S2x16384x3072 ![0, 1, 2] bcast_S1x1x3072_S2x16384x3072_0_1_2 (broadcastInDim S1x1x3072 ![2] bcast_S3072_S1x1x3072_2 (shapeCast _ (extractStridedSlice S1x3072 ![2, 0] W slices_S4x3072_S1x3072_2_0) shapeCasts_S1x3072_S3072)))))
    (mulf (extractStridedSlice S2x16384x3072 ![0, 3, 0] (pad S2x16387x3072 ![0, 3, 0] ![0, 0, 0] ![0, 0, 0] X (sitofp .f32 (constantI S_ 32 0#32)) pads_S2x16384x3072_S2x16387x3072_000_300_000 h_S_) slices_S2x16387x3072_S2x16384x3072_0_3_0)
      (broadcastInDim S2x16384x3072 ![0, 1, 2] bcast_S1x1x3072_S2x16384x3072_0_1_2 (broadcastInDim S1x1x3072 ![2] bcast_S3072_S1x1x3072_2 (shapeCast _ (extractStridedSlice S1x3072 ![3, 0] W slices_S4x3072_S1x3072_3_0) shapeCasts_S1x3072_S3072))))

/-- Swish as the reference's operations spell it. -/
def swishR (Y : FVec Ideal S2x16384x3072 .f32) : FVec Ideal S2x16384x3072 .f32 :=
  mulf Y (Host.divf (broadcastInDim S2x16384x3072 ![] bcast_S_S2x16384x3072 (constant S_ .f32 0x3F800000#32))
    (addf (broadcastInDim S2x16384x3072 ![] bcast_S_S2x16384x3072 (constant S_ .f32 0x3F800000#32)) (Host.exp (Host.negf Y))))

theorem convR_at (X : FVec Ideal S2x16384x3072 .f32) (W : FVec Ideal S4x3072 .f32) (p : Fin 2) (t : Fin 16384) (l : Fin 3072) :
    (convR X W (ix3 p t l) : EReal) = short (fun s => X (ix3 p s l)) (fun k => W (ix2 k l)) t := by
  unfold convR
  generalize h0 : extractStridedSlice S2x16384x3072 ![0, 0, 0] (pad S2x16387x3072 ![0, 3, 0] ![0, 0, 0] ![0, 0, 0] X (sitofp .f32 (constantI S_ 32 0#32)) pads_S2x16384x3072_S2x16387x3072_000_300_000 h_S_) slices_S2x16387x3072_S2x16384x3072_0_0_0 = P0
  generalize h1 : extractStridedSlice S2x16384x3072 ![0, 1, 0] (pad S2x16387x3072 ![0, 3, 0] ![0, 0, 0] ![0, 0, 0] X (sitofp .f32 (constantI S_ 32 0#32)) pads_S2x16384x3072_S2x16387x3072_000_300_000 h_S_) slices_S2x16387x3072_S2x16384x3072_0_1_0 = P1
  generalize h2 : extractStridedSlice S2x16384x3072 ![0, 2, 0] (pad S2x16387x3072 ![0, 3, 0] ![0, 0, 0] ![0, 0, 0] X (sitofp .f32 (constantI S_ 32 0#32)) pads_S2x16384x3072_S2x16387x3072_000_300_000 h_S_) slices_S2x16387x3072_S2x16384x3072_0_2_0 = P2
  generalize h3 : extractStridedSlice S2x16384x3072 ![0, 3, 0] (pad S2x16387x3072 ![0, 3, 0] ![0, 0, 0] ![0, 0, 0] X (sitofp .f32 (constantI S_ 32 0#32)) pads_S2x16384x3072_S2x16387x3072_000_300_000 h_S_) slices_S2x16387x3072_S2x16384x3072_0_3_0 = P3
  have e0 : (P0 (ix3 p t l) : EReal) = back (fun s => X (ix3 p s l)) 3 t := by rw [← h0]; exact pad_at X 0 3 rfl _ _ _ p t l
  have e1 : (P1 (ix3 p t l) : EReal) = back (fun s => X (ix3 p s l)) 2 t := by rw [← h1]; exact pad_at X 1 2 rfl _ _ _ p t l
  have e2 : (P2 (ix3 p t l) : EReal) = back (fun s => X (ix3 p s l)) 1 t := by rw [← h2]; exact pad_at X 2 1 rfl _ _ _ p t l
  have e3 : (P3 (ix3 p t l) : EReal) = back (fun s => X (ix3 p s l)) 0 t := by rw [← h3]; exact pad_at X 3 0 rfl _ _ _ p t l
  pointwise [short]
  rw [e0, e1, e2, e3]

theorem swishR_at (Y : FVec Ideal S2x16384x3072 .f32) (p : Fin 2) (t : Fin 16384) (l : Fin 3072) :
    (swishR Y (ix3 p t l) : EReal) = swish (Y (ix3 p t l)) := by
  pointwise [swishR, swish, sigmoid]
  simp only [sub_eq_add_neg, zero_add]

/-- Every head over its length, as the reference's operations spell it. -/
def unitR (Y : FVec Ideal S2x16384x8x128 .f32) : FVec Ideal S2x16384x8x128 .f32 :=
  mulf Y (broadcastInDim S2x16384x8x128 ![0, 1, 2, 3] bcast_S2x16384x8x1_S2x16384x8x128_0_1_2_3 (Host.rsqrt (addf
    (broadcastInDim S2x16384x8x1 ![0, 1, 2] bcast_S2x16384x8_S2x16384x8x1_0_1_2 (Host.reduceAdd (mulf Y Y) (constant S_ .f32 0x00000000#32) reducesTo_S2x16384x8x128_S2x16384x8_d3 h_S_))
    (broadcastInDim S2x16384x8x1 ![] bcast_S_S2x16384x8x1 (constant S_ .f32 0x358637BD#32)))))

theorem unitR_at (Y : FVec Ideal S2x16384x8x128 .f32) (p : Fin 2) (t : Fin 16384) (h : Fin 8) (d : Fin 128) :
    (unitR Y (ix4 p t h d) : EReal) = Y (ix4 p t h d) * Ideal.rsqrt (∑ e : Fin 128, Y (ix4 p t h e) * Y (ix4 p t h e) + Ideal.ofBits .f32 0x358637BD#32) := by
  pointwise [unitR]

theorem heads_at (Y : FVec Ideal S2x16384x1024 .f32) (h : S2x16384x1024.ShapeCasts S2x16384x8x128) (p : Fin 2) (t : Fin 16384) (a : Fin 8) (d : Fin 128) :
    (shapeCast S2x16384x8x128 Y h (ix4 p t a d) : EReal) = Y (ix3 p t ⟨a.val * 128 + d.val, by omega⟩) := by
  refine shapeCast_apply _ _ _ _ ?_
  rw [Shape.rowMajor_val_three, Shape.rowMajor_val_four]
  show (p.val * 16384 + t.val) * 1024 + (a.val * 128 + d.val) = ((p.val * 16384 + t.val) * 8 + a.val) * 128 + d.val
  omega

theorem joined_at (Y : FVec Ideal S2x16384x8x128 .f32) (h : S2x16384x8x128.ShapeCasts S2x16384x1024) (p : Fin 2) (t : Fin 16384) (l : Fin 1024) :
    (shapeCast S2x16384x1024 Y h (ix3 p t l) : EReal) = Y (ix4 p t ⟨l.val / 128, by omega⟩ ⟨l.val % 128, Nat.mod_lt _ (by decide)⟩) := by
  refine shapeCast_apply _ _ _ _ ?_
  rw [Shape.rowMajor_val_three, Shape.rowMajor_val_four]
  show ((p.val * 16384 + t.val) * 8 + l.val / 128) * 128 + l.val % 128 = (p.val * 16384 + t.val) * 1024 + l.val
  omega

variable (m : (ℓ : Loc nD τ sig) → Buf (Elt Ideal) ℓ)

theorem part_at (o : ℕ) (ho : o ≤ 2048) (X : FVec Ideal S2x16384x3072 .f32) (W : FVec Ideal S4x3072 .f32) (h) (p : Fin 2) (t : Fin 16384) (l : Fin 1024) :
    (extractStridedSlice S2x16384x1024 ![0, 0, o] (swishR (convR X W)) h (ix3 p t l) : EReal) = part o ho X W p t l := by
  have e : (extractStridedSlice S2x16384x1024 ![0, 0, o] (swishR (convR X W)) h (ix3 p t l) : EReal) = swishR (convR X W) (ix3 p t ⟨o + l.val, by omega⟩) := by
    refine congrArg (swishR (convR X W)) (funext fun a => Fin.ext ?_)
    fin_cases a <;> first | rfl | exact Nat.zero_add _
  rw [e, swishR_at, convR_at]
  rfl

theorem values_eq (c : Dev nD) : Value.res_main_v33 m c = values (m ((c.tc : Thread nD τ).loc main_arg0)) (m ((c.tc : Thread nD τ).loc main_arg2)) := by
  have e : Value.res_main_v33 m c = extractStridedSlice S2x16384x1024 ![0, 0, 2048] (swishR (convR (m ((c.tc : Thread nD τ).loc main_arg0)) (m ((c.tc : Thread nD τ).loc main_arg2)))) slices_S2x16384x3072_S2x16384x1024_0_0_2048 := by
    unfold Value.res_main_v33 swishR convR; rfl
  rw [e]
  funext i
  obtain ⟨p, t, l, rfl⟩ : ∃ (p : Fin 2) (t : Fin 16384) (l : Fin 1024), i = ix3 p t l := ⟨i 0, i 1, i 2, eq_ix3 i⟩
  exact part_at 2048 (by decide) _ _ _ p t l

theorem unit_heads_at (Y : FVec Ideal S2x16384x1024 .f32) (h : S2x16384x1024.ShapeCasts S2x16384x8x128) (p : Fin 2) (t : Fin 16384) (l : Fin 1024) :
    (unitR (shapeCast S2x16384x8x128 Y h) (ix4 p t ⟨l.val / 128, by omega⟩ ⟨l.val % 128, Nat.mod_lt _ (by decide)⟩) : EReal) = unitAt (fun d => Y (ix3 p t d)) l := by
  rw [unitR_at, heads_at]
  simp only [heads_at]
  have e : (⟨l.val / 128 * 128 + l.val % 128, by omega⟩ : Fin 1024) = l := Fin.ext (by dsimp only; omega)
  rw [e]
  rfl

theorem keys_eq (c : Dev nD) : Value.res_main_v75 m c = keys (m ((c.tc : Thread nD τ).loc main_arg0)) (m ((c.tc : Thread nD τ).loc main_arg2)) := by
  have e : Value.res_main_v75 m c = shapeCast S2x16384x1024 (unitR (shapeCast S2x16384x8x128 (extractStridedSlice S2x16384x1024 ![0, 0, 1024] (swishR (convR (m ((c.tc : Thread nD τ).loc main_arg0)) (m ((c.tc : Thread nD τ).loc main_arg2)))) slices_S2x16384x3072_S2x16384x1024_0_0_1024) shapeCasts_S2x16384x1024_S2x16384x8x128)) shapeCasts_S2x16384x8x128_S2x16384x1024 := by
    unfold Value.res_main_v75 unitR swishR convR; rfl
  rw [e]
  funext i
  obtain ⟨p, t, l, rfl⟩ : ∃ (p : Fin 2) (t : Fin 16384) (l : Fin 1024), i = ix3 p t l := ⟨i 0, i 1, i 2, eq_ix3 i⟩
  refine (joined_at _ _ p t l).trans ((unit_heads_at _ _ p t l).trans ?_)
  exact congrArg (fun y => unitAt y l) (funext fun d => part_at 1024 (by decide) _ _ _ p t d)

theorem scaled_at (Y : FVec Ideal S2x16384x8x128 .f32) (p : Fin 2) (t : Fin 16384) (h : Fin 8) (d : Fin 128) :
    (mulf Y (broadcastInDim S2x16384x8x128 ![] bcast_S_S2x16384x8x128 (constant S_ .f32 0x3DB504F3#32)) (ix4 p t h d) : EReal)
      = Y (ix4 p t h d) * Ideal.ofBits .f32 0x3DB504F3#32 := by
  pointwise

theorem queries_eq (c : Dev nD) : Value.res_main_v74 m c = queries (m ((c.tc : Thread nD τ).loc main_arg0)) (m ((c.tc : Thread nD τ).loc main_arg2)) := by
  have e : Value.res_main_v74 m c = shapeCast S2x16384x1024 (mulf (unitR (shapeCast S2x16384x8x128 (extractStridedSlice S2x16384x1024 ![0, 0, 0] (swishR (convR (m ((c.tc : Thread nD τ).loc main_arg0)) (m ((c.tc : Thread nD τ).loc main_arg2)))) slices_S2x16384x3072_S2x16384x1024_0_0_0) shapeCasts_S2x16384x1024_S2x16384x8x128)) (broadcastInDim S2x16384x8x128 ![] bcast_S_S2x16384x8x128 (constant S_ .f32 0x3DB504F3#32))) shapeCasts_S2x16384x8x128_S2x16384x1024 := by
    unfold Value.res_main_v74 unitR swishR convR; rfl
  rw [e]
  funext i
  obtain ⟨p, t, l, rfl⟩ : ∃ (p : Fin 2) (t : Fin 16384) (l : Fin 1024), i = ix3 p t l := ⟨i 0, i 1, i 2, eq_ix3 i⟩
  refine (joined_at _ _ p t l).trans ((scaled_at _ p t _ _).trans (congrArg (· * Ideal.ofBits .f32 0x3DB504F3#32) ((unit_heads_at _ _ p t l).trans ?_)))
  exact congrArg (fun y => unitAt y l) (funext fun d => part_at 0 (by decide) _ _ _ p t d)

/-- Eight numbers followed by zeros. -/
def tailR (a : FVec Ideal S8 .f32) : FVec Ideal S120 .f32 :=
  concatenate S120 0 [⟨S8, a⟩, ⟨S112, broadcastInDim S112 ![] bcast_S_S112 (constant S_ .f32 0x00000000#32)⟩] concatenates_S8_S112_S120_d0

def zerosR : FVec Ideal S2x16384x120 .f32 := broadcastInDim S2x16384x120 ![] bcast_S_S2x16384x120 (constant S_ .f32 0x00000000#32)

/-- A row for every token. -/
def spreadR (a : FVec Ideal S120 .f32) : FVec Ideal S2x16384x120 .f32 :=
  broadcastInDim S2x16384x120 ![0, 1, 2] bcast_S1x1x120_S2x16384x120_0_1_2 (broadcastInDim S1x1x120 ![2] bcast_S120_S1x1x120_2 a)

def softR (z : FVec Ideal S2x16384x120 .f32) : FVec Ideal S2x16384x120 .f32 :=
  select (cmpf .une (subf z zerosR) (subf z zerosR)) (addf z zerosR)
    (addf (maximumf z zerosR) (Host.log1p (Host.exp (Host.negf (Host.absf (subf z zerosR))))))

def betaR (S : FVec Ideal S2x16384x128 .f32) : FVec Ideal S2x16384x8 .f32 :=
  Host.divf (broadcastInDim S2x16384x8 ![] bcast_S_S2x16384x8 (constant S_ .f32 0x3F800000#32))
    (addf (broadcastInDim S2x16384x8 ![] bcast_S_S2x16384x8 (constant S_ .f32 0x3F800000#32))
      (Host.exp (Host.negf (extractStridedSlice S2x16384x8 ![0, 0, 0] S slices_S2x16384x128_S2x16384x8_0_0_0))))

def decayR (S : FVec Ideal S2x16384x128 .f32) (a d : FVec Ideal S8 .f32) : FVec Ideal S2x16384x120 .f32 :=
  mulf (spreadR (Host.negf (Host.exp (tailR a))))
    (softR (addf (extractStridedSlice S2x16384x120 ![0, 0, 8] S slices_S2x16384x128_S2x16384x120_0_0_8) (spreadR (tailR d))))

/-- The lanes of beta and of the log-decay as the reference's operations spell them. -/
def gatesR (S : FVec Ideal S2x16384x128 .f32) (a d : FVec Ideal S8 .f32) : FVec Ideal S2x16384x128 .f32 :=
  concatenate S2x16384x128 2 [⟨S2x16384x8, betaR S⟩, ⟨S2x16384x120, decayR S a d⟩] concatenates_S2x16384x8_S2x16384x120_S2x16384x128_d2

theorem tailR_at (a : FVec Ideal S8 .f32) (l : Fin 120) : (tailR a (ix1 l) : EReal) = onLanes a ⟨l.val + 8, by omega⟩ := by
  pointwise [tailR, onLanes]
  split_ifs <;> first | omega | rfl

theorem softR_at (z : FVec Ideal S2x16384x120 .f32) (p : Fin 2) (t : Fin 16384) (l : Fin 120) :
    (softR z (ix3 p t l) : EReal) = softplus (z (ix3 p t l)) := by
  pointwise [softR, zerosR, softplus]
  rw [if_neg (by simp)]
  rfl

theorem spreadR_at (a : FVec Ideal S120 .f32) (p : Fin 2) (t : Fin 16384) (l : Fin 120) : (spreadR a (ix3 p t l) : EReal) = a (ix1 l) := by
  pointwise [spreadR]

theorem betaR_at (S : FVec Ideal S2x16384x128 .f32) (p : Fin 2) (t : Fin 16384) (l : Fin 8) :
    (betaR S (ix3 p t l) : EReal) = sigmoid (S (ix3 p t ⟨l.val, by omega⟩)) := by
  pointwise [betaR, sigmoid]
  simp only [sub_eq_add_neg, zero_add]

theorem decayR_at (S : FVec Ideal S2x16384x128 .f32) (a d : FVec Ideal S8 .f32) (p : Fin 2) (t : Fin 16384) (l : Fin 120) :
    (decayR S a d (ix3 p t l) : EReal) = (-Ideal.exp (onLanes a ⟨l.val + 8, by omega⟩)) * softplus (S (ix3 p t ⟨l.val + 8, by omega⟩) + onLanes d ⟨l.val + 8, by omega⟩) := by
  show (spreadR (Host.negf (Host.exp (tailR a))) (ix3 p t l) : EReal) * softR _ (ix3 p t l) = _
  rw [softR_at, spreadR_at]
  show (-Ideal.exp (tailR a (ix1 l))) * softplus (extractStridedSlice S2x16384x120 ![0, 0, 8] S slices_S2x16384x128_S2x16384x120_0_0_8 (ix3 p t l) + spreadR (tailR d) (ix3 p t l)) = _
  rw [tailR_at, spreadR_at, tailR_at]
  refine congrArg (fun s => (-Ideal.exp (onLanes a ⟨l.val + 8, by omega⟩)) * softplus (s + _)) ?_
  pointwise
  exact congrArg S (congrArg (fun s => ix3 p t s) (Fin.ext (Nat.add_comm 8 _)))

theorem gates_eq (S : FVec Ideal S2x16384x128 .f32) (a d : FVec Ideal S8 .f32) : gatesR S a d = gates S a d := by
  funext i
  obtain ⟨p, t, l, rfl⟩ : ∃ (p : Fin 2) (t : Fin 16384) (l : Fin 128), i = ix3 p t l := ⟨i 0, i 1, i 2, eq_ix3 i⟩
  show (gatesR S a d (ix3 p t l) : EReal) = gateAt (S (ix3 p t l)) (onLanes a) (onLanes d) l
  unfold gatesR gateAt
  have eb := betaR_at S p t
  have ed := decayR_at S a d p t
  generalize betaR S = B at eb ⊢
  generalize decayR S a d = D at ed ⊢
  pointwise
  split_ifs with hl
  · exact eb ⟨l.val, hl⟩
  · refine (ed ⟨l.val - 8, by omega⟩).trans ?_
    have e : (⟨l.val - 8 + 8, by omega⟩ : Fin 128) = l := Fin.ext (by dsimp only; omega)
    simp only [e]
  · exact absurd rfl ‹_›

/-- The reference leaves the queries, keys, values and gates, and its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v74) = queries (m ((c.tc : Thread nD τ).loc main_arg0)) (m ((c.tc : Thread nD τ).loc main_arg2))
      ∧ r.2.mem ((c.tc : Thread nD τ).loc main_v75) = keys (m ((c.tc : Thread nD τ).loc main_arg0)) (m ((c.tc : Thread nD τ).loc main_arg2))
      ∧ r.2.mem ((c.tc : Thread nD τ).loc main_v33) = values (m ((c.tc : Thread nD τ).loc main_arg0)) (m ((c.tc : Thread nD τ).loc main_arg2))
      ∧ r.2.mem ((c.tc : Thread nD τ).loc main_v76) = gates (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (queries_eq m c), (h c).2.1.trans (keys_eq m c), (h c).2.2.1.trans (values_eq m c),
    (h c).2.2.2.1.trans (gates_eq _ _ _), (h c).2.2.2.2⟩) (Value.run m ρ)

end Cert.Reference10Ideal.Rows

end
-- ==== Proof.Layer.PrepPay.lean ====
/-
  One step of the kernel that prepares the delta rule: the convolution over a tile with the rows before it, the heads over their
  length, and the gates.
-/
module

public import proofs.«01_k».proof.Proof.Gen.Kernel10Ideal.Frame
public import proofs.«01_k».proof.Proof.Layer.Prep
public import Idealize.ShloMosaic.Lib.Routing.OpsSet

@[expose] public section

set_option maxRecDepth 16384

noncomputable section

open Idealize.ShloMosaic Idealize.ShloMosaic.TcCoe Idealize.SL.Sem

namespace Layer

/-- A tile's rows after the eight rows before it, those taken `keep` times. -/
def wide (keep : EReal) (h : Fin 8 → EReal) (x : Fin 256 → EReal) (r : Fin 264) : EReal :=
  if c : r.val < 8 then h ⟨r.val, c⟩ * keep else x ⟨r.val - 8, by omega⟩

/-- The convolution and swish at a row of the tile. -/
def tileAt (keep : EReal) (h : Fin 8 → EReal) (x : Fin 256 → EReal) (w : Fin 4 → EReal) (i : Fin 256) : EReal :=
  swish (wide keep h x ⟨5 + i.val, by omega⟩ * w 0 + wide keep h x ⟨6 + i.val, by omega⟩ * w 1 + wide keep h x ⟨7 + i.val, by omega⟩ * w 2 + x i * w 3)

/-- The rows before a tile are those of the tile before it, and nothing before the first. -/
theorem wide_back (T : ℕ) (hT : T < 64) (X : Fin 16384 → EReal) (keep : EReal) (h : Fin 8 → EReal) (x : Fin 256 → EReal)
    (hk : keep = if T = 0 then 0 else 1) (hh : ∀ (hp : 0 < T) (j : Fin 8), h j = X ⟨256 * T - 8 + j.val, by omega⟩)
    (hx : ∀ j : Fin 256, x j = X ⟨256 * T + j.val, by omega⟩) (o k : ℕ) (hok : o + k = 8) (i : Fin 256) :
    wide keep h x ⟨o + i.val, by omega⟩ = back X k ⟨256 * T + i.val, by omega⟩ := by
  unfold wide back
  by_cases c : o + i.val < 8
  · rw [dif_pos c]
    rcases Nat.eq_zero_or_pos T with h0 | h0
    · rw [hk, if_pos h0, mul_zero, dif_pos (show 256 * T + i.val < k by omega)]
    · rw [hk, if_neg (by omega), mul_one, hh h0, dif_neg (show ¬ 256 * T + i.val < k by omega)]
      exact congrArg X (Fin.ext (by show 256 * T - 8 + (o + i.val) = 256 * T + i.val - k; omega))
  · rw [dif_neg c, hx, dif_neg (show ¬ 256 * T + i.val < k by omega)]
    exact congrArg X (Fin.ext (by show 256 * T + (o + i.val - 8) = 256 * T + i.val - k; omega))

theorem tileAt_eq (T : ℕ) (hT : T < 64) (X : Fin 16384 → EReal) (keep : EReal) (h : Fin 8 → EReal) (x : Fin 256 → EReal)
    (hk : keep = if T = 0 then 0 else 1) (hh : ∀ (hp : 0 < T) (j : Fin 8), h j = X ⟨256 * T - 8 + j.val, by omega⟩)
    (hx : ∀ j : Fin 256, x j = X ⟨256 * T + j.val, by omega⟩) (w : Fin 4 → EReal) (i : Fin 256) :
    tileAt keep h x w i = swish (short X w ⟨256 * T + i.val, by omega⟩) := by
  unfold tileAt short
  rw [wide_back T hT X keep h x hk hh hx 5 3 rfl i, wide_back T hT X keep h x hk hh hx 6 2 rfl i, wide_back T hT X keep h x hk hh hx 7 1 rfl i, hx i]
  rfl

/-- The lanes from `o` on over their length. -/
def headAt (o : ℕ) (ho : o ≤ 896) (y : Fin 1024 → EReal) (d : Fin 128) : EReal :=
  y ⟨o + d.val, by omega⟩ * Ideal.rsqrt (∑ e : Fin 128, y ⟨o + e.val, by omega⟩ * y ⟨o + e.val, by omega⟩ + Ideal.ofBits .f32 0x358637BD#32)

theorem headAt_eq (o : ℕ) (ho : o ≤ 896) (hd : o % 128 = 0) (y : Fin 1024 → EReal) (d : Fin 128) :
    headAt o ho y d = unitAt y ⟨o + d.val, by omega⟩ := by
  have hm : ∀ e : Fin 128, peer ⟨o + d.val, by omega⟩ e = ⟨o + e.val, by omega⟩ := fun e => Fin.ext (by
    show (o + d.val) / 128 * 128 + e.val = o + e.val; omega)
  unfold headAt unitAt
  simp only [hm]

end Layer

namespace Cert.Kernel10Ideal.Rows

open Cert.Kernel10Ideal Cert.Kernel10Ideal.Gen Layer

theorem pay2_at (i : grid0.Coords) (h : Vec Ideal S1x8x1024 .f32) (x : Vec Ideal S1x256x1024 .f32) (w0 w1 w2 w3 : Vec Ideal S1x1024 .f32) (r : Fin 256) (l : Fin 1024) :
    (k0_pay2 i h x w0 w1 w2 w3 (ix2 r l) : EReal) = tileAt (k0_pay1 (F := Ideal) i) (fun j => h (ix3 0 j l)) (fun j => x (ix3 0 j l))
      ![w0 (ix2 0 l), w1 (ix2 0 l), w2 (ix2 0 l), w3 (ix2 0 l)] r := by
  pointwise [k0_pay2, tileAt, wide, swish, sigmoid]

theorem pay15_at (keep : Ideal .f32) (h : Vec Ideal S1x8x1024 .f32) (x : Vec Ideal S1x256x1024 .f32) (w0 w1 w2 w3 : Vec Ideal S1x1024 .f32) (r : Fin 256) (l : Fin 1024) :
    (k0_pay15 (k0_pay13 keep h) (k0_pay14 x) w0 w1 w2 w3 (ix2 r l) : EReal) = tileAt keep (fun j => h (ix3 0 j l)) (fun j => x (ix3 0 j l))
      ![w0 (ix2 0 l), w1 (ix2 0 l), w2 (ix2 0 l), w3 (ix2 0 l)] r := by
  pointwise [k0_pay15, k0_pay13, k0_pay14, tileAt, wide, swish, sigmoid]

theorem pay27_at (keep : Ideal .f32) (h : Vec Ideal S1x8x1024 .f32) (x : Vec Ideal S1x256x1024 .f32) (w0 w1 w2 w3 : Vec Ideal S1x1024 .f32) (r : Fin 256) (l : Fin 1024) :
    (k0_pay28 (k0_pay27 keep h x w0 w1 w2 w3) (ix3 0 r l) : EReal) = tileAt keep (fun j => h (ix3 0 j l)) (fun j => x (ix3 0 j l))
      ![w0 (ix2 0 l), w1 (ix2 0 l), w2 (ix2 0 l), w3 (ix2 0 l)] r := by
  pointwise [k0_pay28, k0_pay27, tileAt, wide, swish, sigmoid]

theorem pay3_at (Y : FVec Ideal S256x1024 .f32) (i : Fin 256) (d : Fin 128) :
    (k0_pay3 Y (ix3 0 i d) : EReal) = headAt 0 (by decide) (fun l => Y (ix2 i l)) d * Ideal.ofBits .f32 0x3DB504F3#32 := by
  pointwise [k0_pay3, headAt]

theorem pay4_at (Y : FVec Ideal S256x1024 .f32) (i : Fin 256) (d : Fin 128) :
    (k0_pay4 Y (ix3 0 i d) : EReal) = headAt 128 (by decide) (fun l => Y (ix2 i l)) d * Ideal.ofBits .f32 0x3DB504F3#32 := by
  pointwise [k0_pay4, headAt]

theorem pay6_at (Y : FVec Ideal S256x1024 .f32) (i : Fin 256) (d : Fin 128) :
    (k0_pay6 (k0_pay5 Y) (ix3 0 i d) : EReal) = headAt 256 (by decide) (fun l => Y (ix2 i l)) d * Ideal.ofBits .f32 0x3DB504F3#32 := by
  pointwise [k0_pay6, k0_pay5, headAt]

theorem pay7_at (Y : FVec Ideal S256x1024 .f32) (i : Fin 256) (d : Fin 128) :
    (k0_pay7 Y (ix3 0 i d) : EReal) = headAt 384 (by decide) (fun l => Y (ix2 i l)) d * Ideal.ofBits .f32 0x3DB504F3#32 := by
  pointwise [k0_pay7, headAt]

theorem pay8_at (Y : FVec Ideal S256x1024 .f32) (i : Fin 256) (d : Fin 128) :
    (k0_pay8 Y (ix3 0 i d) : EReal) = headAt 512 (by decide) (fun l => Y (ix2 i l)) d * Ideal.ofBits .f32 0x3DB504F3#32 := by
  pointwise [k0_pay8, headAt]

theorem pay10_at (Y : FVec Ideal S256x1024 .f32) (i : Fin 256) (d : Fin 128) :
    (k0_pay10 (k0_pay9 Y) (ix3 0 i d) : EReal) = headAt 640 (by decide) (fun l => Y (ix2 i l)) d * Ideal.ofBits .f32 0x3DB504F3#32 := by
  pointwise [k0_pay10, k0_pay9, headAt]

theorem pay11_at (Y : FVec Ideal S256x1024 .f32) (i : Fin 256) (d : Fin 128) :
    (k0_pay11 Y (ix3 0 i d) : EReal) = headAt 768 (by decide) (fun l => Y (ix2 i l)) d * Ideal.ofBits .f32 0x3DB504F3#32 := by
  pointwise [k0_pay11, headAt]

theorem pay12_at (Y : FVec Ideal S256x1024 .f32) (i : Fin 256) (d : Fin 128) :
    (k0_pay12 Y (ix3 0 i d) : EReal) = headAt 896 (by decide) (fun l => Y (ix2 i l)) d * Ideal.ofBits .f32 0x3DB504F3#32 := by
  pointwise [k0_pay12, headAt]

theorem pay16_at (h : FVec Ideal S8x1024 .f32) (x : FVec Ideal S256x1024 .f32) (w0 w1 w2 w3 : Vec Ideal S1x1024 .f32) (i : Fin 256) (d : Fin 128) :
    (k0_pay16 h x w0 w1 w2 w3 (ix3 0 i d) : EReal) = headAt 0 (by decide) (fun l => k0_pay15 h x w0 w1 w2 w3 (ix2 i l)) d := by
  unfold k0_pay16
  generalize k0_pay15 h x w0 w1 w2 w3 = Y
  pointwise [headAt]

theorem pay17_at (Y : FVec Ideal S256x1024 .f32) (i : Fin 256) (d : Fin 128) :
    (k0_pay17 Y (ix3 0 i d) : EReal) = headAt 128 (by decide) (fun l => Y (ix2 i l)) d := by
  pointwise [k0_pay17, headAt]

theorem pay18_at (Y : FVec Ideal S256x1024 .f32) (i : Fin 256) (d : Fin 128) :
    (k0_pay18 Y (ix3 0 i d) : EReal) = headAt 256 (by decide) (fun l => Y (ix2 i l)) d := by
  pointwise [k0_pay18, headAt]

theorem pay19_at (Y : FVec Ideal S256x1024 .f32) (i : Fin 256) (d : Fin 128) :
    (k0_pay19 Y (ix3 0 i d) : EReal) = headAt 384 (by decide) (fun l => Y (ix2 i l)) d := by
  pointwise [k0_pay19, headAt]

theorem pay22_at (Y : FVec Ideal S256x1024 .f32) (i : Fin 256) (d : Fin 128) :
    (k0_pay22 (k0_pay20 Y) (k0_pay21 Y) (Scalar.ofBits .f32 0x358637BD#32) (ix3 0 i d) : EReal) = headAt 512 (by decide) (fun l => Y (ix2 i l)) d := by
  pointwise [k0_pay22, k0_pay21, k0_pay20, headAt]

theorem pay23_at (Y : FVec Ideal S256x1024 .f32) (i : Fin 256) (d : Fin 128) :
    (k0_pay23 Y (ix3 0 i d) : EReal) = headAt 640 (by decide) (fun l => Y (ix2 i l)) d := by
  pointwise [k0_pay23, headAt]

theorem pay24_at (Y : FVec Ideal S256x1024 .f32) (i : Fin 256) (d : Fin 128) :
    (k0_pay24 Y (ix3 0 i d) : EReal) = headAt 768 (by decide) (fun l => Y (ix2 i l)) d := by
  pointwise [k0_pay24, headAt]

theorem pay26_at (Y : FVec Ideal S256x1024 .f32) (i : Fin 256) (d : Fin 128) :
    (k0_pay26 (k0_pay25 Y) (ix3 0 i d) : EReal) = headAt 896 (by decide) (fun l => Y (ix2 i l)) d := by
  pointwise [k0_pay26, k0_pay25, headAt]

theorem pay29_at (s : Vec Ideal S1x256x128 .f32) (dt al : Vec Ideal S1x128 .f32) (i : Fin 256) (l : Fin 128) :
    (k0_pay29 s dt al (ix3 0 i l) : EReal) = gateAt (s (ix3 0 i l)) (fun b => al (ix2 0 b)) (fun b => dt (ix2 0 b)) l := by
  have hc : IntOp.cmpi CmpIPredicate.slt (BitVec.ofNat 32 l.val) 8#32 = if l.val < 8 then 1#1 else 0#1 := by
    revert l; decide +kernel
  pointwise [k0_pay29, gateAt, sigmoid, softplus]
  rw [hc]
  by_cases hl : l.val < 8
  · rw [if_pos hl, if_pos hl]; rfl
  · rw [if_neg hl, if_neg hl]
    simp only [sub_eq_add_neg, zero_add]
    rfl

/-- The index words of the two arrays the host scatters into. -/
def words : IVec S2 32 :=
  concatenate S2 0 [⟨S1, broadcastInDim S1 ![] bcast_S_S1 (constantI S_ 32 0#32)⟩, ⟨S1, broadcastInDim S1 ![] bcast_S_S1 (constantI S_ 32 8#32)⟩] concatenates_S1_S1_S2_d0

/-- Eight numbers on the lanes 8 to 15, as the host spells it. -/
def lanes (a : FVec Ideal S8 .f32) : FVec Ideal S1x128 .f32 :=
  Host.scatter scatter_S1x128_S2_S8_0_0_01_0 (fun _ b => b) (broadcastInDim S1x128 ![] bcast_S_S1x128 (constant S_ .f32 0x00000000#32)) words a

theorem words_eq : words = fun k => if (k 0).val = 0 then 0#32 else 8#32 := by
  funext k
  obtain ⟨j, rfl⟩ : ∃ j : Fin 2, k = ix1 j := ⟨k 0, eq_ix1 k⟩
  pointwise [words]
  fin_cases j <;> rfl

theorem lands (k : Fin 8) : scatter_S1x128_S2_S8_0_0_01_0.resultIdx? (ix1 k) words = some (ix2 (0 : Fin 1) (⟨8 + k.val, by omega⟩ : Fin 128)) := by
  rw [words_eq]
  revert k
  decide +kernel

theorem lanes_at (a : FVec Ideal S8 .f32) (l : Fin 128) : (lanes a (ix2 0 l) : EReal) = onLanes a l := by
  have inj : ∀ k : Fin 8, (ix2 (0 : Fin 1) (⟨8 + k.val, by omega⟩ : Fin 128) : S1x128.Idx) = ix2 0 l → 8 + k.val = l.val :=
    fun k h => congrArg Fin.val (congrFun h 1)
  unfold lanes onLanes
  by_cases h : 8 ≤ l.val ∧ l.val < 16
  · rw [dif_pos h]
    refine Routing.scatter_set_hit _ _ _ _ _ _ (fun k hk => ?_) (ix1 ⟨l.val - 8, by omega⟩) ?_
    · obtain ⟨j, rfl⟩ : ∃ j : Fin 8, k = ix1 j := ⟨k 0, eq_ix1 k⟩
      rw [lands j] at hk
      have := inj j (Option.some.inj hk)
      exact congrArg a (congrArg ix1 (Fin.ext (by show j.val = l.val - 8; omega)))
    · rw [lands]
      exact congrArg some (congrArg (ix2 (0 : Fin 1)) (Fin.ext (by show 8 + (l.val - 8) = l.val; omega)))
  · rw [dif_neg h]
    refine (Routing.scatter_set_miss _ _ _ _ _ (fun k hk => ?_)).trans ?_
    · obtain ⟨j, rfl⟩ : ∃ j : Fin 8, k = ix1 j := ⟨k 0, eq_ix1 k⟩
      rw [lands j] at hk
      have := inj j (Option.some.inj hk)
      omega
    · pointwise

/-- The rows before a tile count except before the first. -/
theorem keep_at (i : grid0.Coords) : (k0_pay1 (F := Ideal) i : EReal) = if (i 1).val = 0 then 0 else 1 := by
  have hc : ∀ n : Fin 64, Scalar.extui (Scalar.cmpi .sgt (BitVec.ofNat 32 n.val) 0#32) = if n.val = 0 then 0#32 else 1#32 := by decide +kernel
  have e := hc (i 1)
  show (((Scalar.extui (Scalar.cmpi .sgt (BitVec.ofNat 32 (i 1).val) 0#32) : BitVec 32).toInt : ℝ) : EReal) = _
  rw [e]
  split_ifs <;> simp

end Cert.Kernel10Ideal.Rows

end
-- ==== Proof.Layer.PrepCall.lean ====
/-
  The kernel that prepares the delta rule, from its blocks to its four results.
-/
module

public import proofs.«01_k».proof.Proof.Gen.Kernel10Ideal.Value
public import proofs.«01_k».proof.Proof.Layer.PrepPay

@[expose] public section

set_option maxRecDepth 16384

noncomputable section

open Idealize.ShloMosaic Idealize.ShloMosaic.TcCoe Idealize.SL.Sem

namespace Cert.Kernel10Ideal.Rows

open Cert.Kernel10Ideal Cert.Kernel10Ideal.Gen Layer

/-- The tile's convolution at a row, for the lanes from `o` on. -/
def rawAt (o : ℕ) (ho : o ≤ 2048) (keep : EReal) (x0 : Vec Ideal S1x256x3072 .f32) (x1 : Vec Ideal S1x8x3072 .f32) (x2 : Vec Ideal S4x3072 .f32)
    (r : Fin 256) (l : Fin 1024) : EReal :=
  tileAt keep (fun j => x1 (ix3 0 j ⟨o + l.val, by omega⟩)) (fun j => x0 (ix3 0 j ⟨o + l.val, by omega⟩)) (fun k => x2 (ix2 k ⟨o + l.val, by omega⟩)) r

theorem ldH (x : Vec Ideal S1x8x3072 .f32) (o : ℕ) (ho : o ≤ 2048) (q) (j : Fin 8) (l : Fin 1024) :
    View.ld x (Rect.unit (s := S1x8x3072) ![0, 0, o] S1x8x1024.size q) (ix3 0 j l) = x (ix3 0 j ⟨o + l.val, by omega⟩) :=
  View.ld_unit_apply_of _ _ _ _ _ _ (by intro a; fin_cases a <;> first | rfl | exact (Nat.zero_add _).symm)

theorem ldX (x : Vec Ideal S1x256x3072 .f32) (o : ℕ) (ho : o ≤ 2048) (q) (j : Fin 256) (l : Fin 1024) :
    View.ld x (Rect.unit (s := S1x256x3072) ![0, 0, o] S1x256x1024.size q) (ix3 0 j l) = x (ix3 0 j ⟨o + l.val, by omega⟩) :=
  View.ld_unit_apply_of _ _ _ _ _ _ (by intro a; fin_cases a <;> first | rfl | exact (Nat.zero_add _).symm)

theorem ldW (x : Vec Ideal S4x3072 .f32) (k : Fin 4) (kn : ℕ) (hk : kn = k.val) (o : ℕ) (ho : o ≤ 2048) (q) (l : Fin 1024) :
    View.ld x (Rect.unit (s := S4x3072) ![kn, o] S1x1024.size q) (ix2 0 l) = x (ix2 k ⟨o + l.val, by omega⟩) :=
  View.ld_unit_apply_of _ _ _ _ _ _ (by intro a; fin_cases a <;> first | rfl | exact hk.symm | exact (Nat.zero_add _).symm)

theorem tile_rawAt (o : ℕ) (ho : o ≤ 2048) (keep : EReal) (x0 : Vec Ideal S1x256x3072 .f32) (x1 : Vec Ideal S1x8x3072 .f32) (x2 : Vec Ideal S4x3072 .f32)
    (qh qx q0 q1 q2 q3) (r : Fin 256) (l : Fin 1024) :
    tileAt keep (fun j => View.ld x1 (Rect.unit (s := S1x8x3072) ![0, 0, o] S1x8x1024.size qh) (ix3 0 j l))
      (fun j => View.ld x0 (Rect.unit (s := S1x256x3072) ![0, 0, o] S1x256x1024.size qx) (ix3 0 j l))
      ![View.ld x2 (Rect.unit (s := S4x3072) ![0, o] S1x1024.size q0) (ix2 0 l), View.ld x2 (Rect.unit (s := S4x3072) ![1, o] S1x1024.size q1) (ix2 0 l),
        View.ld x2 (Rect.unit (s := S4x3072) ![2, o] S1x1024.size q2) (ix2 0 l), View.ld x2 (Rect.unit (s := S4x3072) ![3, o] S1x1024.size q3) (ix2 0 l)] r
      = rawAt o ho keep x0 x1 x2 r l := by
  unfold rawAt
  simp only [ldH x1 o ho, ldX x0 o ho, ldW x2 0 0 rfl o ho, ldW x2 1 1 rfl o ho, ldW x2 2 2 rfl o ho, ldW x2 3 3 rfl o ho]
  refine congrArg (fun w => tileAt keep _ _ w r) (funext fun k => ?_)
  fin_cases k <;> rfl

variable (g : grid0.Coords) (x0 : Vec Ideal S1x256x3072 .f32) (x1 : Vec Ideal S1x8x3072 .f32) (x2 : Vec Ideal S4x3072 .f32)
  (x3 : Vec Ideal S1x256x128 .f32) (x4 x5 : Vec Ideal S1x128 .f32)

theorem pay30_at (r : Fin 256) (l : Fin 1024) :
    (k0_pay30 g x0 x1 x2 x3 x4 x5 (ix2 r l) : EReal) = rawAt 0 (by decide) (k0_pay1 (F := Ideal) g) x0 x1 x2 r l :=
  (pay2_at g _ _ _ _ _ _ r l).trans (tile_rawAt 0 (by decide) _ x0 x1 x2 _ _ _ _ _ _ r l)

theorem pay33_at (r : Fin 256) (l : Fin 1024) :
    (k0_pay33 g x0 x1 x2 x3 x4 x5 (ix2 r l) : EReal) = rawAt 1024 (by decide) (k0_pay1 (F := Ideal) g) x0 x1 x2 r l :=
  (pay15_at _ _ _ _ _ _ _ r l).trans (tile_rawAt 1024 (by decide) _ x0 x1 x2 _ _ _ _ _ _ r l)

/-- The block of queries at a row and a lane. -/
def blockQ (y : S1x256x1024.Idx) : EReal :=
  unitAt (rawAt 0 (by decide) (k0_pay1 (F := Ideal) g) x0 x1 x2 (y 1)) (y 2) * Ideal.ofBits .f32 0x3DB504F3#32

/-- The block of keys at a row and a lane. -/
def blockK (y : S1x256x1024.Idx) : EReal :=
  unitAt (rawAt 1024 (by decide) (k0_pay1 (F := Ideal) g) x0 x1 x2 (y 1)) (y 2)

theorem emb (o : ℕ) (h : o ≤ 896) (q) (i : Fin 256) (d : Fin 128) :
    (Rect.unit (s := S1x256x1024) ![0, 0, o] S1x256x128.size q).emb (ix3 0 i d) = ix3 0 i ⟨o + d.val, by omega⟩ := by
  funext a; refine Fin.ext ((Rect.idx_unit_val _ _ _ _ a).trans ?_)
  fin_cases a <;> first | rfl | exact Nat.zero_add _

theorem headQ (o : ℕ) (ho : o ≤ 896) (hd : o % 128 = 0) (i : Fin 256) (d : Fin 128) :
    headAt o ho (fun l => (k0_pay30 g x0 x1 x2 x3 x4 x5 (ix2 i l) : EReal)) d * Ideal.ofBits .f32 0x3DB504F3#32
      = blockQ g x0 x1 x2 (ix3 0 i ⟨o + d.val, by omega⟩) := by
  simp only [pay30_at]
  rw [headAt_eq o ho hd]
  rfl

theorem headK (o : ℕ) (ho : o ≤ 896) (hd : o % 128 = 0) (i : Fin 256) (d : Fin 128) :
    headAt o ho (fun l => (k0_pay33 g x0 x1 x2 x3 x4 x5 (ix2 i l) : EReal)) d = blockK g x0 x1 x2 (ix3 0 i ⟨o + d.val, by omega⟩) := by
  simp only [pay33_at]
  rw [headAt_eq o ho hd]
  rfl

theorem row_lane (x : S1x256x128.Idx) : ∃ (i : Fin 256) (d : Fin 128), x = ix3 0 i d :=
  ⟨x 1, x 2, by rw [Subsingleton.elim (0 : Fin 1) (x 0)]; exact eq_ix3 x⟩

theorem out6_at (y : S1x256x1024.Idx) : (out0_6 g x0 x1 x2 x3 x4 x5 y : EReal) = blockQ g x0 x1 x2 y := by
  refine View.canon_apply_of_pieces (Val := Elt Ideal) (S := S1x256x1024) (e := .f32) (blockQ g x0 x1 x2) _ (fun p hp x => ?_) y (cover0_6 _ _ _ _ _ _ _ _ y)
  simp only [List.mem_cons, List.not_mem_nil, or_false] at hp
  rcases hp with rfl | rfl | rfl | rfl | rfl | rfl | rfl | rfl
  · obtain ⟨i, d, rfl⟩ := row_lane x
    exact ((pay12_at _ i d).trans (headQ g x0 x1 x2 x3 x4 x5 896 (by decide) rfl i d)).trans (congrArg (blockQ g x0 x1 x2) (emb 896 (by decide) inb_S1x256x1024_S1x256x128_0_0_896 i d)).symm
  · obtain ⟨i, d, rfl⟩ := row_lane x
    exact ((pay11_at _ i d).trans (headQ g x0 x1 x2 x3 x4 x5 768 (by decide) rfl i d)).trans (congrArg (blockQ g x0 x1 x2) (emb 768 (by decide) inb_S1x256x1024_S1x256x128_0_0_768 i d)).symm
  · obtain ⟨i, d, rfl⟩ := row_lane x
    exact ((pay10_at _ i d).trans (headQ g x0 x1 x2 x3 x4 x5 640 (by decide) rfl i d)).trans (congrArg (blockQ g x0 x1 x2) (emb 640 (by decide) inb_S1x256x1024_S1x256x128_0_0_640 i d)).symm
  · obtain ⟨i, d, rfl⟩ := row_lane x
    exact ((pay8_at _ i d).trans (headQ g x0 x1 x2 x3 x4 x5 512 (by decide) rfl i d)).trans (congrArg (blockQ g x0 x1 x2) (emb 512 (by decide) inb_S1x256x1024_S1x256x128_0_0_512 i d)).symm
  · obtain ⟨i, d, rfl⟩ := row_lane x
    exact ((pay7_at _ i d).trans (headQ g x0 x1 x2 x3 x4 x5 384 (by decide) rfl i d)).trans (congrArg (blockQ g x0 x1 x2) (emb 384 (by decide) inb_S1x256x1024_S1x256x128_0_0_384 i d)).symm
  · obtain ⟨i, d, rfl⟩ := row_lane x
    exact ((pay6_at _ i d).trans (headQ g x0 x1 x2 x3 x4 x5 256 (by decide) rfl i d)).trans (congrArg (blockQ g x0 x1 x2) (emb 256 (by decide) inb_S1x256x1024_S1x256x128_0_0_256 i d)).symm
  · obtain ⟨i, d, rfl⟩ := row_lane x
    exact ((pay4_at _ i d).trans (headQ g x0 x1 x2 x3 x4 x5 128 (by decide) rfl i d)).trans (congrArg (blockQ g x0 x1 x2) (emb 128 (by decide) inb_S1x256x1024_S1x256x128_0_0_128 i d)).symm
  · obtain ⟨i, d, rfl⟩ := row_lane x
    exact ((pay3_at _ i d).trans (headQ g x0 x1 x2 x3 x4 x5 0 (by decide) rfl i d)).trans (congrArg (blockQ g x0 x1 x2) (emb 0 (by decide) inb_S1x256x1024_S1x256x128_0_0_0 i d)).symm

theorem out7_at (y : S1x256x1024.Idx) : (out0_7 g x0 x1 x2 x3 x4 x5 y : EReal) = blockK g x0 x1 x2 y := by
  refine View.canon_apply_of_pieces (Val := Elt Ideal) (S := S1x256x1024) (e := .f32) (blockK g x0 x1 x2) _ (fun p hp x => ?_) y (cover0_7 _ _ _ _ _ _ _ _ y)
  simp only [List.mem_cons, List.not_mem_nil, or_false] at hp
  rcases hp with rfl | rfl | rfl | rfl | rfl | rfl | rfl | rfl
  · obtain ⟨i, d, rfl⟩ := row_lane x
    exact ((pay26_at _ i d).trans (headK g x0 x1 x2 x3 x4 x5 896 (by decide) rfl i d)).trans (congrArg (blockK g x0 x1 x2) (emb 896 (by decide) inb_S1x256x1024_S1x256x128_0_0_896 i d)).symm
  · obtain ⟨i, d, rfl⟩ := row_lane x
    exact ((pay24_at _ i d).trans (headK g x0 x1 x2 x3 x4 x5 768 (by decide) rfl i d)).trans (congrArg (blockK g x0 x1 x2) (emb 768 (by decide) inb_S1x256x1024_S1x256x128_0_0_768 i d)).symm
  · obtain ⟨i, d, rfl⟩ := row_lane x
    exact ((pay23_at _ i d).trans (headK g x0 x1 x2 x3 x4 x5 640 (by decide) rfl i d)).trans (congrArg (blockK g x0 x1 x2) (emb 640 (by decide) inb_S1x256x1024_S1x256x128_0_0_640 i d)).symm
  · obtain ⟨i, d, rfl⟩ := row_lane x
    exact ((pay22_at _ i d).trans (headK g x0 x1 x2 x3 x4 x5 512 (by decide) rfl i d)).trans (congrArg (blockK g x0 x1 x2) (emb 512 (by decide) inb_S1x256x1024_S1x256x128_0_0_512 i d)).symm
  · obtain ⟨i, d, rfl⟩ := row_lane x
    exact ((pay19_at _ i d).trans (headK g x0 x1 x2 x3 x4 x5 384 (by decide) rfl i d)).trans (congrArg (blockK g x0 x1 x2) (emb 384 (by decide) inb_S1x256x1024_S1x256x128_0_0_384 i d)).symm
  · obtain ⟨i, d, rfl⟩ := row_lane x
    exact ((pay18_at _ i d).trans (headK g x0 x1 x2 x3 x4 x5 256 (by decide) rfl i d)).trans (congrArg (blockK g x0 x1 x2) (emb 256 (by decide) inb_S1x256x1024_S1x256x128_0_0_256 i d)).symm
  · obtain ⟨i, d, rfl⟩ := row_lane x
    exact ((pay17_at _ i d).trans (headK g x0 x1 x2 x3 x4 x5 128 (by decide) rfl i d)).trans (congrArg (blockK g x0 x1 x2) (emb 128 (by decide) inb_S1x256x1024_S1x256x128_0_0_128 i d)).symm
  · obtain ⟨i, d, rfl⟩ := row_lane x
    exact ((pay16_at _ _ _ _ _ _ i d).trans (headK g x0 x1 x2 x3 x4 x5 0 (by decide) rfl i d)).trans (congrArg (blockK g x0 x1 x2) (emb 0 (by decide) inb_S1x256x1024_S1x256x128_0_0_0 i d)).symm

/-- Where the windows' blocks lie, decided. -/
theorem idx_val : ∀ t : Fin cfg0.N, win0_0.index t = ![t.val / 64, t.val % 64, 0] ∧ win0_1.index t = ![t.val / 64, t.val % 64 * 32 - 1, 0]
    ∧ win0_2.index t = ![0, 0] ∧ win0_3.index t = ![t.val / 64, t.val % 64, 0] ∧ win0_4.index t = ![0, 0] ∧ win0_5.index t = ![0, 0]
    ∧ win0_6.index t = ![t.val / 64, t.val % 64, 0] ∧ win0_7.index t = ![t.val / 64, t.val % 64, 0]
    ∧ win0_8.index t = ![t.val / 64, t.val % 64, 0] ∧ win0_9.index t = ![t.val / 64, t.val % 64, 0] ∧ (grid0.coords t 1).val = t.val % 64 :=
  (by decide +kernel : ∀ t : Fin grid0.N, _)

/-- The batch row of point `t`, and the token that row `i` of its block is. -/
abbrev batch (t : Fin cfg0.N) : Fin 2 := ⟨t.val / 64, by have := lt_of_lt_of_eq t.isLt N_0; omega⟩
abbrev token (t : Fin cfg0.N) (i : Fin 256) : Fin 16384 := ⟨256 * (t.val % 64) + i.val, by omega⟩

variable (m : (ℓ : Loc nD τ sig) → Buf (Elt Ideal) ℓ)

theorem blkX (c : Dev nD) (t : Fin cfg0.N) (i : Fin 256) (l : Fin 3072) :
    (iblk m c 0 t (ix3 0 i l) : EReal) = m ((c : Thread nD τ).loc main_arg0) (ix3 (batch t) (token t i) l) := by
  have e := (idx_val t).1
  have e0 : win0_0.index t 0 = t.val / 64 := by rw [e]; rfl
  have e1 : win0_0.index t 1 = t.val % 64 := by rw [e]; rfl
  have e2 : win0_0.index t 2 = 0 := by rw [e]; rfl
  blk_simp [iblk, e]
  entry_read
  blk_ext [e0, e1, e2]

theorem blkH (c : Dev nD) (t : Fin cfg0.N) (h : 0 < t.val % 64) (j : Fin 8) (l : Fin 3072) :
    (iblk m c 1 t (ix3 0 j l) : EReal) = m ((c : Thread nD τ).loc main_arg0) (ix3 (batch t) ⟨256 * (t.val % 64) - 8 + j.val, by omega⟩ l) := by
  have e := (idx_val t).2.1
  have e0 : win0_1.index t 0 = t.val / 64 := by rw [e]; rfl
  have e1 : win0_1.index t 1 = t.val % 64 * 32 - 1 := by rw [e]; rfl
  have e2 : win0_1.index t 2 = 0 := by rw [e]; rfl
  blk_simp [iblk, e]
  entry_read
  blk_ext [e0, e1, e2]

theorem blkW (c : Dev nD) (t : Fin cfg0.N) (k : Fin 4) (l : Fin 3072) :
    (iblk m c 2 t (ix2 k l) : EReal) = m ((c : Thread nD τ).loc main_arg2) (ix2 k l) := by
  have e := (idx_val t).2.2.1
  have e0 : win0_2.index t 0 = 0 := by rw [e]; rfl
  have e1 : win0_2.index t 1 = 0 := by rw [e]; rfl
  blk_simp [iblk, e]
  entry_read
  blk_ext [e0, e1]

theorem blkS (c : Dev nD) (t : Fin cfg0.N) (i : Fin 256) (l : Fin 128) :
    (iblk m c 3 t (ix3 0 i l) : EReal) = m ((c : Thread nD τ).loc main_arg1) (ix3 (batch t) (token t i) l) := by
  have e := (idx_val t).2.2.2.1
  have e0 : win0_3.index t 0 = t.val / 64 := by rw [e]; rfl
  have e1 : win0_3.index t 1 = t.val % 64 := by rw [e]; rfl
  have e2 : win0_3.index t 2 = 0 := by rw [e]; rfl
  blk_simp [iblk, e]
  entry_read
  blk_ext [e0, e1, e2]

theorem entryA (c : Dev nD) : V m c main_v4 = lanes (m ((c : Thread nD τ).loc main_arg3)) := by
  unfold V
  simp only [hostOps0, List.flatten_cons, List.flatten_nil, List.append_nil, List.cons_append, List.nil_append]
  after_results_simp <;> rfl

theorem entryD (c : Dev nD) : V m c main_v9 = lanes (m ((c : Thread nD τ).loc main_arg4)) := by
  unfold V
  simp only [hostOps0, List.flatten_cons, List.flatten_nil, List.append_nil, List.cons_append, List.nil_append]
  after_results_simp <;> rfl

theorem blkA (c : Dev nD) (t : Fin cfg0.N) (l : Fin 128) : (iblk m c 4 t (ix2 0 l) : EReal) = onLanes (m ((c : Thread nD τ).loc main_arg3)) l := by
  have e := (idx_val t).2.2.2.2.1
  have e0 : win0_4.index t 0 = 0 := by rw [e]; rfl
  have e1 : win0_4.index t 1 = 0 := by rw [e]; rfl
  blk_simp [iblk, e]
  rw [entryA]
  have hy : ((View.whole main_v4).slice (win0_4.rect t)).emb (ix2 0 l) = ix2 0 l := by blk_ext [e0, e1]
  exact (congrArg _ hy).trans (lanes_at _ l)

theorem blkD (c : Dev nD) (t : Fin cfg0.N) (l : Fin 128) : (iblk m c 5 t (ix2 0 l) : EReal) = onLanes (m ((c : Thread nD τ).loc main_arg4)) l := by
  have e := (idx_val t).2.2.2.2.2.1
  have e0 : win0_5.index t 0 = 0 := by rw [e]; rfl
  have e1 : win0_5.index t 1 = 0 := by rw [e]; rfl
  blk_simp [iblk, e]
  rw [entryD]
  have hy : ((View.whole main_v9).slice (win0_5.rect t)).emb (ix2 0 l) = ix2 0 l := by blk_ext [e0, e1]
  exact (congrArg _ hy).trans (lanes_at _ l)

/-- A tile's convolution is the layer's at the tile's tokens. -/
theorem raw_part (c : Dev nD) (t : Fin cfg0.N) (o : ℕ) (ho : o ≤ 2048) (i : Fin 256) (l : Fin 1024) :
    rawAt o ho (k0_pay1 (F := Ideal) (grid0.coords t)) (iblk m c 0 t) (iblk m c 1 t) (iblk m c 2 t) i l
      = part o ho (m ((c : Thread nD τ).loc main_arg0)) (m ((c : Thread nD τ).loc main_arg2)) (batch t) (token t i) l := by
  unfold rawAt part mixed
  rw [tileAt_eq (t.val % 64) (Nat.mod_lt _ (by decide)) (fun s => m ((c : Thread nD τ).loc main_arg0) (ix3 (batch t) s ⟨o + l.val, by omega⟩)) _ _ _
    (by rw [keep_at, (idx_val t).2.2.2.2.2.2.2.2.2.2]) (fun hp j => blkH m c t hp j _) (fun j => blkX m c t j _)]
  simp only [blkW]

theorem final6 (c : Dev nD) : (dats m 0 c).arrAt 6 cfg0.N = queries (m ((c : Thread nD τ).loc main_arg0)) (m ((c : Thread nD τ).loc main_arg2)) := by
  refine (dats m 0 c).arrAt_eq_of_covers 6 _ (by decide +kernel) fun t _ y => ?_
  obtain ⟨i, l, rfl⟩ : ∃ (i : Fin 256) (l : Fin 1024), y = ix3 0 i l := ⟨y 1, y 2, by rw [Subsingleton.elim (0 : Fin 1) (y 0)]; exact eq_ix3 y⟩
  blk_simp
  rw [after0_6]
  have e := (idx_val t).2.2.2.2.2.2.1
  have e0 : win0_6.index t 0 = t.val / 64 := by rw [e]; rfl
  have e1 : win0_6.index t 1 = t.val % 64 := by rw [e]; rfl
  have e2 : win0_6.index t 2 = 0 := by rw [e]; rfl
  have hy : ((View.whole main_v10_0).slice (win0_6.rect t)).emb (ix3 0 i l) = ix3 (batch t) (token t i) l := by
    funext a; refine Fin.ext ?_
    fin_cases a <;> blk_simp [e0, e1, e2]
    · rfl
    · show t.val % 64 * 256 + i.val = 256 * (t.val % 64) + i.val; omega
    · rfl
  refine (out6_at _ _ _ _ _ _ _ (ix3 0 i l)).trans ?_
  refine Eq.trans ?_ (congrArg (queries _ _) hy).symm
  show unitAt (rawAt 0 (by decide) (k0_pay1 (F := Ideal) (grid0.coords t)) (iblk m c 0 t) (iblk m c 1 t) (iblk m c 2 t) i) l * Ideal.ofBits .f32 0x3DB504F3#32 = _
  rw [show rawAt 0 (by decide) (k0_pay1 (F := Ideal) (grid0.coords t)) (iblk m c 0 t) (iblk m c 1 t) (iblk m c 2 t) i = _ from funext fun l => raw_part m c t _ _ i l]
  rfl

theorem final7 (c : Dev nD) : (dats m 0 c).arrAt 7 cfg0.N = keys (m ((c : Thread nD τ).loc main_arg0)) (m ((c : Thread nD τ).loc main_arg2)) := by
  refine (dats m 0 c).arrAt_eq_of_covers 7 _ (by decide +kernel) fun t _ y => ?_
  obtain ⟨i, l, rfl⟩ : ∃ (i : Fin 256) (l : Fin 1024), y = ix3 0 i l := ⟨y 1, y 2, by rw [Subsingleton.elim (0 : Fin 1) (y 0)]; exact eq_ix3 y⟩
  blk_simp
  rw [after0_7]
  have e := (idx_val t).2.2.2.2.2.2.2.1
  have e0 : win0_7.index t 0 = t.val / 64 := by rw [e]; rfl
  have e1 : win0_7.index t 1 = t.val % 64 := by rw [e]; rfl
  have e2 : win0_7.index t 2 = 0 := by rw [e]; rfl
  have hy : ((View.whole main_v10_1).slice (win0_7.rect t)).emb (ix3 0 i l) = ix3 (batch t) (token t i) l := by
    funext a; refine Fin.ext ?_
    fin_cases a <;> blk_simp [e0, e1, e2]
    · rfl
    · show t.val % 64 * 256 + i.val = 256 * (t.val % 64) + i.val; omega
    · rfl
  refine (out7_at _ _ _ _ _ _ _ (ix3 0 i l)).trans ?_
  refine Eq.trans ?_ (congrArg (keys _ _) hy).symm
  show unitAt (rawAt 1024 (by decide) (k0_pay1 (F := Ideal) (grid0.coords t)) (iblk m c 0 t) (iblk m c 1 t) (iblk m c 2 t) i) l = _
  rw [show rawAt 1024 (by decide) (k0_pay1 (F := Ideal) (grid0.coords t)) (iblk m c 0 t) (iblk m c 1 t) (iblk m c 2 t) i = _ from funext fun l => raw_part m c t _ _ i l]
  rfl

theorem final8 (c : Dev nD) : (dats m 0 c).arrAt 8 cfg0.N = values (m ((c : Thread nD τ).loc main_arg0)) (m ((c : Thread nD τ).loc main_arg2)) := by
  refine (dats m 0 c).arrAt_eq_of_covers 8 _ (by decide +kernel) fun t _ y => ?_
  obtain ⟨i, l, rfl⟩ : ∃ (i : Fin 256) (l : Fin 1024), y = ix3 0 i l := ⟨y 1, y 2, by rw [Subsingleton.elim (0 : Fin 1) (y 0)]; exact eq_ix3 y⟩
  blk_simp
  rw [after0_8]; frame_out
  have e := (idx_val t).2.2.2.2.2.2.2.2.1
  have e0 : win0_8.index t 0 = t.val / 64 := by rw [e]; rfl
  have e1 : win0_8.index t 1 = t.val % 64 := by rw [e]; rfl
  have e2 : win0_8.index t 2 = 0 := by rw [e]; rfl
  have hy : ((View.whole main_v10_2).slice (win0_8.rect t)).emb (ix3 0 i l) = ix3 (batch t) (token t i) l := by
    funext a; refine Fin.ext ?_
    fin_cases a <;> blk_simp [e0, e1, e2]
    · rfl
    · show t.val % 64 * 256 + i.val = 256 * (t.val % 64) + i.val; omega
    · rfl
  refine (pay27_at _ _ _ _ _ _ _ i l).trans ((tile_rawAt 2048 (by decide) _ _ _ _ _ _ _ _ _ _ i l).trans ((raw_part m c t _ _ i l).trans ?_))
  exact (congrArg (values _ _) hy).symm

theorem final9 (c : Dev nD) : (dats m 0 c).arrAt 9 cfg0.N = gates (m ((c : Thread nD τ).loc main_arg1)) (m ((c : Thread nD τ).loc main_arg3)) (m ((c : Thread nD τ).loc main_arg4)) := by
  refine (dats m 0 c).arrAt_eq_of_covers 9 _ (by decide +kernel) fun t _ y => ?_
  obtain ⟨i, l, rfl⟩ : ∃ (i : Fin 256) (l : Fin 128), y = ix3 0 i l := ⟨y 1, y 2, by rw [Subsingleton.elim (0 : Fin 1) (y 0)]; exact eq_ix3 y⟩
  blk_simp
  rw [after0_9]; frame_out
  have e := (idx_val t).2.2.2.2.2.2.2.2.2.1
  have e0 : win0_9.index t 0 = t.val / 64 := by rw [e]; rfl
  have e1 : win0_9.index t 1 = t.val % 64 := by rw [e]; rfl
  have e2 : win0_9.index t 2 = 0 := by rw [e]; rfl
  have hy : ((View.whole main_v10_3).slice (win0_9.rect t)).emb (ix3 0 i l) = ix3 (batch t) (token t i) l := by
    funext a; refine Fin.ext ?_
    fin_cases a <;> blk_simp [e0, e1, e2]
    · rfl
    · show t.val % 64 * 256 + i.val = 256 * (t.val % 64) + i.val; omega
    · rfl
  refine (pay29_at _ _ _ i l).trans ?_
  refine Eq.trans ?_ (congrArg (gates _ _ _) hy).symm
  simp only [blkS, blkA, blkD]
  rfl

end Cert.Kernel10Ideal.Rows

end
-- ==== Proof.Layer.Rope.lean ====
/-
  The rotary embedding of heads: the pair of lanes `j` and `half + j` turned by an angle, and the same as one sum over tables that
  hold the cosine twice and the sine with both signs.
-/
module

public import proofs.«01_k».proof.Proof.Layer.Prep

@[expose] public section

noncomputable section

open Idealize.ShloMosaic

namespace Layer

/-- A head of 128 lanes with its first 32 turned: `c` holds the cosines in lanes 0 to 15, `s` the sines in lanes 16 to 31. -/
def turn16 (x c s : Fin 128 → EReal) (d : Fin 128) : EReal :=
  if h : d.val < 16 then x d * c d - x ⟨d.val + 16, by omega⟩ * s ⟨d.val + 16, by omega⟩
  else if h2 : d.val < 32 then x d * c ⟨d.val - 16, by omega⟩ + x ⟨d.val - 16, by omega⟩ * s d
  else x d

/-- A head of 64 lanes with its first 16 turned: `c` holds the cosines in lanes 0 to 7, `s` the sines in lanes 8 to 15. -/
def turn8 (x : Fin 64 → EReal) (c s : Fin 128 → EReal) (d : Fin 64) : EReal :=
  if h : d.val < 8 then x d * c ⟨d.val, by omega⟩ - x ⟨d.val + 8, by omega⟩ * s ⟨d.val + 8, by omega⟩
  else if h2 : d.val < 16 then x d * c ⟨d.val - 8, by omega⟩ + x ⟨d.val - 8, by omega⟩ * s ⟨d.val, by omega⟩
  else x d

/-- What the tables of a row must hold for heads of 128 lanes. -/
def Table16 (c s : Fin 128 → EReal) : Prop := ∀ d : Fin 128,
  (c d = if h : d.val < 16 then c ⟨d.val, by omega⟩ else if h2 : d.val < 32 then c ⟨d.val - 16, by omega⟩ else 1)
  ∧ (s d = if h : d.val < 16 then -s ⟨d.val + 16, by omega⟩ else if h2 : d.val < 32 then s ⟨d.val, by omega⟩ else 0)

/-- What the tables of a row must hold for heads of 64 lanes, two in a row of lanes. -/
def Table8 (c s : Fin 128 → EReal) : Prop := ∀ d : Fin 128,
  (c d = if h : d.val % 64 < 8 then c ⟨d.val % 64, by omega⟩ else if h2 : d.val % 64 < 16 then c ⟨d.val % 64 - 8, by omega⟩ else 1)
  ∧ (s d = if h : d.val % 64 < 8 then -s ⟨d.val % 64 + 8, by omega⟩ else if h2 : d.val % 64 < 16 then s ⟨d.val % 64, by omega⟩ else 0)

/-- The lane times one table and its partner's lane times the other, for heads of 128 lanes. -/
def swap16 (x c s : Fin 128 → EReal) (d : Fin 128) : EReal :=
  x d * c d + (if d.val < 16 then x ⟨(d.val + 128 - 112) % 128, Nat.mod_lt _ (by decide)⟩ else x ⟨(d.val + 128 - 16) % 128, Nat.mod_lt _ (by decide)⟩) * s d

/-- The same for two heads of 64 lanes. -/
def swap8 (x c s : Fin 128 → EReal) (d : Fin 128) : EReal :=
  x d * c d + (if d.val % 64 < 8 then x ⟨(d.val + 128 - 120) % 128, Nat.mod_lt _ (by decide)⟩ else x ⟨(d.val + 128 - 8) % 128, Nat.mod_lt _ (by decide)⟩) * s d

theorem swap16_congr {x x' c c' s s' : Fin 128 → EReal} (hx : ∀ e, x e = x' e) (hc : ∀ e, c e = c' e) (hs : ∀ e, s e = s' e) (d : Fin 128) :
    swap16 x c s d = swap16 x' c' s' d := by
  rw [funext hx, funext hc, funext hs]

theorem swap8_congr {x x' c c' s s' : Fin 128 → EReal} (hx : ∀ e, x e = x' e) (hc : ∀ e, c e = c' e) (hs : ∀ e, s e = s' e) (d : Fin 128) :
    swap8 x c s d = swap8 x' c' s' d := by
  rw [funext hx, funext hc, funext hs]

theorem swap16_eq (x c s : Fin 128 → EReal) (h : Table16 c s) (d : Fin 128) : swap16 x c s d = turn16 x c s d := by
  obtain ⟨hc, hs⟩ := h d
  unfold swap16 turn16
  by_cases h1 : d.val < 16
  · rw [dif_pos h1] at hs
    rw [if_pos h1, dif_pos h1, hs, mul_neg, sub_eq_add_neg]
    have e : (⟨(d.val + 128 - 112) % 128, Nat.mod_lt _ (by decide)⟩ : Fin 128) = ⟨d.val + 16, by omega⟩ := Fin.ext (by dsimp only; omega)
    rw [e]
  · by_cases h2 : d.val < 32
    · rw [dif_neg h1, dif_pos h2] at hc
      rw [if_neg h1, dif_neg h1, dif_pos h2, hc]
      have e : (⟨(d.val + 128 - 16) % 128, Nat.mod_lt _ (by decide)⟩ : Fin 128) = ⟨d.val - 16, by omega⟩ := Fin.ext (by dsimp only; omega)
      rw [e]
    · rw [dif_neg h1, dif_neg h2] at hc hs
      rw [dif_neg h1, dif_neg h2, hc, hs, mul_one, mul_zero, add_zero]

theorem swap8_eq (x c s : Fin 128 → EReal) (h : Table8 c s) (k : Fin 2) (d : Fin 64) :
    swap8 x c s ⟨64 * k.val + d.val, by omega⟩ = turn8 (fun e => x ⟨64 * k.val + e.val, by omega⟩) c s d := by
  obtain ⟨hc, hs⟩ := h ⟨64 * k.val + d.val, by omega⟩
  have hm : (64 * k.val + d.val) % 64 = d.val := by omega
  simp only [hm] at hc hs
  unfold swap8 turn8
  simp only [hm]
  by_cases h1 : d.val < 8
  · rw [dif_pos h1] at hs hc
    rw [if_pos h1, dif_pos h1, hs, hc, mul_neg, sub_eq_add_neg]
    have e : (⟨(64 * k.val + d.val + 128 - 120) % 128, Nat.mod_lt _ (by decide)⟩ : Fin 128) = ⟨64 * k.val + (d.val + 8), by omega⟩ := Fin.ext (by dsimp only; omega)
    rw [e]
  · by_cases h2 : d.val < 16
    · rw [dif_neg h1, dif_pos h2] at hc hs
      rw [if_neg h1, dif_neg h1, dif_pos h2, hc, hs]
      have e : (⟨(64 * k.val + d.val + 128 - 8) % 128, Nat.mod_lt _ (by decide)⟩ : Fin 128) = ⟨64 * k.val + (d.val - 8), by omega⟩ := Fin.ext (by dsimp only; omega)
      rw [e]
    · rw [dif_neg h1, dif_neg h2] at hc hs
      rw [dif_neg h1, dif_neg h2, hc, hs, mul_one, mul_zero, add_zero]

/-- The turn of a head with its lanes told apart piece by piece. -/
theorem pieces16 (x : Fin 128 → EReal) (c s : Fin 128 → EReal) (d : Fin 128) :
    (if h : d.val < 16 then x d * c ⟨d.val, by omega⟩ - x ⟨16 + d.val, by omega⟩ * s ⟨16 + d.val, by omega⟩
      else if h2 : d.val - 16 < 16 then
        x ⟨16 + (d.val - 16), by omega⟩ * c ⟨d.val - 16, by omega⟩ + x ⟨d.val - 16, by omega⟩ * s ⟨16 + (d.val - 16), by omega⟩
      else x ⟨32 + (d.val - 16 - 16), by omega⟩) = turn16 x c s d := by
  unfold turn16
  by_cases h1 : d.val < 16
  · rw [dif_pos h1, dif_pos h1]
    simp only [Nat.add_comm 16 d.val]
  · by_cases h2 : d.val < 32
    · rw [dif_neg h1, dif_neg h1, dif_pos (by omega), dif_pos h2]
      have e : 16 + (d.val - 16) = d.val := by omega
      simp only [e]
    · rw [dif_neg h1, dif_neg h1, dif_neg (by omega), dif_neg h2]
      exact congrArg x (Fin.ext (by dsimp only; omega))

/-- The turn of a head with its lanes told apart piece by piece. -/
theorem pieces8 (x : Fin 64 → EReal) (c s : Fin 128 → EReal) (d : Fin 64) :
    (if h : d.val < 8 then x d * c ⟨d.val, by omega⟩ - x ⟨8 + d.val, by omega⟩ * s ⟨8 + d.val, by omega⟩
      else if h2 : d.val - 8 < 8 then
        x ⟨8 + (d.val - 8), by omega⟩ * c ⟨d.val - 8, by omega⟩ + x ⟨d.val - 8, by omega⟩ * s ⟨8 + (d.val - 8), by omega⟩
      else x ⟨16 + (d.val - 8 - 8), by omega⟩) = turn8 x c s d := by
  unfold turn8
  by_cases h1 : d.val < 8
  · rw [dif_pos h1, dif_pos h1]
    simp only [Nat.add_comm 8 d.val]
  · by_cases h2 : d.val < 16
    · rw [dif_neg h1, dif_neg h1, dif_pos (by omega), dif_pos h2]
      have e : 8 + (d.val - 8) = d.val := by omega
      simp only [e]
    · rw [dif_neg h1, dif_neg h1, dif_neg (by omega), dif_neg h2]
      exact congrArg x (Fin.ext (by dsimp only; omega))

/-- The row of a table at a token. -/
abbrev rowOf (C : FVec Ideal ⟨3, ![2, 16384, 128]⟩ .f32) (p : Fin 2) (t : Fin 16384) (d : Fin 128) : EReal := C (ix3 p t d)

/-- The heads of 128 lanes of the columns from `o` on, turned. -/
def headsAt (o : ℕ) (ho : o ≤ 1024) (x : Fin 2048 → EReal) (c s : Fin 128 → EReal) (l : Fin 1024) : EReal :=
  turn16 (fun e => x ⟨o + (l.val / 128 * 128 + e.val), by omega⟩) c s ⟨l.val % 128, Nat.mod_lt _ (by decide)⟩

/-- The queries of the sparse attention: turned, and scaled for a softmax by powers of two. -/
def ropeQ (X : FVec Ideal ⟨3, ![2, 16384, 2048]⟩ .f32) (C S : FVec Ideal ⟨3, ![2, 16384, 128]⟩ .f32) : FVec Ideal ⟨3, ![2, 16384, 1024]⟩ .bf16 :=
  fun i => headsAt 0 (by decide) (fun e => X (ix3 (i 0) (i 1) e)) (rowOf C (i 0) (i 1)) (rowOf S (i 0) (i 1)) (i 2) * Ideal.ofBits .f32 0x3E0293EE#32

/-- Its keys: turned. -/
def ropeK (X : FVec Ideal ⟨3, ![2, 16384, 2048]⟩ .f32) (C S : FVec Ideal ⟨3, ![2, 16384, 128]⟩ .f32) : FVec Ideal ⟨3, ![2, 16384, 1024]⟩ .bf16 :=
  fun i => headsAt 1024 (by decide) (fun e => X (ix3 (i 0) (i 1) e)) (rowOf C (i 0) (i 1)) (rowOf S (i 0) (i 1)) (i 2)

/-- The indexer's queries, head by head. -/
def ropeIQ (X : FVec Ideal ⟨3, ![2, 16384, 640]⟩ .f32) (C S : FVec Ideal ⟨3, ![2, 16384, 128]⟩ .f32) : FVec Ideal ⟨4, ![2, 8, 16384, 64]⟩ .bf16 :=
  fun i => turn8 (fun e => X (ix3 (i 0) (i 2) ⟨64 * (i 1).val + e.val, by have := (i 1).isLt; have : (i 1).val < 8 := this; omega⟩))
    (rowOf C (i 0) (i 2)) (rowOf S (i 0) (i 2)) (i 3)

/-- The indexer's key, in two halves of a row of lanes. -/
def keyAt (x : Fin 640 → EReal) (c s : Fin 128 → EReal) (l : Fin 128) : EReal :=
  turn8 (fun e => x ⟨512 + (l.val / 64 * 64 + e.val), by omega⟩) c s ⟨l.val % 64, Nat.mod_lt _ (by decide)⟩

def ropeIK (X : FVec Ideal ⟨3, ![2, 16384, 640]⟩ .f32) (C S : FVec Ideal ⟨3, ![2, 16384, 128]⟩ .f32) : FVec Ideal ⟨3, ![2, 16384, 128]⟩ .bf16 :=
  fun i => keyAt (fun e => X (ix3 (i 0) (i 1) e)) (rowOf C (i 0) (i 1)) (rowOf S (i 0) (i 1)) (i 2)

/-- The indexer's weights, scaled. -/
def ropeIW (X : FVec Ideal ⟨3, ![2, 16384, 128]⟩ .f32) : FVec Ideal ⟨3, ![2, 16384, 128]⟩ .f32 :=
  fun i => X (ix3 (i 0) (i 1) (i 2)) * Ideal.ofBits .f32 0x3D3504F3#32

end Layer

end
-- ==== Proof.Layer.RopeRef.lean ====
/-
  The reference of the sparse attention's preparation: heads turned lane by lane.
-/
module

public import proofs.«01_k».proof.Proof.Gen.Reference11Ideal.Run
public import proofs.«01_k».proof.Proof.Layer.Rope

@[expose] public section

set_option maxRecDepth 16384

noncomputable section

open Idealize.ShloMosaic Idealize.ShloMosaic.TcCoe Idealize.SL.Sem

namespace Cert.Reference11Ideal.Rows

open Cert.Reference11Ideal Cert.Reference11Ideal.Gen Layer

/-- A row of 16 numbers for every head. -/
def each16 (a : FVec Ideal S2x16384x16 .f32) : FVec Ideal S2x16384x8x16 .f32 :=
  broadcastInDim S2x16384x8x16 ![0, 1, 2, 3] bcast_S2x16384x1x16_S2x16384x8x16_0_1_2_3 (broadcastInDim S2x16384x1x16 ![0, 1, 3] bcast_S2x16384x16_S2x16384x1x16_0_1_3 a)

/-- Heads of 128 lanes turned, as the reference's operations spell it. -/
def turn16R (H : FVec Ideal S2x16384x8x128 .f32) (c s : FVec Ideal S2x16384x16 .f32) : FVec Ideal S2x16384x8x128 .f32 :=
  concatenate S2x16384x8x128 3
    [⟨S2x16384x8x16, subf (mulf (extractStridedSlice S2x16384x8x16 ![0, 0, 0, 0] H slices_S2x16384x8x128_S2x16384x8x16_0_0_0_0) (each16 c))
        (mulf (extractStridedSlice S2x16384x8x16 ![0, 0, 0, 16] H slices_S2x16384x8x128_S2x16384x8x16_0_0_0_16) (each16 s))⟩,
      ⟨S2x16384x8x16, addf (mulf (extractStridedSlice S2x16384x8x16 ![0, 0, 0, 16] H slices_S2x16384x8x128_S2x16384x8x16_0_0_0_16) (each16 c))
        (mulf (extractStridedSlice S2x16384x8x16 ![0, 0, 0, 0] H slices_S2x16384x8x128_S2x16384x8x16_0_0_0_0) (each16 s))⟩,
      ⟨S2x16384x8x96, extractStridedSlice S2x16384x8x96 ![0, 0, 0, 32] H slices_S2x16384x8x128_S2x16384x8x96_0_0_0_32⟩]
    concatenates_S2x16384x8x16_S2x16384x8x16_S2x16384x8x96_S2x16384x8x128_d3

/-- A row of 8 numbers for every one of eight heads, and for both halves of a row of lanes. -/
def each8 (a : FVec Ideal S2x16384x8 .f32) : FVec Ideal S2x16384x8x8 .f32 :=
  broadcastInDim S2x16384x8x8 ![0, 1, 2, 3] bcast_S2x16384x1x8_S2x16384x8x8_0_1_2_3 (broadcastInDim S2x16384x1x8 ![0, 1, 3] bcast_S2x16384x8_S2x16384x1x8_0_1_3 a)

def both8 (a : FVec Ideal S2x16384x8 .f32) : FVec Ideal S2x16384x2x8 .f32 :=
  broadcastInDim S2x16384x2x8 ![0, 1, 2, 3] bcast_S2x16384x1x8_S2x16384x2x8_0_1_2_3 (broadcastInDim S2x16384x1x8 ![0, 1, 3] bcast_S2x16384x8_S2x16384x1x8_0_1_3 a)

/-- Eight heads of 64 lanes turned. -/
def turn8R (H : FVec Ideal S2x16384x8x64 .f32) (c s : FVec Ideal S2x16384x8 .f32) : FVec Ideal S2x16384x8x64 .f32 :=
  concatenate S2x16384x8x64 3
    [⟨S2x16384x8x8, subf (mulf (extractStridedSlice S2x16384x8x8 ![0, 0, 0, 0] H slices_S2x16384x8x64_S2x16384x8x8_0_0_0_0) (each8 c))
        (mulf (extractStridedSlice S2x16384x8x8 ![0, 0, 0, 8] H slices_S2x16384x8x64_S2x16384x8x8_0_0_0_8) (each8 s))⟩,
      ⟨S2x16384x8x8, addf (mulf (extractStridedSlice S2x16384x8x8 ![0, 0, 0, 8] H slices_S2x16384x8x64_S2x16384x8x8_0_0_0_8) (each8 c))
        (mulf (extractStridedSlice S2x16384x8x8 ![0, 0, 0, 0] H slices_S2x16384x8x64_S2x16384x8x8_0_0_0_0) (each8 s))⟩,
      ⟨S2x16384x8x48, extractStridedSlice S2x16384x8x48 ![0, 0, 0, 16] H slices_S2x16384x8x64_S2x16384x8x48_0_0_0_16⟩]
    concatenates_S2x16384x8x8_S2x16384x8x8_S2x16384x8x48_S2x16384x8x64_d3

/-- Both halves of a row of lanes turned. -/
def both8R (H : FVec Ideal S2x16384x2x64 .f32) (c s : FVec Ideal S2x16384x8 .f32) : FVec Ideal S2x16384x2x64 .f32 :=
  concatenate S2x16384x2x64 3
    [⟨S2x16384x2x8, subf (mulf (extractStridedSlice S2x16384x2x8 ![0, 0, 0, 0] H slices_S2x16384x2x64_S2x16384x2x8_0_0_0_0) (both8 c))
        (mulf (extractStridedSlice S2x16384x2x8 ![0, 0, 0, 8] H slices_S2x16384x2x64_S2x16384x2x8_0_0_0_8) (both8 s))⟩,
      ⟨S2x16384x2x8, addf (mulf (extractStridedSlice S2x16384x2x8 ![0, 0, 0, 8] H slices_S2x16384x2x64_S2x16384x2x8_0_0_0_8) (both8 c))
        (mulf (extractStridedSlice S2x16384x2x8 ![0, 0, 0, 0] H slices_S2x16384x2x64_S2x16384x2x8_0_0_0_0) (both8 s))⟩,
      ⟨S2x16384x2x48, extractStridedSlice S2x16384x2x48 ![0, 0, 0, 16] H slices_S2x16384x2x64_S2x16384x2x48_0_0_0_16⟩]
    concatenates_S2x16384x2x8_S2x16384x2x8_S2x16384x2x48_S2x16384x2x64_d3

def cos16 (C : FVec Ideal S2x16384x128 .f32) : FVec Ideal S2x16384x16 .f32 := extractStridedSlice S2x16384x16 ![0, 0, 0] C slices_S2x16384x128_S2x16384x16_0_0_0
def sin16 (C : FVec Ideal S2x16384x128 .f32) : FVec Ideal S2x16384x16 .f32 := extractStridedSlice S2x16384x16 ![0, 0, 16] C slices_S2x16384x128_S2x16384x16_0_0_16
def cos8 (C : FVec Ideal S2x16384x128 .f32) : FVec Ideal S2x16384x8 .f32 := extractStridedSlice S2x16384x8 ![0, 0, 0] C slices_S2x16384x128_S2x16384x8_0_0_0
def sin8 (C : FVec Ideal S2x16384x128 .f32) : FVec Ideal S2x16384x8 .f32 := extractStridedSlice S2x16384x8 ![0, 0, 8] C slices_S2x16384x128_S2x16384x8_0_0_8

theorem turn16R_at (H : FVec Ideal S2x16384x8x128 .f32) (C S : FVec Ideal S2x16384x128 .f32) (p : Fin 2) (t : Fin 16384) (h : Fin 8) (d : Fin 128) :
    (turn16R H (cos16 C) (sin16 S) (ix4 p t h d) : EReal) = turn16 (fun e => H (ix4 p t h e)) (rowOf C p t) (rowOf S p t) d := by
  pointwise [turn16R, each16, cos16, sin16]
  exact pieces16 (fun e => H (ix4 p t h e)) (rowOf C p t) (rowOf S p t) d

theorem turn8R_at (H : FVec Ideal S2x16384x8x64 .f32) (C S : FVec Ideal S2x16384x128 .f32) (p : Fin 2) (t : Fin 16384) (h : Fin 8) (d : Fin 64) :
    (turn8R H (cos8 C) (sin8 S) (ix4 p t h d) : EReal) = turn8 (fun e => H (ix4 p t h e)) (rowOf C p t) (rowOf S p t) d := by
  pointwise [turn8R, each8, cos8, sin8]
  exact pieces8 (fun e => H (ix4 p t h e)) (rowOf C p t) (rowOf S p t) d

theorem both8R_at (H : FVec Ideal S2x16384x2x64 .f32) (C S : FVec Ideal S2x16384x128 .f32) (p : Fin 2) (t : Fin 16384) (h : Fin 2) (d : Fin 64) :
    (both8R H (cos8 C) (sin8 S) (ix4 p t h d) : EReal) = turn8 (fun e => H (ix4 p t h e)) (rowOf C p t) (rowOf S p t) d := by
  pointwise [both8R, both8, cos8, sin8]
  exact pieces8 (fun e => H (ix4 p t h e)) (rowOf C p t) (rowOf S p t) d

/-- The heads of the queries' columns, of the keys', of the indexer's queries', and the halves of its key's. -/
def headsQ (X : FVec Ideal S2x16384x2048 .f32) : FVec Ideal S2x16384x8x128 .f32 :=
  shapeCast _ (extractStridedSlice S2x16384x1024 ![0, 0, 0] X slices_S2x16384x2048_S2x16384x1024_0_0_0) shapeCasts_S2x16384x1024_S2x16384x8x128
def headsK (X : FVec Ideal S2x16384x2048 .f32) : FVec Ideal S2x16384x8x128 .f32 :=
  shapeCast _ (extractStridedSlice S2x16384x1024 ![0, 0, 1024] X slices_S2x16384x2048_S2x16384x1024_0_0_1024) shapeCasts_S2x16384x1024_S2x16384x8x128
def headsIQ (X : FVec Ideal S2x16384x640 .f32) : FVec Ideal S2x16384x8x64 .f32 :=
  shapeCast _ (extractStridedSlice S2x16384x512 ![0, 0, 0] X slices_S2x16384x640_S2x16384x512_0_0_0) shapeCasts_S2x16384x512_S2x16384x8x64
def halvesIK (X : FVec Ideal S2x16384x640 .f32) : FVec Ideal S2x16384x2x64 .f32 :=
  shapeCast _ (extractStridedSlice S2x16384x128 ![0, 0, 512] X slices_S2x16384x640_S2x16384x128_0_0_512) shapeCasts_S2x16384x128_S2x16384x2x64

theorem headsQ_at (X : FVec Ideal S2x16384x2048 .f32) (p : Fin 2) (t : Fin 16384) (h : Fin 8) (d : Fin 128) :
    (headsQ X (ix4 p t h d) : EReal) = X (ix3 p t ⟨0 + (h.val * 128 + d.val), by omega⟩) := by
  pointwise [headsQ]

theorem headsK_at (X : FVec Ideal S2x16384x2048 .f32) (p : Fin 2) (t : Fin 16384) (h : Fin 8) (d : Fin 128) :
    (headsK X (ix4 p t h d) : EReal) = X (ix3 p t ⟨1024 + (h.val * 128 + d.val), by omega⟩) := by
  pointwise [headsK]

theorem headsIQ_at (X : FVec Ideal S2x16384x640 .f32) (p : Fin 2) (t : Fin 16384) (h : Fin 8) (d : Fin 64) :
    (headsIQ X (ix4 p t h d) : EReal) = X (ix3 p t ⟨64 * h.val + d.val, by omega⟩) := by
  pointwise [headsIQ]
  simp only [Nat.mul_comm 64 h.val]

theorem halvesIK_at (X : FVec Ideal S2x16384x640 .f32) (p : Fin 2) (t : Fin 16384) (h : Fin 2) (d : Fin 64) :
    (halvesIK X (ix4 p t h d) : EReal) = X (ix3 p t ⟨512 + (h.val * 64 + d.val), by omega⟩) := by
  pointwise [halvesIK]

def joinQ (H : FVec Ideal S2x16384x8x128 .f32) : FVec Ideal S2x16384x1024 .f32 := shapeCast _ H shapeCasts_S2x16384x8x128_S2x16384x1024
def joinIK (H : FVec Ideal S2x16384x2x64 .f32) : FVec Ideal S2x16384x128 .f32 := shapeCast _ H shapeCasts_S2x16384x2x64_S2x16384x128

theorem joinQ_at (H : FVec Ideal S2x16384x8x128 .f32) (p : Fin 2) (t : Fin 16384) (l : Fin 1024) :
    (joinQ H (ix3 p t l) : EReal) = H (ix4 p t ⟨l.val / 128, by omega⟩ ⟨l.val % 128, Nat.mod_lt _ (by decide)⟩) := by
  pointwise [joinQ]

theorem joinIK_at (H : FVec Ideal S2x16384x2x64 .f32) (p : Fin 2) (t : Fin 16384) (l : Fin 128) :
    (joinIK H (ix3 p t l) : EReal) = H (ix4 p t ⟨l.val / 64, by omega⟩ ⟨l.val % 64, Nat.mod_lt _ (by decide)⟩) := by
  pointwise [joinIK]

/-- The results as the reference's operations spell them. -/
def refQ (X : FVec Ideal S2x16384x2048 .f32) (C S : FVec Ideal S2x16384x128 .f32) : FVec Ideal S2x16384x1024 .bf16 :=
  truncf .bf16 (joinQ (mulf (turn16R (headsQ X) (cos16 C) (sin16 S)) (broadcastInDim S2x16384x8x128 ![] bcast_S_S2x16384x8x128 (constant S_ .f32 0x3E0293EE#32)))) bitsLt_bf16_f32
def refK (X : FVec Ideal S2x16384x2048 .f32) (C S : FVec Ideal S2x16384x128 .f32) : FVec Ideal S2x16384x1024 .bf16 :=
  truncf .bf16 (joinQ (turn16R (headsK X) (cos16 C) (sin16 S))) bitsLt_bf16_f32
def swapIQ (Z : FVec Ideal S2x16384x8x64 .f32) : FVec Ideal S2x8x16384x64 .f32 := transpose S2x8x16384x64 [0, 2, 1, 3] Z transposes_S2x16384x8x64_S2x8x16384x64_0_2_1_3
def refIQ (X : FVec Ideal S2x16384x640 .f32) (C S : FVec Ideal S2x16384x128 .f32) : FVec Ideal S2x8x16384x64 .bf16 :=
  truncf .bf16 (swapIQ (turn8R (headsIQ X) (cos8 C) (sin8 S))) bitsLt_bf16_f32
def refIK (X : FVec Ideal S2x16384x640 .f32) (C S : FVec Ideal S2x16384x128 .f32) : FVec Ideal S2x16384x128 .bf16 :=
  truncf .bf16 (joinIK (both8R (halvesIK X) (cos8 C) (sin8 S))) bitsLt_bf16_f32

theorem scaled_at (Y : FVec Ideal S2x16384x8x128 .f32) (p : Fin 2) (t : Fin 16384) (h : Fin 8) (d : Fin 128) :
    (mulf Y (broadcastInDim S2x16384x8x128 ![] bcast_S_S2x16384x8x128 (constant S_ .f32 0x3E0293EE#32)) (ix4 p t h d) : EReal)
      = Y (ix4 p t h d) * Ideal.ofBits .f32 0x3E0293EE#32 := by
  pointwise

theorem swapIQ_at (Z : FVec Ideal S2x16384x8x64 .f32) (p : Fin 2) (h : Fin 8) (t : Fin 16384) (d : Fin 64) :
    (swapIQ Z (ix4 p h t d) : EReal) = Z (ix4 p t h d) := by
  pointwise [swapIQ]

/-- Over the extended reals a cast to fewer bits changes nothing. -/
theorem narrow_at {s : Shape} (Y : FVec Ideal s .f32) (i : s.Idx) : (truncf .bf16 Y bitsLt_bf16_f32 i : EReal) = Y i := rfl

/-- A head's turn from the columns `o` on. -/
theorem heads_turn (o : ℕ) (ho : o ≤ 1024) (H : FVec Ideal S2x16384x8x128 .f32) (X : FVec Ideal S2x16384x2048 .f32) (C S : FVec Ideal S2x16384x128 .f32)
    (p : Fin 2) (t : Fin 16384) (hH : ∀ h d, (H (ix4 p t h d) : EReal) = X (ix3 p t ⟨o + (h.val * 128 + d.val), by omega⟩)) (l : Fin 1024) :
    (turn16R H (cos16 C) (sin16 S) (ix4 p t ⟨l.val / 128, by omega⟩ ⟨l.val % 128, Nat.mod_lt _ (by decide)⟩) : EReal)
      = headsAt o ho (fun e => X (ix3 p t e)) (rowOf C p t) (rowOf S p t) l := by
  refine (turn16R_at H C S p t _ _).trans ?_
  unfold headsAt
  exact congrArg (fun x => turn16 x (rowOf C p t) (rowOf S p t) _) (funext fun e => hH _ e)

theorem refQ_at (X : FVec Ideal S2x16384x2048 .f32) (C S : FVec Ideal S2x16384x128 .f32) (p : Fin 2) (t : Fin 16384) (l : Fin 1024) :
    (refQ X C S (ix3 p t l) : EReal) = headsAt 0 (by decide) (fun e => X (ix3 p t e)) (rowOf C p t) (rowOf S p t) l * Ideal.ofBits .f32 0x3E0293EE#32 := by
  have e := heads_turn 0 (by decide) (headsQ X) X C S p t (headsQ_at X p t) l
  unfold refQ
  generalize turn16R (headsQ X) (cos16 C) (sin16 S) = Z at e ⊢
  generalize headsAt 0 (by decide) (fun e => X (ix3 p t e)) (rowOf C p t) (rowOf S p t) l = y at e ⊢
  exact (narrow_at _ _).trans ((joinQ_at _ p t l).trans ((scaled_at Z p t _ _).trans (congrArg (· * Ideal.ofBits .f32 0x3E0293EE#32) e)))

theorem refK_at (X : FVec Ideal S2x16384x2048 .f32) (C S : FVec Ideal S2x16384x128 .f32) (p : Fin 2) (t : Fin 16384) (l : Fin 1024) :
    (refK X C S (ix3 p t l) : EReal) = headsAt 1024 (by decide) (fun e => X (ix3 p t e)) (rowOf C p t) (rowOf S p t) l := by
  have e := heads_turn 1024 (by decide) (headsK X) X C S p t (headsK_at X p t) l
  unfold refK
  generalize turn16R (headsK X) (cos16 C) (sin16 S) = Z at e ⊢
  generalize headsAt 1024 (by decide) (fun e => X (ix3 p t e)) (rowOf C p t) (rowOf S p t) l = y at e ⊢
  exact (narrow_at _ _).trans ((joinQ_at Z p t l).trans e)

theorem refIQ_at (X : FVec Ideal S2x16384x640 .f32) (C S : FVec Ideal S2x16384x128 .f32) (p : Fin 2) (h : Fin 8) (t : Fin 16384) (d : Fin 64) :
    (refIQ X C S (ix4 p h t d) : EReal) = turn8 (fun e => X (ix3 p t ⟨64 * h.val + e.val, by omega⟩)) (rowOf C p t) (rowOf S p t) d := by
  have e := (turn8R_at (headsIQ X) C S p t h d).trans
    (congrArg (fun x => turn8 x (rowOf C p t) (rowOf S p t) d) (funext fun e => headsIQ_at X p t h e))
  unfold refIQ
  generalize turn8R (headsIQ X) (cos8 C) (sin8 S) = Z at e ⊢
  exact (narrow_at _ _).trans ((swapIQ_at Z p h t d).trans e)

theorem refIK_at (X : FVec Ideal S2x16384x640 .f32) (C S : FVec Ideal S2x16384x128 .f32) (p : Fin 2) (t : Fin 16384) (l : Fin 128) :
    (refIK X C S (ix3 p t l) : EReal) = keyAt (fun e => X (ix3 p t e)) (rowOf C p t) (rowOf S p t) l := by
  have e := (both8R_at (halvesIK X) C S p t ⟨l.val / 64, by omega⟩ ⟨l.val % 64, Nat.mod_lt _ (by decide)⟩).trans
    (congrArg (fun x => turn8 x (rowOf C p t) (rowOf S p t) ⟨l.val % 64, Nat.mod_lt _ (by decide)⟩) (funext fun e => halvesIK_at X p t ⟨l.val / 64, by omega⟩ e))
  unfold refIK keyAt
  generalize both8R (halvesIK X) (cos8 C) (sin8 S) = Z at e ⊢
  exact (narrow_at _ _).trans ((joinIK_at Z p t l).trans e)

theorem refQ_eq (X : FVec Ideal S2x16384x2048 .f32) (C S : FVec Ideal S2x16384x128 .f32) : refQ X C S = ropeQ X C S := by
  funext i
  obtain ⟨p, t, l, rfl⟩ : ∃ (p : Fin 2) (t : Fin 16384) (l : Fin 1024), i = ix3 p t l := ⟨i 0, i 1, i 2, eq_ix3 i⟩
  refine (refQ_at X C S p t l).trans ?_
  unfold ropeQ
  rfl

theorem refK_eq (X : FVec Ideal S2x16384x2048 .f32) (C S : FVec Ideal S2x16384x128 .f32) : refK X C S = ropeK X C S := by
  funext i
  obtain ⟨p, t, l, rfl⟩ : ∃ (p : Fin 2) (t : Fin 16384) (l : Fin 1024), i = ix3 p t l := ⟨i 0, i 1, i 2, eq_ix3 i⟩
  refine (refK_at X C S p t l).trans ?_
  unfold ropeK
  rfl

theorem refIQ_eq (X : FVec Ideal S2x16384x640 .f32) (C S : FVec Ideal S2x16384x128 .f32) : refIQ X C S = ropeIQ X C S := by
  funext i
  obtain ⟨p, h, t, d, rfl⟩ : ∃ (p : Fin 2) (h : Fin 8) (t : Fin 16384) (d : Fin 64), i = ix4 p h t d := ⟨i 0, i 1, i 2, i 3, eq_ix4 i⟩
  refine (refIQ_at X C S p h t d).trans ?_
  unfold ropeIQ
  rfl

theorem refIK_eq (X : FVec Ideal S2x16384x640 .f32) (C S : FVec Ideal S2x16384x128 .f32) : refIK X C S = ropeIK X C S := by
  funext i
  obtain ⟨p, t, l, rfl⟩ : ∃ (p : Fin 2) (t : Fin 16384) (l : Fin 128), i = ix3 p t l := ⟨i 0, i 1, i 2, eq_ix3 i⟩
  refine (refIK_at X C S p t l).trans ?_
  unfold ropeIK
  rfl

theorem refIW_eq (X : FVec Ideal S2x16384x128 .f32) :
    mulf X (broadcastInDim S2x16384x128 ![] bcast_S_S2x16384x128 (constant S_ .f32 0x3D3504F3#32)) = ropeIW X := by
  funext i
  obtain ⟨p, t, l, rfl⟩ : ∃ (p : Fin 2) (t : Fin 16384) (l : Fin 128), i = ix3 p t l := ⟨i 0, i 1, i 2, eq_ix3 i⟩
  refine Eq.trans (b := (X (ix3 p t l) : EReal) * Ideal.ofBits .f32 0x3D3504F3#32) ?_ ?_
  · pointwise
  · unfold ropeIW; rfl

end Cert.Reference11Ideal.Rows

end
-- ==== Proof.Layer.RopeRun.lean ====
/-
  The reference of the sparse attention's preparation: what it leaves.
-/
module

public import proofs.«01_k».proof.Proof.Layer.RopeRef

@[expose] public section

set_option maxRecDepth 16384

noncomputable section

open Idealize.ShloMosaic Idealize.ShloMosaic.TcCoe Idealize.SL.Sem

namespace Cert.Reference11Ideal.Rows

open Cert.Reference11Ideal Cert.Reference11Ideal.Gen Layer

variable (m : (ℓ : Loc nD τ sig) → Buf (Elt Ideal) ℓ)

/-- The reference leaves the turned queries and keys, the indexer's, its scaled weights, and its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v81) = ropeQ (m ((c.tc : Thread nD τ).loc main_arg0)) (m ((c.tc : Thread nD τ).loc main_arg3)) (m ((c.tc : Thread nD τ).loc main_arg4))
      ∧ r.2.mem ((c.tc : Thread nD τ).loc main_v83) = ropeK (m ((c.tc : Thread nD τ).loc main_arg0)) (m ((c.tc : Thread nD τ).loc main_arg3)) (m ((c.tc : Thread nD τ).loc main_arg4))
      ∧ r.2.mem ((c.tc : Thread nD τ).loc main_v85) = ropeIQ (m ((c.tc : Thread nD τ).loc main_arg1)) (m ((c.tc : Thread nD τ).loc main_arg5)) (m ((c.tc : Thread nD τ).loc main_arg6))
      ∧ r.2.mem ((c.tc : Thread nD τ).loc main_v87) = ropeIK (m ((c.tc : Thread nD τ).loc main_arg1)) (m ((c.tc : Thread nD τ).loc main_arg5)) (m ((c.tc : Thread nD τ).loc main_arg6))
      ∧ r.2.mem ((c.tc : Thread nD τ).loc main_v77) = ropeIW (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (refQ_eq _ _ _), (h c).2.1.trans (refK_eq _ _ _), (h c).2.2.1.trans (refIQ_eq _ _ _),
    (h c).2.2.2.1.trans (refIK_eq _ _ _), (h c).2.2.2.2.1.trans (refIW_eq _), (h c).2.2.2.2.2⟩) (Value.run m ρ)

end Cert.Reference11Ideal.Rows

end
-- ==== Proof.Layer.RopePay.lean ====
/-
  One step of the kernel that prepares the sparse attention: heads turned by the tables.
-/
module

public import proofs.«01_k».proof.Proof.Gen.Kernel11Ideal.Frame
public import proofs.«01_k».proof.Proof.Layer.Rope

@[expose] public section

set_option maxRecDepth 16384

noncomputable section

open Idealize.ShloMosaic Idealize.ShloMosaic.TcCoe Idealize.SL.Sem

namespace Cert.Kernel11Ideal.Rows

open Cert.Kernel11Ideal Cert.Kernel11Ideal.Gen Layer

theorem near16_at (r : Fin 256) (l : Fin 128) : k0_pay3 (ix2 r l) = if l.val < 16 then 1#1 else 0#1 := by
  pointwise [k0_pay3]
  revert l; decide +kernel

theorem near8_at (r : Fin 256) (l : Fin 128) : k0_pay4 (ix2 r l) = if l.val % 64 < 8 then 1#1 else 0#1 := by
  pointwise [k0_pay4]
  revert l; decide +kernel

/-- A selection by a decided bit. -/
theorem select_near (p : Prop) [Decidable p] (a b : EReal) : Scalar.select (if p then 1#1 else 0#1) a b = if p then a else b := by
  split_ifs <;> rfl

variable (x : Vec Ideal S1x256x128 .f32) (c s : Vec Ideal S1x256x128 .f32) (r : Fin 256)

theorem pay14_at (l : Fin 128) : (k0_pay14 k0_pay3 (k0_pay5 c) (k0_pay6 s) x (ix3 0 r l) : EReal)
    = swap16 (fun e => x (ix3 0 r e)) (fun e => c (ix3 0 r e)) (fun e => s (ix3 0 r e)) l * Ideal.ofBits .f32 0x3E0293EE#32 := by
  have h := near16_at r
  generalize k0_pay3 = v at h ⊢
  pointwise [k0_pay14, k0_pay5, k0_pay6, swap16]
  rw [h, select_near]

theorem pay16_at (l : Fin 128) : (k0_pay16 k0_pay3 (k0_pay5 c) (k0_pay6 s) x (ix3 0 r l) : EReal)
    = swap16 (fun e => x (ix3 0 r e)) (fun e => c (ix3 0 r e)) (fun e => s (ix3 0 r e)) l * Ideal.ofBits .f32 0x3E0293EE#32 := by
  have h := near16_at r
  generalize k0_pay3 = v at h ⊢
  pointwise [k0_pay16, k0_pay5, k0_pay6, swap16]
  rw [h, select_near]

theorem pay19_at (l : Fin 128) : (k0_pay19 k0_pay3 (k0_pay5 c) (k0_pay6 s) x (ix3 0 r l) : EReal)
    = swap16 (fun e => x (ix3 0 r e)) (fun e => c (ix3 0 r e)) (fun e => s (ix3 0 r e)) l * Ideal.ofBits .f32 0x3E0293EE#32 := by
  have h := near16_at r
  generalize k0_pay3 = v at h ⊢
  pointwise [k0_pay19, k0_pay5, k0_pay6, swap16]
  rw [h, select_near]

theorem pay26_at (l : Fin 128) : (k0_pay26 k0_pay3 (k0_pay5 c) (k0_pay6 s) x (ix3 0 r l) : EReal)
    = swap16 (fun e => x (ix3 0 r e)) (fun e => c (ix3 0 r e)) (fun e => s (ix3 0 r e)) l * Ideal.ofBits .f32 0x3E0293EE#32 := by
  have h := near16_at r
  generalize k0_pay3 = v at h ⊢
  pointwise [k0_pay26, k0_pay5, k0_pay6, swap16]
  rw [h, select_near]

theorem pay28_at (l : Fin 128) : (k0_pay28 k0_pay3 (k0_pay5 c) (k0_pay6 s) x (ix3 0 r l) : EReal)
    = swap16 (fun e => x (ix3 0 r e)) (fun e => c (ix3 0 r e)) (fun e => s (ix3 0 r e)) l * Ideal.ofBits .f32 0x3E0293EE#32 := by
  have h := near16_at r
  generalize k0_pay3 = v at h ⊢
  pointwise [k0_pay28, k0_pay5, k0_pay6, swap16]
  rw [h, select_near]

theorem pay31_at (l : Fin 128) : (k0_pay31 k0_pay3 (k0_pay5 c) (k0_pay6 s) x (ix3 0 r l) : EReal)
    = swap16 (fun e => x (ix3 0 r e)) (fun e => c (ix3 0 r e)) (fun e => s (ix3 0 r e)) l * Ideal.ofBits .f32 0x3E0293EE#32 := by
  have h := near16_at r
  generalize k0_pay3 = v at h ⊢
  pointwise [k0_pay31, k0_pay5, k0_pay6, swap16]
  rw [h, select_near]

theorem pay12_at (l : Fin 128) : (k0_pay12 k0_pay3 (k0_pay5 c) (k0_pay6 s) (k0_pay9 x) (k0_pay10 x) (k0_pay11 x) (ix3 0 r l) : EReal)
    = swap16 (fun e => x (ix3 0 r e)) (fun e => c (ix3 0 r e)) (fun e => s (ix3 0 r e)) l * Ideal.ofBits .f32 0x3E0293EE#32 := by
  have h := near16_at r
  generalize k0_pay3 = v at h ⊢
  pointwise [k0_pay12, k0_pay9, k0_pay10, k0_pay11, k0_pay5, k0_pay6, swap16]
  rw [h, select_near]

theorem pay24_at (l : Fin 128) : (k0_pay24 k0_pay3 (k0_pay5 c) (k0_pay6 s) (k0_pay21 x) (k0_pay22 x) (k0_pay23 x) (ix3 0 r l) : EReal)
    = swap16 (fun e => x (ix3 0 r e)) (fun e => c (ix3 0 r e)) (fun e => s (ix3 0 r e)) l * Ideal.ofBits .f32 0x3E0293EE#32 := by
  have h := near16_at r
  generalize k0_pay3 = v at h ⊢
  pointwise [k0_pay24, k0_pay21, k0_pay22, k0_pay23, k0_pay5, k0_pay6, swap16]
  rw [h, select_near]

theorem pay13_at (l : Fin 128) : (k0_pay13 k0_pay3 (k0_pay5 c) (k0_pay6 s) x (ix3 0 r l) : EReal)
    = swap16 (fun e => x (ix3 0 r e)) (fun e => c (ix3 0 r e)) (fun e => s (ix3 0 r e)) l := by
  have h := near16_at r
  generalize k0_pay3 = v at h ⊢
  pointwise [k0_pay13, k0_pay5, k0_pay6, swap16]
  rw [h, select_near]

theorem pay15_at (l : Fin 128) : (k0_pay15 k0_pay3 (k0_pay5 c) (k0_pay6 s) x (ix3 0 r l) : EReal)
    = swap16 (fun e => x (ix3 0 r e)) (fun e => c (ix3 0 r e)) (fun e => s (ix3 0 r e)) l := by
  have h := near16_at r
  generalize k0_pay3 = v at h ⊢
  pointwise [k0_pay15, k0_pay5, k0_pay6, swap16]
  rw [h, select_near]

theorem pay20_at (l : Fin 128) : (k0_pay20 k0_pay3 (k0_pay5 c) (k0_pay6 s) x (ix3 0 r l) : EReal)
    = swap16 (fun e => x (ix3 0 r e)) (fun e => c (ix3 0 r e)) (fun e => s (ix3 0 r e)) l := by
  have h := near16_at r
  generalize k0_pay3 = v at h ⊢
  pointwise [k0_pay20, k0_pay5, k0_pay6, swap16]
  rw [h, select_near]

theorem pay25_at (l : Fin 128) : (k0_pay25 k0_pay3 (k0_pay5 c) (k0_pay6 s) x (ix3 0 r l) : EReal)
    = swap16 (fun e => x (ix3 0 r e)) (fun e => c (ix3 0 r e)) (fun e => s (ix3 0 r e)) l := by
  have h := near16_at r
  generalize k0_pay3 = v at h ⊢
  pointwise [k0_pay25, k0_pay5, k0_pay6, swap16]
  rw [h, select_near]

theorem pay27_at (l : Fin 128) : (k0_pay27 k0_pay3 (k0_pay5 c) (k0_pay6 s) x (ix3 0 r l) : EReal)
    = swap16 (fun e => x (ix3 0 r e)) (fun e => c (ix3 0 r e)) (fun e => s (ix3 0 r e)) l := by
  have h := near16_at r
  generalize k0_pay3 = v at h ⊢
  pointwise [k0_pay27, k0_pay5, k0_pay6, swap16]
  rw [h, select_near]

theorem pay32_at (l : Fin 128) : (k0_pay32 k0_pay3 (k0_pay5 c) (k0_pay6 s) x (ix3 0 r l) : EReal)
    = swap16 (fun e => x (ix3 0 r e)) (fun e => c (ix3 0 r e)) (fun e => s (ix3 0 r e)) l := by
  have h := near16_at r
  generalize k0_pay3 = v at h ⊢
  pointwise [k0_pay32, k0_pay5, k0_pay6, swap16]
  rw [h, select_near]

theorem pay18_at (l : Fin 128) : (k0_pay18 (k0_pay17 k0_pay3 (k0_pay5 c) (k0_pay6 s) x) (ix3 0 r l) : EReal)
    = swap16 (fun e => x (ix3 0 r e)) (fun e => c (ix3 0 r e)) (fun e => s (ix3 0 r e)) l := by
  have h := near16_at r
  generalize k0_pay3 = v at h ⊢
  pointwise [k0_pay18, k0_pay17, k0_pay5, k0_pay6, swap16]
  rw [h, select_near]

theorem pay30_at (l : Fin 128) : (k0_pay30 (k0_pay29 k0_pay3 (k0_pay5 c) (k0_pay6 s) x) (ix3 0 r l) : EReal)
    = swap16 (fun e => x (ix3 0 r e)) (fun e => c (ix3 0 r e)) (fun e => s (ix3 0 r e)) l := by
  have h := near16_at r
  generalize k0_pay3 = v at h ⊢
  pointwise [k0_pay30, k0_pay29, k0_pay5, k0_pay6, swap16]
  rw [h, select_near]

theorem pay37_at (d : Fin 64) : (k0_pay37 k0_pay4 (k0_pay7 c) (k0_pay8 s) (k0_pay33 x) (k0_pay34 x) (k0_pay35 x) (ix4 0 0 r d) : EReal)
    = swap8 (fun e => x (ix3 0 r e)) (fun e => c (ix3 0 r e)) (fun e => s (ix3 0 r e)) ⟨64 * (0 : Fin 2).val + d.val, by rw [show ((0 : Fin 2).val) = 0 from rfl]; omega⟩ := by
  have h := near8_at r
  generalize k0_pay4 = v at h ⊢
  have e : (⟨64 * (0 : Fin 2).val + d.val, by rw [show ((0 : Fin 2).val) = 0 from rfl]; omega⟩ : Fin 128) = ⟨d.val, by omega⟩ := Fin.ext (by exact Nat.zero_add _)
  rw [e]
  pointwise [k0_pay37, k0_pay36, k0_pay33, k0_pay34, k0_pay35, k0_pay7, k0_pay8, swap8]
  rw [h, select_near]

theorem pay38_at (d : Fin 64) : (k0_pay38 k0_pay4 (k0_pay7 c) (k0_pay8 s) (k0_pay33 x) (k0_pay34 x) (k0_pay35 x) (ix4 0 0 r d) : EReal)
    = swap8 (fun e => x (ix3 0 r e)) (fun e => c (ix3 0 r e)) (fun e => s (ix3 0 r e)) ⟨64 * (1 : Fin 2).val + d.val, by rw [show ((1 : Fin 2).val) = 1 from rfl]; omega⟩ := by
  have h := near8_at r
  generalize k0_pay4 = v at h ⊢
  have e : (⟨64 * (1 : Fin 2).val + d.val, by rw [show ((1 : Fin 2).val) = 1 from rfl]; omega⟩ : Fin 128) = ⟨64 + d.val, by omega⟩ := Fin.ext (by rfl)
  rw [e]
  pointwise [k0_pay38, k0_pay36, k0_pay33, k0_pay34, k0_pay35, k0_pay7, k0_pay8, swap8]
  rw [h, select_near]

theorem pay40_at (d : Fin 64) : (k0_pay40 k0_pay4 (k0_pay7 c) (k0_pay8 s) x (ix4 0 0 r d) : EReal)
    = swap8 (fun e => x (ix3 0 r e)) (fun e => c (ix3 0 r e)) (fun e => s (ix3 0 r e)) ⟨64 * (0 : Fin 2).val + d.val, by rw [show ((0 : Fin 2).val) = 0 from rfl]; omega⟩ := by
  have h := near8_at r
  generalize k0_pay4 = v at h ⊢
  have e : (⟨64 * (0 : Fin 2).val + d.val, by rw [show ((0 : Fin 2).val) = 0 from rfl]; omega⟩ : Fin 128) = ⟨d.val, by omega⟩ := Fin.ext (by exact Nat.zero_add _)
  rw [e]
  pointwise [k0_pay40, k0_pay39, k0_pay7, k0_pay8, swap8]
  rw [h, select_near]

theorem pay41_at (d : Fin 64) : (k0_pay41 k0_pay4 (k0_pay7 c) (k0_pay8 s) x (ix4 0 0 r d) : EReal)
    = swap8 (fun e => x (ix3 0 r e)) (fun e => c (ix3 0 r e)) (fun e => s (ix3 0 r e)) ⟨64 * (1 : Fin 2).val + d.val, by rw [show ((1 : Fin 2).val) = 1 from rfl]; omega⟩ := by
  have h := near8_at r
  generalize k0_pay4 = v at h ⊢
  have e : (⟨64 * (1 : Fin 2).val + d.val, by rw [show ((1 : Fin 2).val) = 1 from rfl]; omega⟩ : Fin 128) = ⟨64 + d.val, by omega⟩ := Fin.ext (by rfl)
  rw [e]
  pointwise [k0_pay41, k0_pay39, k0_pay7, k0_pay8, swap8]
  rw [h, select_near]

theorem pay44_at (d : Fin 64) : (k0_pay44 k0_pay4 (k0_pay7 c) (k0_pay8 s) (k0_pay42 x) (ix4 0 0 r d) : EReal)
    = swap8 (fun e => x (ix3 0 r e)) (fun e => c (ix3 0 r e)) (fun e => s (ix3 0 r e)) ⟨64 * (0 : Fin 2).val + d.val, by rw [show ((0 : Fin 2).val) = 0 from rfl]; omega⟩ := by
  have h := near8_at r
  generalize k0_pay4 = v at h ⊢
  have e : (⟨64 * (0 : Fin 2).val + d.val, by rw [show ((0 : Fin 2).val) = 0 from rfl]; omega⟩ : Fin 128) = ⟨d.val, by omega⟩ := Fin.ext (by exact Nat.zero_add _)
  rw [e]
  pointwise [k0_pay44, k0_pay43, k0_pay42, k0_pay7, k0_pay8, swap8]
  rw [h, select_near]

theorem pay45_at (d : Fin 64) : (k0_pay45 k0_pay4 (k0_pay7 c) (k0_pay8 s) (k0_pay42 x) (ix4 0 0 r d) : EReal)
    = swap8 (fun e => x (ix3 0 r e)) (fun e => c (ix3 0 r e)) (fun e => s (ix3 0 r e)) ⟨64 * (1 : Fin 2).val + d.val, by rw [show ((1 : Fin 2).val) = 1 from rfl]; omega⟩ := by
  have h := near8_at r
  generalize k0_pay4 = v at h ⊢
  have e : (⟨64 * (1 : Fin 2).val + d.val, by rw [show ((1 : Fin 2).val) = 1 from rfl]; omega⟩ : Fin 128) = ⟨64 + d.val, by omega⟩ := Fin.ext (by rfl)
  rw [e]
  pointwise [k0_pay45, k0_pay43, k0_pay42, k0_pay7, k0_pay8, swap8]
  rw [h, select_near]

theorem pay47_at (d : Fin 64) : (k0_pay47 k0_pay4 (k0_pay7 c) (k0_pay8 s) x (ix4 0 0 r d) : EReal)
    = swap8 (fun e => x (ix3 0 r e)) (fun e => c (ix3 0 r e)) (fun e => s (ix3 0 r e)) ⟨64 * (0 : Fin 2).val + d.val, by rw [show ((0 : Fin 2).val) = 0 from rfl]; omega⟩ := by
  have h := near8_at r
  generalize k0_pay4 = v at h ⊢
  have e : (⟨64 * (0 : Fin 2).val + d.val, by rw [show ((0 : Fin 2).val) = 0 from rfl]; omega⟩ : Fin 128) = ⟨d.val, by omega⟩ := Fin.ext (by exact Nat.zero_add _)
  rw [e]
  pointwise [k0_pay47, k0_pay46, k0_pay7, k0_pay8, swap8]
  rw [h, select_near]

theorem pay48_at (d : Fin 64) : (k0_pay48 k0_pay4 (k0_pay7 c) (k0_pay8 s) x (ix4 0 0 r d) : EReal)
    = swap8 (fun e => x (ix3 0 r e)) (fun e => c (ix3 0 r e)) (fun e => s (ix3 0 r e)) ⟨64 * (1 : Fin 2).val + d.val, by rw [show ((1 : Fin 2).val) = 1 from rfl]; omega⟩ := by
  have h := near8_at r
  generalize k0_pay4 = v at h ⊢
  have e : (⟨64 * (1 : Fin 2).val + d.val, by rw [show ((1 : Fin 2).val) = 1 from rfl]; omega⟩ : Fin 128) = ⟨64 + d.val, by omega⟩ := Fin.ext (by rfl)
  rw [e]
  pointwise [k0_pay48, k0_pay46, k0_pay7, k0_pay8, swap8]
  rw [h, select_near]

theorem pay1_at (l : Fin 128) : (k0_pay1 k0_pay4 (k0_pay7 c) (k0_pay8 s) x (ix3 0 r l) : EReal)
    = swap8 (fun e => x (ix3 0 r e)) (fun e => c (ix3 0 r e)) (fun e => s (ix3 0 r e)) l := by
  have h := near8_at r
  generalize k0_pay4 = v at h ⊢
  pointwise [k0_pay1, k0_pay7, k0_pay8, swap8]
  rw [h, select_near]

theorem pay2_at (l : Fin 128) : (k0_pay2 x (ix3 0 r l) : EReal) = x (ix3 0 r l) * Ideal.ofBits .f32 0x3D3504F3#32 := by
  pointwise [k0_pay2]

end Cert.Kernel11Ideal.Rows

end
-- ==== Proof.Layer.RopeCall.lean ====
/-
  The kernel that prepares the sparse attention, from its blocks to its five results.
-/
module

public import proofs.«01_k».proof.Proof.Gen.Kernel11Ideal.Value
public import proofs.«01_k».proof.Proof.Layer.RopePay

@[expose] public section

set_option maxRecDepth 16384

noncomputable section

open Idealize.ShloMosaic Idealize.ShloMosaic.TcCoe Idealize.SL.Sem

namespace Cert.Kernel11Ideal.Rows

open Cert.Kernel11Ideal Cert.Kernel11Ideal.Gen Layer

theorem ldX (x : Vec Ideal S1x256x2048 .f32) (n : ℕ) (hn : n ≤ 1920) (q) (j : Fin 256) (l : Fin 128) :
    View.ld x (Rect.unit (s := S1x256x2048) ![0, 0, n] S1x256x128.size q) (ix3 0 j l) = x (ix3 0 j ⟨n + l.val, by omega⟩) :=
  View.ld_unit_apply_of _ _ _ _ _ _ (by intro a; fin_cases a <;> first | rfl | exact (Nat.zero_add _).symm)

theorem ldI (x : Vec Ideal S1x256x640 .f32) (n : ℕ) (hn : n ≤ 512) (q) (j : Fin 256) (l : Fin 128) :
    View.ld x (Rect.unit (s := S1x256x640) ![0, 0, n] S1x256x128.size q) (ix3 0 j l) = x (ix3 0 j ⟨n + l.val, by omega⟩) :=
  View.ld_unit_apply_of _ _ _ _ _ _ (by intro a; fin_cases a <;> first | rfl | exact (Nat.zero_add _).symm)

theorem ldT (x : Vec Ideal S1x256x128 .f32) (j : Fin 256) (l : Fin 128) : View.ld x r0_0 (ix3 0 j l) = x (ix3 0 j l) :=
  View.ld_unit_apply_of _ _ _ _ _ _ (by intro a; fin_cases a <;> first | rfl | exact (Nat.zero_add _).symm)

/-- Every head of the columns from `o` on as the kernel turns it. -/
def swapHeads (o : ℕ) (ho : o ≤ 1024) (x : Fin 2048 → EReal) (c s : Fin 128 → EReal) (l : Fin 1024) : EReal :=
  swap16 (fun e => x ⟨o + (l.val / 128 * 128 + e.val), by omega⟩) c s ⟨l.val % 128, Nat.mod_lt _ (by decide)⟩

variable (x0 : Vec Ideal S1x256x2048 .f32) (x1 : Vec Ideal S1x256x640 .f32) (x2 x3 x4 x5 x6 : Vec Ideal S1x256x128 .f32)

theorem head (b o n : ℕ) (hb : b ≤ 1024) (ho : o ≤ 896) (hd : o % 128 = 0) (hn : n = b + o) (q) (i : Fin 256) (d : Fin 128) :
    swap16 (fun e => View.ld x0 (Rect.unit (s := S1x256x2048) ![0, 0, n] S1x256x128.size q) (ix3 0 i e)) (fun e => View.ld x3 r0_0 (ix3 0 i e))
      (fun e => View.ld x4 r0_0 (ix3 0 i e)) d
      = swapHeads b hb (fun e => x0 (ix3 0 i e)) (fun e => x3 (ix3 0 i e)) (fun e => x4 (ix3 0 i e)) ⟨o + d.val, by omega⟩ := by
  subst hn
  unfold swapHeads
  have e1 : (⟨(o + d.val) % 128, Nat.mod_lt _ (by decide)⟩ : Fin 128) = d := Fin.ext (by dsimp only; omega)
  rw [e1]
  refine swap16_congr (fun e => (ldX x0 (b + o) (by omega) q i e).trans (congrArg x0 (congrArg (ix3 0 i) (Fin.ext ?_)))) (ldT x3 i) (ldT x4 i) d
  dsimp only
  omega

/-- The block of queries at a row and a lane. -/
def blockQ (y : S1x256x1024.Idx) : EReal :=
  swapHeads 0 (by decide) (fun e => x0 (ix3 0 (y 1) e)) (fun e => x3 (ix3 0 (y 1) e)) (fun e => x4 (ix3 0 (y 1) e)) (y 2) * Ideal.ofBits .f32 0x3E0293EE#32

/-- The block of keys at a row and a lane. -/
def blockK (y : S1x256x1024.Idx) : EReal :=
  swapHeads 1024 (by decide) (fun e => x0 (ix3 0 (y 1) e)) (fun e => x3 (ix3 0 (y 1) e)) (fun e => x4 (ix3 0 (y 1) e)) (y 2)

/-- The block of the indexer's queries at a head, a row and a lane. -/
def blockIQ (y : S1x8x256x64.Idx) : EReal :=
  swap8 (fun e => x1 (ix3 0 (y 2) ⟨128 * ((y 1).val / 2) + e.val, by have : (y 1).val < 8 := (y 1).isLt; omega⟩)) (fun e => x5 (ix3 0 (y 2) e)) (fun e => x6 (ix3 0 (y 2) e))
    ⟨64 * ((y 1).val % 2) + (y 3).val, by have : (y 3).val < 64 := (y 3).isLt; omega⟩

theorem emb (o : ℕ) (h : o ≤ 896) (q) (i : Fin 256) (d : Fin 128) :
    (Rect.unit (s := S1x256x1024) ![0, 0, o] S1x256x128.size q).emb (ix3 0 i d) = ix3 0 i ⟨o + d.val, by omega⟩ := by
  funext a; refine Fin.ext ((Rect.idx_unit_val _ _ _ _ a).trans ?_)
  fin_cases a <;> first | rfl | exact Nat.zero_add _

theorem emb4 (h : Fin 8) (hv : ℕ) (e : hv = h.val) (q) (i : Fin 256) (d : Fin 64) :
    (Rect.unit (s := S1x8x256x64) ![0, hv, 0, 0] S1x1x256x64.size q).emb (ix4 0 0 i d) = ix4 0 h i d := by
  funext a; refine Fin.ext ((Rect.idx_unit_val _ _ _ _ a).trans ?_)
  fin_cases a <;> first | rfl | exact Nat.zero_add _ | exact e

theorem headI (h : Fin 8) (k : Fin 2) (n : ℕ) (hk : k.val = h.val % 2) (hn : n = 128 * (h.val / 2)) (q) (i : Fin 256) (d : Fin 64) :
    swap8 (fun e => View.ld x1 (Rect.unit (s := S1x256x640) ![0, 0, n] S1x256x128.size q) (ix3 0 i e)) (fun e => View.ld x5 r0_0 (ix3 0 i e))
      (fun e => View.ld x6 r0_0 (ix3 0 i e)) ⟨64 * k.val + d.val, by omega⟩ = blockIQ x1 x5 x6 (ix4 0 h i d) := by
  subst hn
  have el : (⟨64 * k.val + d.val, by omega⟩ : Fin 128) = ⟨64 * (h.val % 2) + d.val, by omega⟩ := Fin.ext (by dsimp only; rw [hk])
  rw [el]
  exact swap8_congr (ldI x1 (128 * (h.val / 2)) (by omega) q i) (ldT x5 i) (ldT x6 i) _

theorem row_lane (x : S1x256x128.Idx) : ∃ (i : Fin 256) (d : Fin 128), x = ix3 0 i d :=
  ⟨x 1, x 2, by rw [Subsingleton.elim (0 : Fin 1) (x 0)]; exact eq_ix3 x⟩

theorem row_half (x : S1x1x256x64.Idx) : ∃ (i : Fin 256) (d : Fin 64), x = ix4 0 0 i d :=
  ⟨x 2, x 3, (eq_ix4 x).trans (by rw [Subsingleton.elim (α := Fin 1) (x 0) 0, Subsingleton.elim (α := Fin 1) (x 1) 0])⟩

theorem out7_at (y : S1x256x1024.Idx) : (out0_7 x0 x1 x2 x3 x4 x5 x6 y : EReal) = blockQ x0 x3 x4 y := by
  refine View.canon_apply_of_pieces (Val := Elt Ideal) (S := S1x256x1024) (e := .bf16) (blockQ x0 x3 x4) _ (fun p hp x => ?_) y (cover0_7 _ _ _ _ _ _ _ _ y)
  simp only [List.mem_cons, List.not_mem_nil, or_false] at hp
  rcases hp with rfl | rfl | rfl | rfl | rfl | rfl | rfl | rfl
  · obtain ⟨i, d, rfl⟩ := row_lane x
    exact ((pay31_at _ _ _ i d).trans (congrArg (fun z : EReal => z * Ideal.ofBits .f32 0x3E0293EE#32) (head x0 x3 x4 0 896 896 (by decide) (by decide) rfl rfl _ i d))).trans (congrArg (blockQ x0 x3 x4) (emb 896 (by decide) inb_S1x256x1024_S1x256x128_0_0_896 i d)).symm
  · obtain ⟨i, d, rfl⟩ := row_lane x
    exact ((pay28_at _ _ _ i d).trans (congrArg (fun z : EReal => z * Ideal.ofBits .f32 0x3E0293EE#32) (head x0 x3 x4 0 768 768 (by decide) (by decide) rfl rfl _ i d))).trans (congrArg (blockQ x0 x3 x4) (emb 768 (by decide) inb_S1x256x1024_S1x256x128_0_0_768 i d)).symm
  · obtain ⟨i, d, rfl⟩ := row_lane x
    exact ((pay26_at _ _ _ i d).trans (congrArg (fun z : EReal => z * Ideal.ofBits .f32 0x3E0293EE#32) (head x0 x3 x4 0 640 640 (by decide) (by decide) rfl rfl _ i d))).trans (congrArg (blockQ x0 x3 x4) (emb 640 (by decide) inb_S1x256x1024_S1x256x128_0_0_640 i d)).symm
  · obtain ⟨i, d, rfl⟩ := row_lane x
    exact ((pay24_at _ _ _ i d).trans (congrArg (fun z : EReal => z * Ideal.ofBits .f32 0x3E0293EE#32) (head x0 x3 x4 0 512 512 (by decide) (by decide) rfl rfl _ i d))).trans (congrArg (blockQ x0 x3 x4) (emb 512 (by decide) inb_S1x256x1024_S1x256x128_0_0_512 i d)).symm
  · obtain ⟨i, d, rfl⟩ := row_lane x
    exact ((pay19_at _ _ _ i d).trans (congrArg (fun z : EReal => z * Ideal.ofBits .f32 0x3E0293EE#32) (head x0 x3 x4 0 384 384 (by decide) (by decide) rfl rfl _ i d))).trans (congrArg (blockQ x0 x3 x4) (emb 384 (by decide) inb_S1x256x1024_S1x256x128_0_0_384 i d)).symm
  · obtain ⟨i, d, rfl⟩ := row_lane x
    exact ((pay16_at _ _ _ i d).trans (congrArg (fun z : EReal => z * Ideal.ofBits .f32 0x3E0293EE#32) (head x0 x3 x4 0 256 256 (by decide) (by decide) rfl rfl _ i d))).trans (congrArg (blockQ x0 x3 x4) (emb 256 (by decide) inb_S1x256x1024_S1x256x128_0_0_256 i d)).symm
  · obtain ⟨i, d, rfl⟩ := row_lane x
    exact ((pay14_at _ _ _ i d).trans (congrArg (fun z : EReal => z * Ideal.ofBits .f32 0x3E0293EE#32) (head x0 x3 x4 0 128 128 (by decide) (by decide) rfl rfl _ i d))).trans (congrArg (blockQ x0 x3 x4) (emb 128 (by decide) inb_S1x256x1024_S1x256x128_0_0_128 i d)).symm
  · obtain ⟨i, d, rfl⟩ := row_lane x
    exact ((pay12_at _ _ _ i d).trans (congrArg (fun z : EReal => z * Ideal.ofBits .f32 0x3E0293EE#32) (head x0 x3 x4 0 0 0 (by decide) (by decide) rfl rfl _ i d))).trans (congrArg (blockQ x0 x3 x4) (emb 0 (by decide) inb_S1x256x1024_S1x256x128_0_0_0 i d)).symm

theorem out8_at (y : S1x256x1024.Idx) : (out0_8 x0 x1 x2 x3 x4 x5 x6 y : EReal) = blockK x0 x3 x4 y := by
  refine View.canon_apply_of_pieces (Val := Elt Ideal) (S := S1x256x1024) (e := .bf16) (blockK x0 x3 x4) _ (fun p hp x => ?_) y (cover0_8 _ _ _ _ _ _ _ _ y)
  simp only [List.mem_cons, List.not_mem_nil, or_false] at hp
  rcases hp with rfl | rfl | rfl | rfl | rfl | rfl | rfl | rfl
  · obtain ⟨i, d, rfl⟩ := row_lane x
    exact ((pay32_at _ _ _ i d).trans (head x0 x3 x4 1024 896 1920 (by decide) (by decide) rfl rfl _ i d)).trans (congrArg (blockK x0 x3 x4) (emb 896 (by decide) inb_S1x256x1024_S1x256x128_0_0_896 i d)).symm
  · obtain ⟨i, d, rfl⟩ := row_lane x
    exact ((pay30_at _ _ _ i d).trans (head x0 x3 x4 1024 768 1792 (by decide) (by decide) rfl rfl _ i d)).trans (congrArg (blockK x0 x3 x4) (emb 768 (by decide) inb_S1x256x1024_S1x256x128_0_0_768 i d)).symm
  · obtain ⟨i, d, rfl⟩ := row_lane x
    exact ((pay27_at _ _ _ i d).trans (head x0 x3 x4 1024 640 1664 (by decide) (by decide) rfl rfl _ i d)).trans (congrArg (blockK x0 x3 x4) (emb 640 (by decide) inb_S1x256x1024_S1x256x128_0_0_640 i d)).symm
  · obtain ⟨i, d, rfl⟩ := row_lane x
    exact ((pay25_at _ _ _ i d).trans (head x0 x3 x4 1024 512 1536 (by decide) (by decide) rfl rfl _ i d)).trans (congrArg (blockK x0 x3 x4) (emb 512 (by decide) inb_S1x256x1024_S1x256x128_0_0_512 i d)).symm
  · obtain ⟨i, d, rfl⟩ := row_lane x
    exact ((pay20_at _ _ _ i d).trans (head x0 x3 x4 1024 384 1408 (by decide) (by decide) rfl rfl _ i d)).trans (congrArg (blockK x0 x3 x4) (emb 384 (by decide) inb_S1x256x1024_S1x256x128_0_0_384 i d)).symm
  · obtain ⟨i, d, rfl⟩ := row_lane x
    exact ((pay18_at _ _ _ i d).trans (head x0 x3 x4 1024 256 1280 (by decide) (by decide) rfl rfl _ i d)).trans (congrArg (blockK x0 x3 x4) (emb 256 (by decide) inb_S1x256x1024_S1x256x128_0_0_256 i d)).symm
  · obtain ⟨i, d, rfl⟩ := row_lane x
    exact ((pay15_at _ _ _ i d).trans (head x0 x3 x4 1024 128 1152 (by decide) (by decide) rfl rfl _ i d)).trans (congrArg (blockK x0 x3 x4) (emb 128 (by decide) inb_S1x256x1024_S1x256x128_0_0_128 i d)).symm
  · obtain ⟨i, d, rfl⟩ := row_lane x
    exact ((pay13_at _ _ _ i d).trans (head x0 x3 x4 1024 0 1024 (by decide) (by decide) rfl rfl _ i d)).trans (congrArg (blockK x0 x3 x4) (emb 0 (by decide) inb_S1x256x1024_S1x256x128_0_0_0 i d)).symm

theorem out9_at (y : S1x8x256x64.Idx) : (out0_9 x0 x1 x2 x3 x4 x5 x6 y : EReal) = blockIQ x1 x5 x6 y := by
  refine View.canon_apply_of_pieces (Val := Elt Ideal) (S := S1x8x256x64) (e := .bf16) (blockIQ x1 x5 x6) _ (fun p hp x => ?_) y (cover0_9 _ _ _ _ _ _ _ _ y)
  simp only [List.mem_cons, List.not_mem_nil, or_false] at hp
  rcases hp with rfl | rfl | rfl | rfl | rfl | rfl | rfl | rfl
  · obtain ⟨i, d, rfl⟩ := row_half x
    exact ((pay48_at _ _ _ i d).trans (headI x1 x5 x6 7 1 384 rfl rfl _ i d)).trans (congrArg (blockIQ x1 x5 x6) (emb4 7 7 rfl inb_S1x8x256x64_S1x1x256x64_0_7_0_0 i d)).symm
  · obtain ⟨i, d, rfl⟩ := row_half x
    exact ((pay47_at _ _ _ i d).trans (headI x1 x5 x6 6 0 384 rfl rfl _ i d)).trans (congrArg (blockIQ x1 x5 x6) (emb4 6 6 rfl inb_S1x8x256x64_S1x1x256x64_0_6_0_0 i d)).symm
  · obtain ⟨i, d, rfl⟩ := row_half x
    exact ((pay45_at _ _ _ i d).trans (headI x1 x5 x6 5 1 256 rfl rfl _ i d)).trans (congrArg (blockIQ x1 x5 x6) (emb4 5 5 rfl inb_S1x8x256x64_S1x1x256x64_0_5_0_0 i d)).symm
  · obtain ⟨i, d, rfl⟩ := row_half x
    exact ((pay44_at _ _ _ i d).trans (headI x1 x5 x6 4 0 256 rfl rfl _ i d)).trans (congrArg (blockIQ x1 x5 x6) (emb4 4 4 rfl inb_S1x8x256x64_S1x1x256x64_0_4_0_0 i d)).symm
  · obtain ⟨i, d, rfl⟩ := row_half x
    exact ((pay41_at _ _ _ i d).trans (headI x1 x5 x6 3 1 128 rfl rfl _ i d)).trans (congrArg (blockIQ x1 x5 x6) (emb4 3 3 rfl inb_S1x8x256x64_S1x1x256x64_0_3_0_0 i d)).symm
  · obtain ⟨i, d, rfl⟩ := row_half x
    exact ((pay40_at _ _ _ i d).trans (headI x1 x5 x6 2 0 128 rfl rfl _ i d)).trans (congrArg (blockIQ x1 x5 x6) (emb4 2 2 rfl inb_S1x8x256x64_S1x1x256x64_0_2_0_0 i d)).symm
  · obtain ⟨i, d, rfl⟩ := row_half x
    exact ((pay38_at _ _ _ i d).trans (headI x1 x5 x6 1 1 0 rfl rfl _ i d)).trans (congrArg (blockIQ x1 x5 x6) (emb4 1 1 rfl inb_S1x8x256x64_S1x1x256x64_0_1_0_0 i d)).symm
  · obtain ⟨i, d, rfl⟩ := row_half x
    exact ((pay37_at _ _ _ i d).trans (headI x1 x5 x6 0 0 0 rfl rfl _ i d)).trans (congrArg (blockIQ x1 x5 x6) (emb4 0 0 rfl inb_S1x8x256x64_S1x1x256x64_0_0_0_0 i d)).symm

/-- Where the windows' blocks lie, decided. -/
theorem idx_val : ∀ t : Fin cfg0.N, win0_0.index t = ![t.val / 64, t.val % 64, 0]
    ∧ win0_1.index t = ![t.val / 64, t.val % 64, 0]
    ∧ win0_2.index t = ![t.val / 64, t.val % 64, 0]
    ∧ win0_3.index t = ![t.val / 64, t.val % 64, 0]
    ∧ win0_4.index t = ![t.val / 64, t.val % 64, 0]
    ∧ win0_5.index t = ![t.val / 64, t.val % 64, 0]
    ∧ win0_6.index t = ![t.val / 64, t.val % 64, 0]
    ∧ win0_7.index t = ![t.val / 64, t.val % 64, 0]
    ∧ win0_8.index t = ![t.val / 64, t.val % 64, 0]
    ∧ win0_9.index t = ![t.val / 64, 0, t.val % 64, 0]
    ∧ win0_10.index t = ![t.val / 64, t.val % 64, 0]
    ∧ win0_11.index t = ![t.val / 64, t.val % 64, 0] :=
  (by decide +kernel : ∀ t : Fin grid0.N, _)

/-- The batch row of point `t`, and the token that row `i` of its block is. -/
abbrev batch (t : Fin cfg0.N) : Fin 2 := ⟨t.val / 64, by have := lt_of_lt_of_eq t.isLt N_0; omega⟩
abbrev token (t : Fin cfg0.N) (i : Fin 256) : Fin 16384 := ⟨256 * (t.val % 64) + i.val, by omega⟩

variable (m : (ℓ : Loc nD τ sig) → Buf (Elt Ideal) ℓ)

theorem blk0 (c : Dev nD) (t : Fin cfg0.N) (i : Fin 256) (l : Fin 2048) :
    (iblk m c 0 t (ix3 0 i l) : EReal) = m ((c : Thread nD τ).loc main_arg0) (ix3 (batch t) (token t i) l) := by
  have e := (idx_val t).1
  have e0 : win0_0.index t 0 = t.val / 64 := by rw [e]; rfl
  have e1 : win0_0.index t 1 = t.val % 64 := by rw [e]; rfl
  have e2 : win0_0.index t 2 = 0 := by rw [e]; rfl
  blk_simp [iblk, e]
  entry_read
  blk_ext [e0, e1, e2]

theorem blk1 (c : Dev nD) (t : Fin cfg0.N) (i : Fin 256) (l : Fin 640) :
    (iblk m c 1 t (ix3 0 i l) : EReal) = m ((c : Thread nD τ).loc main_arg1) (ix3 (batch t) (token t i) l) := by
  have e := (idx_val t).2.1
  have e0 : win0_1.index t 0 = t.val / 64 := by rw [e]; rfl
  have e1 : win0_1.index t 1 = t.val % 64 := by rw [e]; rfl
  have e2 : win0_1.index t 2 = 0 := by rw [e]; rfl
  blk_simp [iblk, e]
  entry_read
  blk_ext [e0, e1, e2]

theorem blk2 (c : Dev nD) (t : Fin cfg0.N) (i : Fin 256) (l : Fin 128) :
    (iblk m c 2 t (ix3 0 i l) : EReal) = m ((c : Thread nD τ).loc main_arg2) (ix3 (batch t) (token t i) l) := by
  have e := (idx_val t).2.2.1
  have e0 : win0_2.index t 0 = t.val / 64 := by rw [e]; rfl
  have e1 : win0_2.index t 1 = t.val % 64 := by rw [e]; rfl
  have e2 : win0_2.index t 2 = 0 := by rw [e]; rfl
  blk_simp [iblk, e]
  entry_read
  blk_ext [e0, e1, e2]

theorem blk3 (c : Dev nD) (t : Fin cfg0.N) (i : Fin 256) (l : Fin 128) :
    (iblk m c 3 t (ix3 0 i l) : EReal) = m ((c : Thread nD τ).loc main_arg3) (ix3 (batch t) (token t i) l) := by
  have e := (idx_val t).2.2.2.1
  have e0 : win0_3.index t 0 = t.val / 64 := by rw [e]; rfl
  have e1 : win0_3.index t 1 = t.val % 64 := by rw [e]; rfl
  have e2 : win0_3.index t 2 = 0 := by rw [e]; rfl
  blk_simp [iblk, e]
  entry_read
  blk_ext [e0, e1, e2]

theorem blk4 (c : Dev nD) (t : Fin cfg0.N) (i : Fin 256) (l : Fin 128) :
    (iblk m c 4 t (ix3 0 i l) : EReal) = m ((c : Thread nD τ).loc main_arg4) (ix3 (batch t) (token t i) l) := by
  have e := (idx_val t).2.2.2.2.1
  have e0 : win0_4.index t 0 = t.val / 64 := by rw [e]; rfl
  have e1 : win0_4.index t 1 = t.val % 64 := by rw [e]; rfl
  have e2 : win0_4.index t 2 = 0 := by rw [e]; rfl
  blk_simp [iblk, e]
  entry_read
  blk_ext [e0, e1, e2]

theorem blk5 (c : Dev nD) (t : Fin cfg0.N) (i : Fin 256) (l : Fin 128) :
    (iblk m c 5 t (ix3 0 i l) : EReal) = m ((c : Thread nD τ).loc main_arg5) (ix3 (batch t) (token t i) l) := by
  have e := (idx_val t).2.2.2.2.2.1
  have e0 : win0_5.index t 0 = t.val / 64 := by rw [e]; rfl
  have e1 : win0_5.index t 1 = t.val % 64 := by rw [e]; rfl
  have e2 : win0_5.index t 2 = 0 := by rw [e]; rfl
  blk_simp [iblk, e]
  entry_read
  blk_ext [e0, e1, e2]

theorem blk6 (c : Dev nD) (t : Fin cfg0.N) (i : Fin 256) (l : Fin 128) :
    (iblk m c 6 t (ix3 0 i l) : EReal) = m ((c : Thread nD τ).loc main_arg6) (ix3 (batch t) (token t i) l) := by
  have e := (idx_val t).2.2.2.2.2.2.1
  have e0 : win0_6.index t 0 = t.val / 64 := by rw [e]; rfl
  have e1 : win0_6.index t 1 = t.val % 64 := by rw [e]; rfl
  have e2 : win0_6.index t 2 = 0 := by rw [e]; rfl
  blk_simp [iblk, e]
  entry_read
  blk_ext [e0, e1, e2]

/-- The tables hold what the rotary embedding of 128 lanes asks, at every token. -/
def Good16 (C S : FVec Ideal S2x16384x128 .f32) : Prop := ∀ (p : Fin 2) (t : Fin 16384), Table16 (rowOf C p t) (rowOf S p t)

/-- The tables hold what the rotary embedding of 64 lanes asks, at every token. -/
def Good8 (C S : FVec Ideal S2x16384x128 .f32) : Prop := ∀ (p : Fin 2) (t : Fin 16384), Table8 (rowOf C p t) (rowOf S p t)

theorem swapHeads_eq (o : ℕ) (ho : o ≤ 1024) (x : Fin 2048 → EReal) (c s : Fin 128 → EReal) (h : Table16 c s) (l : Fin 1024) :
    swapHeads o ho x c s l = headsAt o ho x c s l := swap16_eq _ _ _ h _

theorem swap8_lane (x : Fin 640 → EReal) (c s : Fin 128 → EReal) (h : Table8 c s) (l : Fin 128) :
    swap8 (fun e => x ⟨512 + e.val, by omega⟩) c s l = keyAt x c s l := by
  have e := swap8_eq (fun e => x ⟨512 + e.val, by omega⟩) c s h ⟨l.val / 64, by omega⟩ ⟨l.val % 64, Nat.mod_lt _ (by decide)⟩
  have el : (⟨64 * (l.val / 64) + l.val % 64, by omega⟩ : Fin 128) = l := Fin.ext (by dsimp only; omega)
  dsimp only at e
  rw [el] at e
  refine e.trans ?_
  unfold keyAt
  refine congrArg (fun x => turn8 x c s _) (funext fun e => congrArg x (Fin.ext ?_))
  dsimp only
  omega

theorem final7 (c : Dev nD) (g : Good16 (m ((c : Thread nD τ).loc main_arg3)) (m ((c : Thread nD τ).loc main_arg4))) : (dats m 0 c).arrAt 7 cfg0.N = ropeQ (m ((c : Thread nD τ).loc main_arg0)) (m ((c : Thread nD τ).loc main_arg3)) (m ((c : Thread nD τ).loc main_arg4)) := by
  refine (dats m 0 c).arrAt_eq_of_covers 7 _ (by decide +kernel) fun t _ y => ?_
  obtain ⟨i, l, rfl⟩ : ∃ (i : Fin 256) (l : Fin 1024), y = ix3 0 i l := ⟨y 1, y 2, by rw [Subsingleton.elim (0 : Fin 1) (y 0)]; exact eq_ix3 y⟩
  blk_simp
  rw [after0_7]
  have e := (idx_val t).2.2.2.2.2.2.2.1
  have e0 : win0_7.index t 0 = t.val / 64 := by rw [e]; rfl
  have e1 : win0_7.index t 1 = t.val % 64 := by rw [e]; rfl
  have e2 : win0_7.index t 2 = 0 := by rw [e]; rfl
  have hy : ((View.whole main_v0_0).slice (win0_7.rect t)).emb (ix3 0 i l) = ix3 (batch t) (token t i) l := by
    funext a; refine Fin.ext ?_
    fin_cases a <;> blk_simp [e0, e1, e2]
    · rfl
    · show t.val % 64 * 256 + i.val = 256 * (t.val % 64) + i.val; omega
    · rfl
  refine (out7_at _ _ _ _ _ _ _ (ix3 0 i l)).trans ?_
  refine Eq.trans ?_ (congrArg (ropeQ _ _ _) hy).symm
  unfold blockQ ropeQ
  refine congrArg (fun z : EReal => z * Ideal.ofBits .f32 0x3E0293EE#32) ?_
  refine Eq.trans ?_ (swapHeads_eq _ _ _ _ _ (g (batch t) (token t i)) l)
  show swapHeads _ _ (fun e => (iblk m c 0 t (ix3 0 i e) : EReal)) (fun e => iblk m c 3 t (ix3 0 i e)) (fun e => iblk m c 4 t (ix3 0 i e)) l = _
  simp only [blk0, blk3, blk4]
  rfl

theorem final8 (c : Dev nD) (g : Good16 (m ((c : Thread nD τ).loc main_arg3)) (m ((c : Thread nD τ).loc main_arg4))) : (dats m 0 c).arrAt 8 cfg0.N = ropeK (m ((c : Thread nD τ).loc main_arg0)) (m ((c : Thread nD τ).loc main_arg3)) (m ((c : Thread nD τ).loc main_arg4)) := by
  refine (dats m 0 c).arrAt_eq_of_covers 8 _ (by decide +kernel) fun t _ y => ?_
  obtain ⟨i, l, rfl⟩ : ∃ (i : Fin 256) (l : Fin 1024), y = ix3 0 i l := ⟨y 1, y 2, by rw [Subsingleton.elim (0 : Fin 1) (y 0)]; exact eq_ix3 y⟩
  blk_simp
  rw [after0_8]
  have e := (idx_val t).2.2.2.2.2.2.2.2.1
  have e0 : win0_8.index t 0 = t.val / 64 := by rw [e]; rfl
  have e1 : win0_8.index t 1 = t.val % 64 := by rw [e]; rfl
  have e2 : win0_8.index t 2 = 0 := by rw [e]; rfl
  have hy : ((View.whole main_v0_1).slice (win0_8.rect t)).emb (ix3 0 i l) = ix3 (batch t) (token t i) l := by
    funext a; refine Fin.ext ?_
    fin_cases a <;> blk_simp [e0, e1, e2]
    · rfl
    · show t.val % 64 * 256 + i.val = 256 * (t.val % 64) + i.val; omega
    · rfl
  refine (out8_at _ _ _ _ _ _ _ (ix3 0 i l)).trans ?_
  refine Eq.trans ?_ (congrArg (ropeK _ _ _) hy).symm
  unfold blockK ropeK
  refine Eq.trans ?_ (swapHeads_eq _ _ _ _ _ (g (batch t) (token t i)) l)
  show swapHeads _ _ (fun e => (iblk m c 0 t (ix3 0 i e) : EReal)) (fun e => iblk m c 3 t (ix3 0 i e)) (fun e => iblk m c 4 t (ix3 0 i e)) l = _
  simp only [blk0, blk3, blk4]
  rfl

theorem final9 (c : Dev nD) (g : Good8 (m ((c : Thread nD τ).loc main_arg5)) (m ((c : Thread nD τ).loc main_arg6))) : (dats m 0 c).arrAt 9 cfg0.N = ropeIQ (m ((c : Thread nD τ).loc main_arg1)) (m ((c : Thread nD τ).loc main_arg5)) (m ((c : Thread nD τ).loc main_arg6)) := by
  refine (dats m 0 c).arrAt_eq_of_covers 9 _ (by decide +kernel) fun t _ y => ?_
  obtain ⟨h, i, l, rfl⟩ : ∃ (h : Fin 8) (i : Fin 256) (l : Fin 64), y = ix4 0 h i l := ⟨y 1, y 2, y 3, by rw [Subsingleton.elim (0 : Fin 1) (y 0)]; exact eq_ix4 y⟩
  blk_simp
  rw [after0_9]
  have e := (idx_val t).2.2.2.2.2.2.2.2.2.1
  have e0 : win0_9.index t 0 = t.val / 64 := by rw [e]; rfl
  have e1 : win0_9.index t 1 = 0 := by rw [e]; rfl
  have e2 : win0_9.index t 2 = t.val % 64 := by rw [e]; rfl
  have e3 : win0_9.index t 3 = 0 := by rw [e]; rfl
  have hy : ((View.whole main_v0_2).slice (win0_9.rect t)).emb (ix4 0 h i l) = ix4 (batch t) h (token t i) l := by
    funext a; refine Fin.ext ?_
    fin_cases a <;> blk_simp [e0, e1, e2, e3]
    · rfl
    · rfl
    · show t.val % 64 * 256 + i.val = 256 * (t.val % 64) + i.val; omega
    · rfl
  refine (out9_at _ _ _ _ _ _ _ (ix4 0 h i l)).trans ?_
  refine Eq.trans ?_ (congrArg (ropeIQ _ _ _) hy).symm
  refine (show blockIQ (iblk m c 1 t) (iblk m c 5 t) (iblk m c 6 t) (ix4 0 h i l) = swap8 (fun e => m ((c : Thread nD τ).loc main_arg1) (ix3 (batch t) (token t i) ⟨128 * (h.val / 2) + e.val, by omega⟩))
    (rowOf (m ((c : Thread nD τ).loc main_arg5)) (batch t) (token t i)) (rowOf (m ((c : Thread nD τ).loc main_arg6)) (batch t) (token t i)) ⟨64 * (h.val % 2) + l.val, by omega⟩ from ?_).trans ?_
  · show swap8 (fun e => (iblk m c 1 t (ix3 0 i ⟨128 * (h.val / 2) + e.val, by omega⟩) : EReal)) (fun e => iblk m c 5 t (ix3 0 i e)) (fun e => iblk m c 6 t (ix3 0 i e)) _ = _
    simp only [blk1, blk5, blk6]
    rfl
  · refine (swap8_eq _ _ _ (g (batch t) (token t i)) ⟨h.val % 2, by omega⟩ l).trans ?_
    refine congrArg (fun x => turn8 x _ _ l) (funext fun e => congrArg (m ((c : Thread nD τ).loc main_arg1)) (congrArg (ix3 (batch t) (token t i)) (Fin.ext ?_)))
    show 128 * (h.val / 2) + (64 * (h.val % 2) + e.val) = 64 * h.val + e.val
    omega

theorem final10 (c : Dev nD) (g : Good8 (m ((c : Thread nD τ).loc main_arg5)) (m ((c : Thread nD τ).loc main_arg6))) : (dats m 0 c).arrAt 10 cfg0.N = ropeIK (m ((c : Thread nD τ).loc main_arg1)) (m ((c : Thread nD τ).loc main_arg5)) (m ((c : Thread nD τ).loc main_arg6)) := by
  refine (dats m 0 c).arrAt_eq_of_covers 10 _ (by decide +kernel) fun t _ y => ?_
  obtain ⟨i, l, rfl⟩ : ∃ (i : Fin 256) (l : Fin 128), y = ix3 0 i l := ⟨y 1, y 2, by rw [Subsingleton.elim (0 : Fin 1) (y 0)]; exact eq_ix3 y⟩
  blk_simp
  rw [after0_10]; frame_out
  have e := (idx_val t).2.2.2.2.2.2.2.2.2.2.1
  have e0 : win0_10.index t 0 = t.val / 64 := by rw [e]; rfl
  have e1 : win0_10.index t 1 = t.val % 64 := by rw [e]; rfl
  have e2 : win0_10.index t 2 = 0 := by rw [e]; rfl
  have hy : ((View.whole main_v0_3).slice (win0_10.rect t)).emb (ix3 0 i l) = ix3 (batch t) (token t i) l := by
    funext a; refine Fin.ext ?_
    fin_cases a <;> blk_simp [e0, e1, e2]
    · rfl
    · show t.val % 64 * 256 + i.val = 256 * (t.val % 64) + i.val; omega
    · rfl
  refine (pay1_at _ _ _ i l).trans ?_
  refine Eq.trans ?_ (congrArg (ropeIK _ _ _) hy).symm
  refine (swap8_congr (fun e => (ldI _ 512 (by decide) _ i e).trans (blk1 m c t i _)) (fun e => (ldT _ i e).trans (blk5 m c t i e)) (fun e => (ldT _ i e).trans (blk6 m c t i e)) l).trans ?_
  exact swap8_lane (fun e => m ((c : Thread nD τ).loc main_arg1) (ix3 (batch t) (token t i) e)) _ _ (g (batch t) (token t i)) l

theorem final11 (c : Dev nD) : (dats m 0 c).arrAt 11 cfg0.N = ropeIW (m ((c : Thread nD τ).loc main_arg2)) := by
  refine (dats m 0 c).arrAt_eq_of_covers 11 _ (by decide +kernel) fun t _ y => ?_
  obtain ⟨i, l, rfl⟩ : ∃ (i : Fin 256) (l : Fin 128), y = ix3 0 i l := ⟨y 1, y 2, by rw [Subsingleton.elim (0 : Fin 1) (y 0)]; exact eq_ix3 y⟩
  blk_simp
  rw [after0_11]; frame_out
  have e := (idx_val t).2.2.2.2.2.2.2.2.2.2.2
  have e0 : win0_11.index t 0 = t.val / 64 := by rw [e]; rfl
  have e1 : win0_11.index t 1 = t.val % 64 := by rw [e]; rfl
  have e2 : win0_11.index t 2 = 0 := by rw [e]; rfl
  have hy : ((View.whole main_v0_4).slice (win0_11.rect t)).emb (ix3 0 i l) = ix3 (batch t) (token t i) l := by
    funext a; refine Fin.ext ?_
    fin_cases a <;> blk_simp [e0, e1, e2]
    · rfl
    · show t.val % 64 * 256 + i.val = 256 * (t.val % 64) + i.val; omega
    · rfl
  refine (pay2_at _ i l).trans ?_
  refine Eq.trans ?_ (congrArg (ropeIW _) hy).symm
  exact congrArg (fun z : EReal => z * Ideal.ofBits .f32 0x3D3504F3#32) (blk2 m c t i l)

end Cert.Kernel11Ideal.Rows

end
-- ==== Proof.Layer.RopePre.lean ====
/-
  What the precondition on the rotary tables says of a row of lanes.
-/
module

public import proofs.«01_k».proof.Pre_rotary
public import proofs.«01_k».proof.Proof.Layer.Rope

@[expose] public section

set_option maxRecDepth 16384

noncomputable section

open Idealize.ShloMosaic

namespace Layer

theorem bit_true (b : Bool) (h : BitVec.ofBool b = 1#1) : b = true := by
  cases b
  · exact absurd h (by decide)
  · rfl

theorem cosLanes16 (f : Fin 128 → EReal) (d : Fin 128) :
    (if h : d.val < 16 then f d else if h : d.val - 16 < 16 then f ⟨d.val - 16, by omega⟩ else (1 : EReal))
      = if h : d.val < 16 then f ⟨d.val, by omega⟩ else if h2 : d.val < 32 then f ⟨d.val - 16, by omega⟩ else 1 := by
  split_ifs <;> first | rfl | omega | exact congrArg f (Fin.ext (by dsimp only; omega)) | exact congrArg (fun e => -f e) (Fin.ext (by dsimp only; omega))

theorem sinLanes16 (f : Fin 128 → EReal) (d : Fin 128) :
    (if h : d.val < 16 then -f ⟨16 + d.val, by omega⟩ else if h : d.val - 16 < 16 then f ⟨16 + (d.val - 16), by omega⟩ else (0 : EReal))
      = if h : d.val < 16 then -f ⟨d.val + 16, by omega⟩ else if h2 : d.val < 32 then f ⟨d.val, by omega⟩ else 0 := by
  split_ifs <;> first | rfl | omega | exact congrArg f (Fin.ext (by dsimp only; omega)) | exact congrArg (fun e => -f e) (Fin.ext (by dsimp only; omega))

theorem cosLanes8 (f : Fin 128 → EReal) (d : Fin 128) :
    (if h : d.val < 8 then f d else if h : d.val - 8 < 8 then f ⟨d.val - 8, by omega⟩ else if h : d.val - 8 - 8 < 48 then (1 : EReal)
      else if h : d.val - 8 - 8 - 48 < 8 then f ⟨d.val - 8 - 8 - 48, by omega⟩ else if h : d.val - 8 - 8 - 48 - 8 < 8 then f ⟨d.val - 8 - 8 - 48 - 8, by omega⟩ else 1)
      = if h : d.val % 64 < 8 then f ⟨d.val % 64, by omega⟩ else if h2 : d.val % 64 < 16 then f ⟨d.val % 64 - 8, by omega⟩ else 1 := by
  split_ifs <;> first | rfl | omega | exact congrArg f (Fin.ext (by dsimp only; omega)) | exact congrArg (fun e => -f e) (Fin.ext (by dsimp only; omega))

theorem sinLanes8 (f : Fin 128 → EReal) (d : Fin 128) :
    (if h : d.val < 8 then -f ⟨8 + d.val, by omega⟩ else if h : d.val - 8 < 8 then f ⟨8 + (d.val - 8), by omega⟩ else if h : d.val - 8 - 8 < 48 then (0 : EReal)
      else if h : d.val - 8 - 8 - 48 < 8 then -f ⟨8 + (d.val - 8 - 8 - 48), by omega⟩ else if h : d.val - 8 - 8 - 48 - 8 < 8 then f ⟨8 + (d.val - 8 - 8 - 48 - 8), by omega⟩ else 0)
      = if h : d.val % 64 < 8 then -f ⟨d.val % 64 + 8, by omega⟩ else if h2 : d.val % 64 < 16 then f ⟨d.val % 64, by omega⟩ else 0 := by
  split_ifs <;> first | rfl | omega | exact congrArg f (Fin.ext (by dsimp only; omega)) | exact congrArg (fun e => -f e) (Fin.ext (by dsimp only; omega))

end Layer

namespace Cert.Pre_rotary.Rows

open Cert.Pre_rotary Cert.Pre_rotary.Facts Layer

variable [Cert.Pre_rotary.Facts]

variable (x0 : FVec Ideal S2x16384x2048 .f32) (x1 : FVec Ideal S2x16384x640 .f32) (x2 C S D T : FVec Ideal S2x16384x128 .f32)

theorem cos16_at (h : (fn (F := Ideal) x0 x1 x2 C S D T).1 = fun _ => 1#1) (p : Fin 2) (t : Fin 16384) (d : Fin 128) :
    rowOf C p t d = if h : d.val < 16 then rowOf C p t ⟨d.val, by omega⟩ else if h2 : d.val < 32 then rowOf C p t ⟨d.val - 16, by omega⟩ else 1 := by
  have e := congrFun h (ix3 p t d)
  pointwise [fn] at e
  exact (of_decide_eq_true (bit_true _ e)).trans (cosLanes16 (rowOf C p t) d)

theorem sin16_at (h : (fn (F := Ideal) x0 x1 x2 C S D T).2.1 = fun _ => 1#1) (p : Fin 2) (t : Fin 16384) (d : Fin 128) :
    rowOf S p t d = if h : d.val < 16 then -rowOf S p t ⟨d.val + 16, by omega⟩ else if h2 : d.val < 32 then rowOf S p t ⟨d.val, by omega⟩ else 0 := by
  have e := congrFun h (ix3 p t d)
  pointwise [fn] at e
  exact (of_decide_eq_true (bit_true _ e)).trans (sinLanes16 (rowOf S p t) d)

theorem cos8_at (h : (fn (F := Ideal) x0 x1 x2 C S D T).2.2.1 = fun _ => 1#1) (p : Fin 2) (t : Fin 16384) (d : Fin 128) :
    rowOf D p t d = if h : d.val % 64 < 8 then rowOf D p t ⟨d.val % 64, by omega⟩ else if h2 : d.val % 64 < 16 then rowOf D p t ⟨d.val % 64 - 8, by omega⟩ else 1 := by
  have e := congrFun h (ix3 p t d)
  pointwise [fn] at e
  exact (of_decide_eq_true (bit_true _ e)).trans (cosLanes8 (rowOf D p t) d)

theorem sin8_at (h : (fn (F := Ideal) x0 x1 x2 C S D T).2.2.2 = fun _ => 1#1) (p : Fin 2) (t : Fin 16384) (d : Fin 128) :
    rowOf T p t d = if h : d.val % 64 < 8 then -rowOf T p t ⟨d.val % 64 + 8, by omega⟩ else if h2 : d.val % 64 < 16 then rowOf T p t ⟨d.val % 64, by omega⟩ else 0 := by
  have e := congrFun h (ix3 p t d)
  pointwise [fn] at e
  exact (of_decide_eq_true (bit_true _ e)).trans (sinLanes8 (rowOf T p t) d)

theorem table16 (h : (fn (F := Ideal) x0 x1 x2 C S D T).1 = fun _ => 1#1) (h' : (fn (F := Ideal) x0 x1 x2 C S D T).2.1 = fun _ => 1#1)
    (p : Fin 2) (t : Fin 16384) : Table16 (rowOf C p t) (rowOf S p t) :=
  fun d => ⟨cos16_at x0 x1 x2 C S D T h p t d, sin16_at x0 x1 x2 C S D T h' p t d⟩

theorem table8 (h : (fn (F := Ideal) x0 x1 x2 C S D T).2.2.1 = fun _ => 1#1) (h' : (fn (F := Ideal) x0 x1 x2 C S D T).2.2.2 = fun _ => 1#1)
    (p : Fin 2) (t : Fin 16384) : Table8 (rowOf D p t) (rowOf T p t) :=
  fun d => ⟨cos8_at x0 x1 x2 C S D T h p t d, sin8_at x0 x1 x2 C S D T h' p t d⟩

end Cert.Pre_rotary.Rows

end
-- ==== Proof.Layer.Ffn.lean ====
/-
  The feed-forward call: kernel and reference both leave, of every token, its row plus the gated hidden row times the output
  weights. The kernel takes the 2816 hidden columns in two halves, one grid point each, and carries the normed rows and the sum.
-/
module

public import proofs.«01_k».proof.Proof.Gen.Kernel2Ideal.Frame
public import proofs.«01_k».proof.Proof.Gen.Kernel2Ideal.Value
public import proofs.«01_k».proof.Proof.Gen.Reference2Ideal.Run
public import proofs.«01_k».proof.Proof.Layer.Spec
public import Idealize.ShloMosaic.Lib.Pipeline.ReadBack

@[expose] public section

set_option maxRecDepth 16384

noncomputable section

open Idealize.ShloMosaic Idealize.ShloMosaic.TcCoe Idealize.SL.Sem

namespace Layer

/-- A hidden column of the feed-forward: the gate's product through silu, times the up product. -/
def hiddenCol {n : ℕ} (h : Fin 1024 → EReal) (wg wu : Fin 1024 → Fin n → EReal) (f : Fin n) : EReal :=
  times h wg f * sigmoid (times h wg f) * times h wu f

/-- The row that the feed-forward leaves of a token. -/
def ffnRow {n : ℕ} (x g : Fin 1024 → EReal) (wg wu : Fin 1024 → Fin n → EReal) (wo : Fin n → Fin 1024 → EReal) (l : Fin 1024) : EReal :=
  x l + times (hiddenCol (normed x g) wg wu) wo l

/-- A hidden column of either half. -/
def half (s : Fin 2) (f : Fin 1408) : Fin 2816 := ⟨1408 * s.val + f.val, by omega⟩

/-- The sum over the hidden columns is the sum of the halves' sums. -/
theorem halves (F : Fin 2816 → EReal) : ∑ f, F f = ∑ f, F (half 0 f) + ∑ f, F (half 1 f) := by
  refine (Fin.sum_univ_add (a := 1408) (b := 1408) F).trans ?_
  exact congrArg (· + _) (Finset.sum_congr rfl fun f _ => congrArg F (Fin.ext (Nat.zero_add _).symm))

end Layer

namespace Cert.Kernel2Ideal.Rows

open Cert.Kernel2Ideal Cert.Kernel2Ideal.Gen Layer

variable (m : (ℓ : Loc nD τ sig) → Buf (Elt Ideal) ℓ)

/-- Where the windows' blocks lie, decided. -/
theorem idx_val : ∀ t : Fin cfg0.N, win0_0.index t = ![t.val / 2, 0] ∧ win0_1.index t = ![0, 0] ∧ win0_2.index t = ![0, t.val % 2]
    ∧ win0_3.index t = ![0, t.val % 2] ∧ win0_4.index t = ![t.val % 2, 0] ∧ win0_5.index t = ![t.val / 2, 0] :=
  (by decide +kernel : ∀ t : Fin grid0.N, _)

/-- The rows that the call leaves, from the arguments. -/
def result (X : FVec Ideal S2x16384x1024 .f32) (g : FVec Ideal S1024 .f32) (W : FVec Ideal S1024x5632 .f32)
    (wo : FVec Ideal S2816x1024 .f32) : FVec Ideal S32768x1024 .f32 :=
  fun i => ffnRow (n := 2816) (row (fun p t l => X (ix3 p t l)) (i 0)) (fun l => g (ix1 l)) (fun k f => W (ix2 k ⟨f.val, by omega⟩))
    (fun k f => W (ix2 k ⟨2816 + f.val, by omega⟩)) (fun f l => wo (ix2 f l)) (i 1)

theorem pay1_at (x : Vec Ideal S512x1024 .f32) (g : Vec Ideal S1x1024 .f32) (i : Fin 512) (l : Fin 1024) :
    (k0_pay1 x g (ix2 i l) : EReal) = normed (fun k => x (ix2 i k)) (fun k => g (ix2 0 k)) l := by
  pointwise [k0_pay1, normed]

theorem pay2_at (x : Vec Ideal S512x1024 .f32) (i : Fin 512) (l : Fin 1024) : (k0_pay2 x (ix2 i l) : EReal) = x (ix2 i l) := by
  pointwise [k0_pay2]

theorem pay3_at (h : Vec Ideal S512x1024 .bf16) (wg wu : Vec Ideal S1024x1408 .bf16) (acc : Vec Ideal S512x1024 .f32)
    (wo : Vec Ideal S1408x1024 .bf16) (i : Fin 512) (l : Fin 1024) :
    (k0_pay3 h wg wu acc wo (ix2 i l) : EReal) = acc (ix2 i l)
      + times (hiddenCol (fun k => h (ix2 i k)) (fun k f => wg (ix2 k f)) (fun k f => wu (ix2 k f))) (fun f l => wo (ix2 f l)) l := by
  pointwise [k0_pay3, hiddenCol, times, sigmoid]

theorem lt_N (t : Fin cfg0.N) : t.val < 128 := t.isLt.trans_eq N_0
/-- The row of the array that row `i` of point `t`'s block is, and the half of the hidden columns that the point takes. -/
abbrev at_ (t : Fin cfg0.N) (i : Fin 512) : Fin 32768 := ⟨512 * (t.val / 2) + i.val, by have := lt_N t; omega⟩
abbrev side (t : Fin cfg0.N) : Fin 2 := ⟨t.val % 2, Nat.mod_lt _ (by decide)⟩

theorem blkX (c : Dev nD) (t : Fin cfg0.N) (i : Fin 512) (l : Fin 1024) :
    (iblk m c 0 t (ix2 i l) : EReal) = row (fun p t l => m ((c : Thread nD τ).loc main_arg0) (ix3 p t l)) (at_ t i) l := by
  have e := (idx_val t).1
  have e0 : win0_0.index t 0 = t.val / 2 := by rw [e]; rfl
  have e1 : win0_0.index t 1 = 0 := by rw [e]; rfl
  blk_simp [iblk, e]
  entry_read
  refine (congrArg _ ?_).trans (flat_apply _ _ (at_ t i) l)
  blk_ext [e0, e1]

theorem blkG (c : Dev nD) (t : Fin cfg0.N) (l : Fin 1024) :
    (iblk m c 1 t (ix2 0 l) : EReal) = m ((c : Thread nD τ).loc main_arg1) (ix1 l) := by
  have e := (idx_val t).2.1
  have e0 : win0_1.index t 0 = 0 := by rw [e]; rfl
  have e1 : win0_1.index t 1 = 0 := by rw [e]; rfl
  blk_simp [iblk, e]
  entry_read
  pointwise []
  blk_ext [e0, e1]

theorem blkWg (c : Dev nD) (t : Fin cfg0.N) (k : Fin 1024) (f : Fin 1408) :
    (iblk m c 2 t (ix2 k f) : EReal) = m ((c : Thread nD τ).loc main_arg2) (ix2 k ⟨(half (side t) f).val, by omega⟩) := by
  have e := (idx_val t).2.2.1
  have e0 : win0_2.index t 0 = 0 := by rw [e]; rfl
  have e1 : win0_2.index t 1 = t.val % 2 := by rw [e]; rfl
  blk_simp [iblk, e]
  entry_read
  pointwise [half]
  blk_ext [e0, e1]

theorem blkWu (c : Dev nD) (t : Fin cfg0.N) (k : Fin 1024) (f : Fin 1408) :
    (iblk m c 3 t (ix2 k f) : EReal) = m ((c : Thread nD τ).loc main_arg2) (ix2 k ⟨2816 + (half (side t) f).val, by omega⟩) := by
  have e := (idx_val t).2.2.2.1
  have e0 : win0_3.index t 0 = 0 := by rw [e]; rfl
  have e1 : win0_3.index t 1 = t.val % 2 := by rw [e]; rfl
  blk_simp [iblk, e]
  entry_read
  pointwise [half]
  blk_ext [e0, e1]

theorem blkWo (c : Dev nD) (t : Fin cfg0.N) (f : Fin 1408) (l : Fin 1024) :
    (iblk m c 4 t (ix2 f l) : EReal) = m ((c : Thread nD τ).loc main_arg3) (ix2 (half (side t) f) l) := by
  have e := (idx_val t).2.2.2.2.1
  have e0 : win0_4.index t 0 = t.val % 2 := by rw [e]; rfl
  have e1 : win0_4.index t 1 = 0 := by rw [e]; rfl
  blk_simp [iblk, e]
  entry_read
  pointwise [half]
  blk_ext [e0, e1]

/-- What the first half's point leaves in the two scratches. -/
theorem first (c : Dev nD) (t : Fin cfg0.N) (h0 : t.val % 2 = 0) (h1 : ¬ t.val % 2 = 1) :
    (outsAt0 m c t.val t.isLt).2.1 = k0_pay1 (iblk m c 0 t) (iblk m c 1 t)
      ∧ (outsAt0 m c t.val t.isLt).2.2 = k0_pay3 (k0_pay1 (iblk m c 0 t) (iblk m c 1 t)) (iblk m c 2 t) (iblk m c 3 t)
          (k0_pay2 (iblk m c 0 t)) (iblk m c 4 t) := by
  rw [outsAt0_A m c t h0 h1]
  dsimp only
  refine ⟨?_, ?_⟩
  · frame_out
  · frame_out

/-- What the second half's point leaves in its output block. -/
theorem second (c : Dev nD) (t : Fin cfg0.N) (h0 : ¬ t.val % 2 = 0) (h1 : t.val % 2 = 1) (hp : t.val - 1 < cfg0.N) :
    (outsAt0 m c t.val t.isLt).1 = k0_pay3 (outsAt0 m c (t.val - 1) hp).2.1 (iblk m c 2 t) (iblk m c 3 t)
          (outsAt0 m c (t.val - 1) hp).2.2 (iblk m c 4 t) := by
  rw [outsAt0_B m c t h0 h1]
  dsimp only
  frame_out
  rw [read_unread_whole, read_unread_whole]

/-- The two halves' sums over a row's start are the row of the whole. -/
theorem join {x g : Fin 1024 → EReal} {wg wu : Fin 1024 → Fin 2816 → EReal} {wo : Fin 2816 → Fin 1024 → EReal} (l : Fin 1024) :
    x l + times (hiddenCol (normed x g) (fun k f => wg k (half 0 f)) (fun k f => wu k (half 0 f))) (fun f => wo (half 0 f)) l
      + times (hiddenCol (normed x g) (fun k f => wg k (half 1 f)) (fun k f => wu k (half 1 f))) (fun f => wo (half 1 f)) l
      = ffnRow x g wg wu wo l := by
  unfold ffnRow
  rw [add_assoc]
  exact congrArg _ (halves fun f => hiddenCol (normed x g) wg wu f * wo f l).symm

theorem final (c : Dev nD) : (dats m 0 c).arrAt 5 cfg0.N = result (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨i, l, rfl⟩ : ∃ (i : Fin 512) (l : Fin 1024), y = ix2 i l := ⟨y 0, y 1, eq_ix2 y⟩
  have h1 : t.val % 2 = 1 := (flush0_5 t).1 hf
  have hp : t.val - 1 < cfg0.N := lt_of_le_of_lt (Nat.sub_le _ _) t.isLt
  obtain ⟨a, b⟩ := first m c ⟨t.val - 1, hp⟩ (by dsimp only; omega) (by dsimp only; omega)
  blk_simp
  rw [after0_5, second m c t (by omega) h1 hp]
  dsimp only at a b
  rw [a, b]
  have e := (idx_val t).2.2.2.2.2
  have e0 : win0_5.index t 0 = t.val / 2 := by rw [e]; rfl
  have e1 : win0_5.index t 1 = 0 := by rw [e]; rfl
  have hy : ((View.whole main_v6).slice (win0_5.rect t)).emb (ix2 i l) = ix2 (at_ t i) l := by
    funext a; refine Fin.ext ?_
    fin_cases a <;> blk_simp [e0, e1]
    · show t.val / 2 * 512 + i.val = 512 * (t.val / 2) + i.val; omega
    · rfl
  have ha : at_ ⟨t.val - 1, hp⟩ i = at_ t i := Fin.ext (by show 512 * ((t.val - 1) / 2) + i.val = 512 * (t.val / 2) + i.val; omega)
  have s0 : side ⟨t.val - 1, hp⟩ = 0 := Fin.ext (by show (t.val - 1) % 2 = 0; omega)
  have s1 : side t = 1 := Fin.ext h1
  refine (pay3_at _ _ _ _ _ i l).trans ?_
  simp only [pay3_at, pay1_at, pay2_at, blkX, blkG, blkWg, blkWu, blkWo, ha, s0, s1]
  refine (join (wg := fun k f => m ((c : Thread nD τ).loc main_arg2) (ix2 k ⟨f.val, by omega⟩))
    (wu := fun k f => m ((c : Thread nD τ).loc main_arg2) (ix2 k ⟨2816 + f.val, by omega⟩))
    (wo := fun f l => m ((c : Thread nD τ).loc main_arg3) (ix2 f l)) l).trans ?_
  exact (congrArg (result _ _ _ _) hy).symm

end Cert.Kernel2Ideal.Rows

namespace Cert.Reference2Ideal.Rows

open Cert.Reference2Ideal Cert.Reference2Ideal.Gen Layer

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = Cert.Kernel2Ideal.Rows.result (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h1, h2⟩ := h c
  rw [normArr_eq] at h1
  refine ⟨h1.trans ?_, h2⟩
  clear h1 h2
  generalize hW : Host.dotGeneral (F := Ideal) (φ₁ := .f32) (φ₂ := .f32) dot_S2x16384x1024_S1024x5632_S2x16384x5632_2_0_01_1_n_n none _ _ = P
  have hP : ∀ (p : Fin 2) (t : Fin 16384) (f : Fin 5632), (P (ix3 p t f) : EReal)
      = times (normed (fun l => m ((c.tc : Thread nD τ).loc main_arg0) (ix3 p t l)) (fun l => m ((c.tc : Thread nD τ).loc main_arg1) (ix1 l)))
          (fun k f => m ((c.tc : Thread nD τ).loc main_arg2) (ix2 k f)) f := fun p t f => by
    subst hW
    pointwise [normArr, times]
  clear hW
  funext i
  obtain ⟨r, l, rfl⟩ : ∃ (r : Fin 32768) (l : Fin 1024), i = ix2 r l := ⟨i 0, i 1, eq_ix2 i⟩
  refine (flat_apply _ _ r l).trans ?_
  pointwise []
  simp only [hP]
  simp only [sub_eq_add_neg (0 : EReal), zero_add, Cert.Kernel2Ideal.Rows.result, ffnRow, hiddenCol, sigmoid, times, row]
  rfl

end Cert.Reference2Ideal.Rows

end
-- ==== Proof.Layer.Rows.lean ====
/-
  The input projection of a token: its normed row times the columns of one weight matrix; and what the reference's product over
  whole arrays is at a token.
-/
module

public import proofs.«01_k».proof.Proof.Layer.Spec

@[expose] public section

set_option maxRecDepth 16384

noncomputable section

namespace Layer

open Idealize.ShloMosaic

/-- Column `c` of the projection of token `r`. -/
def proj (X : FVec Ideal ⟨3, ![2, 16384, 1024]⟩ .f32) (g : FVec Ideal ⟨1, ![1024]⟩ .f32)
    (W : FVec Ideal ⟨2, ![1024, 11864]⟩ .f32) (r : Fin 32768) (c : Fin 11864) : EReal :=
  times (normed (row (fun p t l => X (ix3 p t l)) r) (fun l => g (ix1 l))) (fun j c => W (ix2 j c)) c

/-- Of a row of the weights, the column that `pick` picks for `b`, zero where it picks none. -/
def column {n : ℕ} (pick : Fin n → Option (Fin 11864)) (w : Fin 11864 → EReal) (b : Fin n) : EReal := (pick b).elim 0 w

theorem column_at {n : ℕ} {pick : Fin n → Option (Fin 11864)} {w : Fin 11864 → EReal} {b : Fin n} {c : Fin 11864}
    (h : pick b = some c) : column pick w b = w c := by rw [column, h]; rfl

theorem column_zero {n : ℕ} {pick : Fin n → Option (Fin 11864)} {w : Fin 11864 → EReal} {b : Fin n} (h : pick b = none) :
    column pick w b = 0 := by rw [column, h]; rfl

/-- The projection's columns that `pick` picks, zero where it picks none, of every token. -/
def picked {n : ℕ} (pick : Fin n → Option (Fin 11864)) (X : FVec Ideal ⟨3, ![2, 16384, 1024]⟩ .f32)
    (g : FVec Ideal ⟨1, ![1024]⟩ .f32) (W : FVec Ideal ⟨2, ![1024, 11864]⟩ .f32) :
    (⟨2, ![32768, n]⟩ : Shape).Idx → EReal :=
  fun i => column pick (proj X g W (i 0)) (i 1)

/-- Multiplying by the picked columns of the weights, with columns of zeros where none is picked, gives the picked columns. -/
theorem times_picked {n : ℕ} (pick : Fin n → Option (Fin 11864)) (h : Fin 1024 → EReal) (w : Fin 1024 → Fin 11864 → EReal) (l : Fin n) :
    times h (fun j => column pick (w j)) l = column pick (times h w) l := by
  unfold times column
  cases e : pick l with
  | none => simp [e]
  | some c => simp [e]

end Layer

end
-- ==== Proof.Layer.InProjDn.lean ====
/-
  The call that projects to the delta rule's queries, keys and values, to its output gate, and to its decays and rates beside
  the indexer's weights: kernel and reference both leave those columns of the projection.
-/
module

public import proofs.«01_k».proof.Proof.Gen.Kernel3Ideal.Frame
public import proofs.«01_k».proof.Proof.Gen.Kernel3Ideal.Value
public import proofs.«01_k».proof.Proof.Gen.Reference3Ideal.Run
public import proofs.«01_k».proof.Proof.Layer.Rows

@[expose] public section

set_option maxRecDepth 16384

noncomputable section

open Idealize.ShloMosaic Idealize.ShloMosaic.TcCoe Idealize.SL.Sem

namespace Cert.Kernel3Ideal.Rows

open Cert.Kernel3Ideal Cert.Kernel3Ideal.Gen Layer

variable (m : (ℓ : Loc nD τ sig) → Buf (Elt Ideal) ℓ)

/-- Where the windows' blocks lie, decided. -/
theorem idx_val : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- The queries', keys' and values' columns. -/
def pickQkv (b : Fin 3072) : Option (Fin 11864) :=
  some ⟨b.val, by omega⟩

/-- The output gate's columns. -/
def pickZ (b : Fin 1024) : Option (Fin 11864) :=
  some ⟨3072 + b.val, by omega⟩

/-- The rates' and decays' columns, the indexer's weights', and columns of zeros. -/
def pickSmall (b : Fin 128) : Option (Fin 11864) :=
  if b.val < 16 then some ⟨4096 + b.val, by omega⟩ else if h : b.val < 24 then some ⟨7744 + b.val, by omega⟩ else none

theorem pay2_at (x : Vec Ideal S256x1024 .f32) (g : Vec Ideal S1x1024 .f32) (w : Vec Ideal S1024x3072 .bf16) (i : Fin 256) (l : Fin 3072) :
    (k0_pay2 x g w (ix2 i l) : EReal) = times (normed (fun k => x (ix2 i k)) (fun k => g (ix2 0 k))) (fun j b => w (ix2 j b)) l := by
  pointwise [k0_pay1, k0_pay2, normed, times]

theorem pay3_at (x : Vec Ideal S256x1024 .f32) (g : Vec Ideal S1x1024 .f32) (w : Vec Ideal S1024x1024 .bf16) (i : Fin 256) (l : Fin 1024) :
    (k0_pay3 x g w (ix2 i l) : EReal) = times (normed (fun k => x (ix2 i k)) (fun k => g (ix2 0 k))) (fun j b => w (ix2 j b)) l := by
  pointwise [k0_pay1, k0_pay3, normed, times]

theorem pay4_at (x : Vec Ideal S256x1024 .f32) (g : Vec Ideal S1x1024 .f32) (w : Vec Ideal S1024x128 .bf16) (i : Fin 256) (l : Fin 128) :
    (k0_pay4 x g w (ix2 i l) : EReal) = times (normed (fun k => x (ix2 i k)) (fun k => g (ix2 0 k))) (fun j b => w (ix2 j b)) l := by
  pointwise [k0_pay1, k0_pay4, normed, times]

/-- The row of the array that row `i` of point `t`'s block is. -/
abbrev at_ (t : Fin cfg0.N) (i : Fin 256) : Fin 32768 :=
  ⟨256 * t.val + i.val, by have := lt_of_lt_of_eq t.isLt N_0; omega⟩

theorem blkX (c : Dev nD) (t : Fin cfg0.N) (i : Fin 256) (l : Fin 1024) :
    (iblk m c 0 t (ix2 i l) : EReal) = row (fun p t l => m ((c : Thread nD τ).loc main_arg0) (ix3 p t l)) (at_ t i) l := by
  have e := (idx_val t).1
  have e0 : win0_0.index t 0 = t.val := by rw [e]; rfl
  have e1 : win0_0.index t 1 = 0 := by rw [e]; rfl
  blk_simp [iblk, e]
  entry_read
  simp only [hostOps0, hostOps0_1, hostOps0_2, List.flatten_cons, List.flatten_nil, List.append_nil, List.cons_append, List.nil_append]
  entry_read
  refine (congrArg _ ?_).trans (flat_apply _ _ (at_ t i) l)
  blk_ext [e0, e1]

theorem blkG (c : Dev nD) (t : Fin cfg0.N) (l : Fin 1024) :
    (iblk m c 1 t (ix2 0 l) : EReal) = m ((c : Thread nD τ).loc main_arg1) (ix1 l) := by
  have e := (idx_val t).2.1
  have e0 : win0_1.index t 0 = 0 := by rw [e]; rfl
  have e1 : win0_1.index t 1 = 0 := by rw [e]; rfl
  blk_simp [iblk, e]
  entry_read
  simp only [hostOps0, hostOps0_1, hostOps0_2, List.flatten_cons, List.flatten_nil, List.append_nil, List.cons_append, List.nil_append]
  entry_read
  pointwise []
  blk_ext [e0, e1]

theorem blkQkv (c : Dev nD) (t : Fin cfg0.N) (j : Fin 1024) (b : Fin 3072) :
    (iblk m c 2 t (ix2 j b) : EReal) = column pickQkv (fun l => m ((c : Thread nD τ).loc main_arg2) (ix2 j l)) b := by
  have e := (idx_val t).2.2.1
  have e0 : win0_2.index t 0 = 0 := by rw [e]; rfl
  have e1 : win0_2.index t 1 = 0 := by rw [e]; rfl
  blk_simp [iblk, e]
  entry_read
  simp only [hostOps0, hostOps0_1, hostOps0_2, List.flatten_cons, List.flatten_nil, List.append_nil, List.cons_append, List.nil_append]
  entry_read
  pointwise [column, pickQkv]
  blk_ext [e0, e1]

theorem blkZ (c : Dev nD) (t : Fin cfg0.N) (j : Fin 1024) (b : Fin 1024) :
    (iblk m c 3 t (ix2 j b) : EReal) = column pickZ (fun l => m ((c : Thread nD τ).loc main_arg2) (ix2 j l)) b := by
  have e := (idx_val t).2.2.2.1
  have e0 : win0_3.index t 0 = 0 := by rw [e]; rfl
  have e1 : win0_3.index t 1 = 0 := by rw [e]; rfl
  blk_simp [iblk, e]
  entry_read
  simp only [hostOps0, hostOps0_1, hostOps0_2, List.flatten_cons, List.flatten_nil, List.append_nil, List.cons_append, List.nil_append]
  entry_read
  pointwise [column, pickZ]
  blk_ext [e0, e1]

/-- The rates', the decays' and the indexer's weights' columns side by side, zeros after them. -/
def weightsSmall (W : FVec Ideal S1024x11864 .f32) : FVec Ideal S1024x128 .bf16 :=
  pad S1024x128 ![0, 0] ![0, 104] ![0, 0] (concatenate S1024x24 1
    [⟨S1024x8, extractStridedSlice S1024x8 ![0, 4096] (truncf .bf16 W bitsLt_bf16_f32) slices_S1024x11864_S1024x8_0_4096⟩,
     ⟨S1024x8, extractStridedSlice S1024x8 ![0, 4104] (truncf .bf16 W bitsLt_bf16_f32) slices_S1024x11864_S1024x8_0_4104⟩,
     ⟨S1024x8, extractStridedSlice S1024x8 ![0, 7760] (truncf .bf16 W bitsLt_bf16_f32) slices_S1024x11864_S1024x8_0_7760⟩]
    concatenates_S1024x8_S1024x8_S1024x8_S1024x24_d1) (sitofp (F := Ideal) .bf16 (constantI S_ 32 0#32)) pads_S1024x24_S1024x128_000_01040 h_S_

theorem entrySmall (c : Dev nD) : V m c main_v6 = weightsSmall (m ((c : Thread nD τ).loc main_arg2)) := by
  unfold V
  simp only [hostOps0, hostOps0_1, hostOps0_2, List.flatten_cons, List.flatten_nil, List.append_nil, List.cons_append, List.nil_append]
  after_results_simp <;> rfl

theorem weightsSmall_at (W : FVec Ideal S1024x11864 .f32) (j : Fin 1024) (b : Fin 128) :
    (weightsSmall W (ix2 j b) : EReal) = column pickSmall (fun l => W (ix2 j l)) b := by
  pointwise [weightsSmall]
  split_ifs <;> first
    | (refine (column_at (w := fun l => W (ix2 j l)) ?_).symm
       unfold pickSmall
       split_ifs <;> first | omega | exact congrArg some (Fin.ext (by first | rfl | omega | (dsimp only; omega))))
    | (refine Eq.trans ?_ (column_zero (w := fun l => W (ix2 j l)) ?_).symm
       · show (((0#32 : BitVec 32).toInt : ℝ) : EReal) = 0
         simp
       · unfold pickSmall
         split_ifs <;> first | omega | rfl)

theorem blkSmall (c : Dev nD) (t : Fin cfg0.N) (j : Fin 1024) (b : Fin 128) :
    (iblk m c 4 t (ix2 j b) : EReal) = column pickSmall (fun l => m ((c : Thread nD τ).loc main_arg2) (ix2 j l)) b := by
  have e := (idx_val t).2.2.2.2.1
  have e0 : win0_4.index t 0 = 0 := by rw [e]; rfl
  have e1 : win0_4.index t 1 = 0 := by rw [e]; rfl
  blk_simp [iblk, e]
  rw [entrySmall]
  have hy : ((View.whole main_v6).slice (win0_4.rect t)).emb (ix2 j b) = ix2 j b := by blk_ext [e0, e1]
  exact (congrArg _ hy).trans (weightsSmall_at _ j b)

theorem final5 (c : Dev nD) : (dats m 0 c).arrAt 5 cfg0.N
    = picked pickQkv (m ((c : Thread nD τ).loc main_arg0)) (m ((c : Thread nD τ).loc main_arg1)) (m ((c : Thread nD τ).loc main_arg2)) := by
  refine (dats m 0 c).arrAt_eq_of_covers 5 _ (by decide +kernel) fun t _ y => ?_
  obtain ⟨i, l, rfl⟩ : ∃ (i : Fin 256) (l : Fin 3072), y = ix2 i l := ⟨y 0, y 1, eq_ix2 y⟩
  blk_simp
  rw [after0_5]; frame_out
  have e := (idx_val t).2.2.2.2.2.1
  have e0 : win0_5.index t 0 = t.val := by rw [e]; rfl
  have e1 : win0_5.index t 1 = 0 := by rw [e]; rfl
  have hy : ((View.whole main_v10_0).slice (win0_5.rect t)).emb (ix2 i l) = ix2 (at_ t i) l := by
    funext a; refine Fin.ext ?_
    fin_cases a <;> blk_simp [e0, e1]
    · show t.val * 256 + i.val = 256 * t.val + i.val; omega
    · rfl
  refine (pay2_at _ _ _ i l).trans ?_
  simp only [blkX, blkG, blkQkv, times_picked]
  exact (congrArg (picked pickQkv _ _ _) hy).symm

theorem final6 (c : Dev nD) : (dats m 0 c).arrAt 6 cfg0.N
    = picked pickZ (m ((c : Thread nD τ).loc main_arg0)) (m ((c : Thread nD τ).loc main_arg1)) (m ((c : Thread nD τ).loc main_arg2)) := by
  refine (dats m 0 c).arrAt_eq_of_covers 6 _ (by decide +kernel) fun t _ y => ?_
  obtain ⟨i, l, rfl⟩ : ∃ (i : Fin 256) (l : Fin 1024), y = ix2 i l := ⟨y 0, y 1, eq_ix2 y⟩
  blk_simp
  rw [after0_6]; frame_out
  have e := (idx_val t).2.2.2.2.2.2.1
  have e0 : win0_6.index t 0 = t.val := by rw [e]; rfl
  have e1 : win0_6.index t 1 = 0 := by rw [e]; rfl
  have hy : ((View.whole main_v10_1).slice (win0_6.rect t)).emb (ix2 i l) = ix2 (at_ t i) l := by
    funext a; refine Fin.ext ?_
    fin_cases a <;> blk_simp [e0, e1]
    · show t.val * 256 + i.val = 256 * t.val + i.val; omega
    · rfl
  refine (pay3_at _ _ _ i l).trans ?_
  simp only [blkX, blkG, blkZ, times_picked]
  exact (congrArg (picked pickZ _ _ _) hy).symm

theorem final7 (c : Dev nD) : (dats m 0 c).arrAt 7 cfg0.N
    = picked pickSmall (m ((c : Thread nD τ).loc main_arg0)) (m ((c : Thread nD τ).loc main_arg1)) (m ((c : Thread nD τ).loc main_arg2)) := by
  refine (dats m 0 c).arrAt_eq_of_covers 7 _ (by decide +kernel) fun t _ y => ?_
  obtain ⟨i, l, rfl⟩ : ∃ (i : Fin 256) (l : Fin 128), y = ix2 i l := ⟨y 0, y 1, eq_ix2 y⟩
  blk_simp
  rw [after0_7]; frame_out
  have e := (idx_val t).2.2.2.2.2.2.2
  have e0 : win0_7.index t 0 = t.val := by rw [e]; rfl
  have e1 : win0_7.index t 1 = 0 := by rw [e]; rfl
  have hy : ((View.whole main_v10_2).slice (win0_7.rect t)).emb (ix2 i l) = ix2 (at_ t i) l := by
    funext a; refine Fin.ext ?_
    fin_cases a <;> blk_simp [e0, e1]
    · show t.val * 256 + i.val = 256 * t.val + i.val; omega
    · rfl
  refine (pay4_at _ _ _ i l).trans ?_
  simp only [blkX, blkG, blkSmall, times_picked]
  exact (congrArg (picked pickSmall _ _ _) hy).symm

end Cert.Kernel3Ideal.Rows

namespace Cert.Reference3Ideal.Rows

open Cert.Reference3Ideal Cert.Reference3Ideal.Gen Cert.Kernel3Ideal.Rows Layer

theorem flat_proj (X : FVec Ideal S2x16384x1024 .f32) (g : FVec Ideal S1024 .f32) (W : FVec Ideal S1024x11864 .f32) (r : Fin 32768) (l : Fin 11864) :
    (shapeCast S32768x11864 (Host.dotGeneral (φ₁ := .f32) (φ₂ := .f32) dot_S2x16384x1024_S1024x11864_S2x16384x11864_2_0_01_1_n_n none (normArr X g) W)
      shapeCasts_S2x16384x11864_S32768x11864 (ix2 r l) : EReal) = proj X g W r l := by
  rw [flat_apply]
  pointwise [normArr, proj, times, row]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = picked pickQkv (m ((c.tc : Thread nD τ).loc main_arg0))
          (m ((c.tc : Thread nD τ).loc main_arg1)) (m ((c.tc : Thread nD τ).loc main_arg2))
      ∧ r.2.mem ((c.tc : Thread nD τ).loc main_v18) = picked pickZ (m ((c.tc : Thread nD τ).loc main_arg0))
          (m ((c.tc : Thread nD τ).loc main_arg1)) (m ((c.tc : Thread nD τ).loc main_arg2))
      ∧ r.2.mem ((c.tc : Thread nD τ).loc main_v30) = picked pickSmall (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h1, h2, h3, h⟩ := h c
  have hP := flat_proj (m ((c.tc : Thread nD τ).loc main_arg0)) (m ((c.tc : Thread nD τ).loc main_arg1)) (m ((c.tc : Thread nD τ).loc main_arg2))
  generalize hp : shapeCast S32768x11864 _ _ = P at h1 h2 h3
  rw [normArr_eq] at hp
  replace hP : ∀ (r : Fin 32768) (l : Fin 11864), (P (ix2 r l) : EReal) = _ := fun r l => (congrFun hp.symm _).trans (hP r l)
  refine ⟨h1.trans ?_, h2.trans ?_, h3.trans ?_, h⟩
  · funext i
    obtain ⟨r, l, rfl⟩ : ∃ (r : Fin 32768) (l : Fin 3072), i = ix2 r l := ⟨i 0, i 1, eq_ix2 i⟩
    pointwise []
    show _ = column pickQkv (proj _ _ _ r) l
    split_ifs <;>
      exact (hP r _).trans (column_at (congrArg some (Fin.ext (by first | rfl | omega | (dsimp only; omega))))).symm
  · funext i
    obtain ⟨r, l, rfl⟩ : ∃ (r : Fin 32768) (l : Fin 1024), i = ix2 r l := ⟨i 0, i 1, eq_ix2 i⟩
    pointwise []
    exact hP r _
  · funext i
    obtain ⟨r, l, rfl⟩ : ∃ (r : Fin 32768) (l : Fin 128), i = ix2 r l := ⟨i 0, i 1, eq_ix2 i⟩
    pointwise []
    show _ = column pickSmall (proj _ _ _ r) l
    split_ifs <;> first
      | (refine (hP r _).trans (column_at ?_).symm
         unfold pickSmall
         split_ifs <;> first | omega | exact congrArg some (Fin.ext (by first | rfl | omega | (dsimp only; omega))))
      | (refine (column_zero ?_).symm
         unfold pickSmall
         split_ifs <;> first | omega | rfl)

end Cert.Reference3Ideal.Rows

end
-- ==== Proof.Layer.InProjSa.lean ====
/-
  The call that projects to the sparse attention's queries and keys, to its values, and to its indexer's queries and key:
  kernel and reference both leave those columns of the projection.
-/
module

public import proofs.«01_k».proof.Proof.Gen.Kernel4Ideal.Frame
public import proofs.«01_k».proof.Proof.Gen.Kernel4Ideal.Value
public import proofs.«01_k».proof.Proof.Gen.Reference4Ideal.Run
public import proofs.«01_k».proof.Proof.Layer.Rows

@[expose] public section

set_option maxRecDepth 16384

noncomputable section

open Idealize.ShloMosaic Idealize.ShloMosaic.TcCoe Idealize.SL.Sem

namespace Cert.Kernel4Ideal.Rows

open Cert.Kernel4Ideal Cert.Kernel4Ideal.Gen Layer

variable (m : (ℓ : Loc nD τ sig) → Buf (Elt Ideal) ℓ)

/-- Where the windows' blocks lie, decided. -/
theorem idx_val : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- The queries' and keys' columns. -/
def pickQk (b : Fin 2048) : Option (Fin 11864) :=
  some ⟨4112 + b.val, by omega⟩

/-- The values' columns. -/
def pickV (b : Fin 1024) : Option (Fin 11864) :=
  some ⟨6160 + b.val, by omega⟩

/-- The indexer's columns, and columns of zeros. -/
def pickIdx (b : Fin 640) : Option (Fin 11864) :=
  if h : b.val < 576 then some ⟨7184 + b.val, by omega⟩ else none

theorem pay2_at (x : Vec Ideal S256x1024 .f32) (g : Vec Ideal S1x1024 .f32) (w : Vec Ideal S1024x2048 .bf16) (i : Fin 256) (l : Fin 2048) :
    (k0_pay2 x g w (ix2 i l) : EReal) = times (normed (fun k => x (ix2 i k)) (fun k => g (ix2 0 k))) (fun j b => w (ix2 j b)) l := by
  pointwise [k0_pay1, k0_pay2, normed, times]

theorem pay3_at (x : Vec Ideal S256x1024 .f32) (g : Vec Ideal S1x1024 .f32) (w : Vec Ideal S1024x1024 .bf16) (i : Fin 256) (l : Fin 1024) :
    (k0_pay3 x g w (ix2 i l) : EReal) = times (normed (fun k => x (ix2 i k)) (fun k => g (ix2 0 k))) (fun j b => w (ix2 j b)) l := by
  pointwise [k0_pay1, k0_pay3, normed, times]

theorem pay4_at (x : Vec Ideal S256x1024 .f32) (g : Vec Ideal S1x1024 .f32) (w : Vec Ideal S1024x640 .bf16) (i : Fin 256) (l : Fin 640) :
    (k0_pay4 x g w (ix2 i l) : EReal) = times (normed (fun k => x (ix2 i k)) (fun k => g (ix2 0 k))) (fun j b => w (ix2 j b)) l := by
  pointwise [k0_pay1, k0_pay4, normed, times]

/-- The row of the array that row `i` of point `t`'s block is. -/
abbrev at_ (t : Fin cfg0.N) (i : Fin 256) : Fin 32768 :=
  ⟨256 * t.val + i.val, by have := lt_of_lt_of_eq t.isLt N_0; omega⟩

theorem blkX (c : Dev nD) (t : Fin cfg0.N) (i : Fin 256) (l : Fin 1024) :
    (iblk m c 0 t (ix2 i l) : EReal) = row (fun p t l => m ((c : Thread nD τ).loc main_arg0) (ix3 p t l)) (at_ t i) l := by
  have e := (idx_val t).1
  have e0 : win0_0.index t 0 = t.val := by rw [e]; rfl
  have e1 : win0_0.index t 1 = 0 := by rw [e]; rfl
  blk_simp [iblk, e]
  entry_read
  simp only [hostOps0, hostOps0_1, hostOps0_2, List.flatten_cons, List.flatten_nil, List.append_nil, List.cons_append, List.nil_append]
  entry_read
  refine (congrArg _ ?_).trans (flat_apply _ _ (at_ t i) l)
  blk_ext [e0, e1]

theorem blkG (c : Dev nD) (t : Fin cfg0.N) (l : Fin 1024) :
    (iblk m c 1 t (ix2 0 l) : EReal) = m ((c : Thread nD τ).loc main_arg1) (ix1 l) := by
  have e := (idx_val t).2.1
  have e0 : win0_1.index t 0 = 0 := by rw [e]; rfl
  have e1 : win0_1.index t 1 = 0 := by rw [e]; rfl
  blk_simp [iblk, e]
  entry_read
  simp only [hostOps0, hostOps0_1, hostOps0_2, List.flatten_cons, List.flatten_nil, List.append_nil, List.cons_append, List.nil_append]
  entry_read
  pointwise []
  blk_ext [e0, e1]

theorem blkQk (c : Dev nD) (t : Fin cfg0.N) (j : Fin 1024) (b : Fin 2048) :
    (iblk m c 2 t (ix2 j b) : EReal) = column pickQk (fun l => m ((c : Thread nD τ).loc main_arg2) (ix2 j l)) b := by
  have e := (idx_val t).2.2.1
  have e0 : win0_2.index t 0 = 0 := by rw [e]; rfl
  have e1 : win0_2.index t 1 = 0 := by rw [e]; rfl
  blk_simp [iblk, e]
  entry_read
  simp only [hostOps0, hostOps0_1, hostOps0_2, List.flatten_cons, List.flatten_nil, List.append_nil, List.cons_append, List.nil_append]
  entry_read
  pointwise [column, pickQk]
  blk_ext [e0, e1]

theorem blkV (c : Dev nD) (t : Fin cfg0.N) (j : Fin 1024) (b : Fin 1024) :
    (iblk m c 3 t (ix2 j b) : EReal) = column pickV (fun l => m ((c : Thread nD τ).loc main_arg2) (ix2 j l)) b := by
  have e := (idx_val t).2.2.2.1
  have e0 : win0_3.index t 0 = 0 := by rw [e]; rfl
  have e1 : win0_3.index t 1 = 0 := by rw [e]; rfl
  blk_simp [iblk, e]
  entry_read
  simp only [hostOps0, hostOps0_1, hostOps0_2, List.flatten_cons, List.flatten_nil, List.append_nil, List.cons_append, List.nil_append]
  entry_read
  pointwise [column, pickV]
  blk_ext [e0, e1]

/-- The indexer's columns, zeros after them. -/
def weightsIdx (W : FVec Ideal S1024x11864 .f32) : FVec Ideal S1024x640 .bf16 :=
  pad S1024x640 ![0, 0] ![0, 64] ![0, 0]
    (extractStridedSlice S1024x576 ![0, 7184] (truncf .bf16 W bitsLt_bf16_f32) slices_S1024x11864_S1024x576_0_7184) (sitofp (F := Ideal) .bf16 (constantI S_ 32 0#32)) pads_S1024x576_S1024x640_000_0640 h_S_

theorem entryIdx (c : Dev nD) : V m c main_v3 = weightsIdx (m ((c : Thread nD τ).loc main_arg2)) := by
  unfold V
  simp only [hostOps0, hostOps0_1, hostOps0_2, List.flatten_cons, List.flatten_nil, List.append_nil, List.cons_append, List.nil_append]
  after_results_simp <;> rfl

theorem weightsIdx_at (W : FVec Ideal S1024x11864 .f32) (j : Fin 1024) (b : Fin 640) :
    (weightsIdx W (ix2 j b) : EReal) = column pickIdx (fun l => W (ix2 j l)) b := by
  pointwise [weightsIdx]
  split_ifs <;> first
    | (refine (column_at (w := fun l => W (ix2 j l)) ?_).symm
       unfold pickIdx
       split_ifs <;> first | omega | exact congrArg some (Fin.ext (by first | rfl | omega | (dsimp only; omega))))
    | (refine Eq.trans ?_ (column_zero (w := fun l => W (ix2 j l)) ?_).symm
       · show (((0#32 : BitVec 32).toInt : ℝ) : EReal) = 0
         simp
       · unfold pickIdx
         split_ifs <;> first | omega | rfl)

theorem blkIdx (c : Dev nD) (t : Fin cfg0.N) (j : Fin 1024) (b : Fin 640) :
    (iblk m c 4 t (ix2 j b) : EReal) = column pickIdx (fun l => m ((c : Thread nD τ).loc main_arg2) (ix2 j l)) b := by
  have e := (idx_val t).2.2.2.2.1
  have e0 : win0_4.index t 0 = 0 := by rw [e]; rfl
  have e1 : win0_4.index t 1 = 0 := by rw [e]; rfl
  blk_simp [iblk, e]
  rw [entryIdx]
  have hy : ((View.whole main_v3).slice (win0_4.rect t)).emb (ix2 j b) = ix2 j b := by blk_ext [e0, e1]
  exact (congrArg _ hy).trans (weightsIdx_at _ j b)

theorem final5 (c : Dev nD) : (dats m 0 c).arrAt 5 cfg0.N
    = picked pickQk (m ((c : Thread nD τ).loc main_arg0)) (m ((c : Thread nD τ).loc main_arg1)) (m ((c : Thread nD τ).loc main_arg2)) := by
  refine (dats m 0 c).arrAt_eq_of_covers 5 _ (by decide +kernel) fun t _ y => ?_
  obtain ⟨i, l, rfl⟩ : ∃ (i : Fin 256) (l : Fin 2048), y = ix2 i l := ⟨y 0, y 1, eq_ix2 y⟩
  blk_simp
  rw [after0_5]; frame_out
  have e := (idx_val t).2.2.2.2.2.1
  have e0 : win0_5.index t 0 = t.val := by rw [e]; rfl
  have e1 : win0_5.index t 1 = 0 := by rw [e]; rfl
  have hy : ((View.whole main_v7_0).slice (win0_5.rect t)).emb (ix2 i l) = ix2 (at_ t i) l := by
    funext a; refine Fin.ext ?_
    fin_cases a <;> blk_simp [e0, e1]
    · show t.val * 256 + i.val = 256 * t.val + i.val; omega
    · rfl
  refine (pay2_at _ _ _ i l).trans ?_
  simp only [blkX, blkG, blkQk, times_picked]
  exact (congrArg (picked pickQk _ _ _) hy).symm

theorem final6 (c : Dev nD) : (dats m 0 c).arrAt 6 cfg0.N
    = picked pickV (m ((c : Thread nD τ).loc main_arg0)) (m ((c : Thread nD τ).loc main_arg1)) (m ((c : Thread nD τ).loc main_arg2)) := by
  refine (dats m 0 c).arrAt_eq_of_covers 6 _ (by decide +kernel) fun t _ y => ?_
  obtain ⟨i, l, rfl⟩ : ∃ (i : Fin 256) (l : Fin 1024), y = ix2 i l := ⟨y 0, y 1, eq_ix2 y⟩
  blk_simp
  rw [after0_6]; frame_out
  have e := (idx_val t).2.2.2.2.2.2.1
  have e0 : win0_6.index t 0 = t.val := by rw [e]; rfl
  have e1 : win0_6.index t 1 = 0 := by rw [e]; rfl
  have hy : ((View.whole main_v7_1).slice (win0_6.rect t)).emb (ix2 i l) = ix2 (at_ t i) l := by
    funext a; refine Fin.ext ?_
    fin_cases a <;> blk_simp [e0, e1]
    · show t.val * 256 + i.val = 256 * t.val + i.val; omega
    · rfl
  refine (pay3_at _ _ _ i l).trans ?_
  simp only [blkX, blkG, blkV, times_picked]
  exact (congrArg (picked pickV _ _ _) hy).symm

theorem final7 (c : Dev nD) : (dats m 0 c).arrAt 7 cfg0.N
    = picked pickIdx (m ((c : Thread nD τ).loc main_arg0)) (m ((c : Thread nD τ).loc main_arg1)) (m ((c : Thread nD τ).loc main_arg2)) := by
  refine (dats m 0 c).arrAt_eq_of_covers 7 _ (by decide +kernel) fun t _ y => ?_
  obtain ⟨i, l, rfl⟩ : ∃ (i : Fin 256) (l : Fin 640), y = ix2 i l := ⟨y 0, y 1, eq_ix2 y⟩
  blk_simp
  rw [after0_7]; frame_out
  have e := (idx_val t).2.2.2.2.2.2.2
  have e0 : win0_7.index t 0 = t.val := by rw [e]; rfl
  have e1 : win0_7.index t 1 = 0 := by rw [e]; rfl
  have hy : ((View.whole main_v7_2).slice (win0_7.rect t)).emb (ix2 i l) = ix2 (at_ t i) l := by
    funext a; refine Fin.ext ?_
    fin_cases a <;> blk_simp [e0, e1]
    · show t.val * 256 + i.val = 256 * t.val + i.val; omega
    · rfl
  refine (pay4_at _ _ _ i l).trans ?_
  simp only [blkX, blkG, blkIdx, times_picked]
  exact (congrArg (picked pickIdx _ _ _) hy).symm

end Cert.Kernel4Ideal.Rows

namespace Cert.Reference4Ideal.Rows

open Cert.Reference4Ideal Cert.Reference4Ideal.Gen Cert.Kernel4Ideal.Rows Layer

theorem flat_proj (X : FVec Ideal S2x16384x1024 .f32) (g : FVec Ideal S1024 .f32) (W : FVec Ideal S1024x11864 .f32) (r : Fin 32768) (l : Fin 11864) :
    (shapeCast S32768x11864 (Host.dotGeneral (φ₁ := .f32) (φ₂ := .f32) dot_S2x16384x1024_S1024x11864_S2x16384x11864_2_0_01_1_n_n none (normArr X g) W)
      shapeCasts_S2x16384x11864_S32768x11864 (ix2 r l) : EReal) = proj X g W r l := by
  rw [flat_apply]
  pointwise [normArr, proj, times, row]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = picked pickQk (m ((c.tc : Thread nD τ).loc main_arg0))
          (m ((c.tc : Thread nD τ).loc main_arg1)) (m ((c.tc : Thread nD τ).loc main_arg2))
      ∧ r.2.mem ((c.tc : Thread nD τ).loc main_v32) = picked pickV (m ((c.tc : Thread nD τ).loc main_arg0))
          (m ((c.tc : Thread nD τ).loc main_arg1)) (m ((c.tc : Thread nD τ).loc main_arg2))
      ∧ r.2.mem ((c.tc : Thread nD τ).loc main_v30) = picked pickIdx (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h1, h2, h3, h⟩ := h c
  have hP := flat_proj (m ((c.tc : Thread nD τ).loc main_arg0)) (m ((c.tc : Thread nD τ).loc main_arg1)) (m ((c.tc : Thread nD τ).loc main_arg2))
  generalize hp : shapeCast S32768x11864 _ _ = P at h1 h2 h3
  rw [normArr_eq] at hp
  replace hP : ∀ (r : Fin 32768) (l : Fin 11864), (P (ix2 r l) : EReal) = _ := fun r l => (congrFun hp.symm _).trans (hP r l)
  refine ⟨h1.trans ?_, h2.trans ?_, h3.trans ?_, h⟩
  · funext i
    obtain ⟨r, l, rfl⟩ : ∃ (r : Fin 32768) (l : Fin 2048), i = ix2 r l := ⟨i 0, i 1, eq_ix2 i⟩
    pointwise []
    show _ = column pickQk (proj _ _ _ r) l
    split_ifs <;>
      exact (hP r _).trans (column_at (congrArg some (Fin.ext (by first | rfl | omega | (dsimp only; omega))))).symm
  · funext i
    obtain ⟨r, l, rfl⟩ : ∃ (r : Fin 32768) (l : Fin 1024), i = ix2 r l := ⟨i 0, i 1, eq_ix2 i⟩
    pointwise []
    exact hP r _
  · funext i
    obtain ⟨r, l, rfl⟩ : ∃ (r : Fin 32768) (l : Fin 640), i = ix2 r l := ⟨i 0, i 1, eq_ix2 i⟩
    pointwise []
    show _ = column pickIdx (proj _ _ _ r) l
    split_ifs <;> first
      | (refine (hP r _).trans (column_at ?_).symm
         unfold pickIdx
         split_ifs <;> first | omega | exact congrArg some (Fin.ext (by first | rfl | omega | (dsimp only; omega))))
      | (refine (column_zero ?_).symm
         unfold pickIdx
         split_ifs <;> first | omega | rfl)

end Cert.Reference4Ideal.Rows

end
-- ==== Proof.Layer.InProjXg.lean ====
/-
  The call that projects to the memory queries and to the logits of the branch gates: kernel and reference both leave the
  columns from 7768 and from 8792 of the projection.
-/
module

public import proofs.«01_k».proof.Proof.Gen.Kernel5Ideal.Frame
public import proofs.«01_k».proof.Proof.Gen.Kernel5Ideal.Value
public import proofs.«01_k».proof.Proof.Gen.Reference5Ideal.Run
public import proofs.«01_k».proof.Proof.Layer.Rows

@[expose] public section

set_option maxRecDepth 16384

noncomputable section

open Idealize.ShloMosaic Idealize.ShloMosaic.TcCoe Idealize.SL.Sem

namespace Cert.Kernel5Ideal.Rows

open Cert.Kernel5Ideal Cert.Kernel5Ideal.Gen Layer

variable (m : (ℓ : Loc nD τ sig) → Buf (Elt Ideal) ℓ)

/-- Where the windows' blocks lie, decided. -/
theorem idx_val : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The memory queries' columns. -/
def pickXq (b : Fin 1024) : Option (Fin 11864) := some ⟨7768 + b.val, by omega⟩

/-- The gate logits' columns. -/
def pickGl (b : Fin 3072) : Option (Fin 11864) := some ⟨8792 + b.val, by omega⟩

theorem pay2_at (x : Vec Ideal S256x1024 .f32) (g : Vec Ideal S1x1024 .f32) (w : Vec Ideal S1024x1024 .bf16) (i : Fin 256) (l : Fin 1024) :
    (k0_pay2 x g w (ix2 i l) : EReal) = times (normed (fun k => x (ix2 i k)) (fun k => g (ix2 0 k))) (fun j b => w (ix2 j b)) l := by
  pointwise [k0_pay1, k0_pay2, normed, times]

theorem pay3_at (x : Vec Ideal S256x1024 .f32) (g : Vec Ideal S1x1024 .f32) (w : Vec Ideal S1024x3072 .bf16) (i : Fin 256) (l : Fin 3072) :
    (k0_pay3 x g w (ix2 i l) : EReal) = times (normed (fun k => x (ix2 i k)) (fun k => g (ix2 0 k))) (fun j b => w (ix2 j b)) l := by
  pointwise [k0_pay1, k0_pay3, normed, times]

/-- The row of the array that row `i` of point `t`'s block is. -/
abbrev at_ (t : Fin cfg0.N) (i : Fin 256) : Fin 32768 :=
  ⟨256 * t.val + i.val, by have := lt_of_lt_of_eq t.isLt N_0; omega⟩

theorem blkX (c : Dev nD) (t : Fin cfg0.N) (i : Fin 256) (l : Fin 1024) :
    (iblk m c 0 t (ix2 i l) : EReal) = row (fun p t l => m ((c : Thread nD τ).loc main_arg0) (ix3 p t l)) (at_ t i) l := by
  have e := (idx_val t).1
  have e0 : win0_0.index t 0 = t.val := by rw [e]; rfl
  have e1 : win0_0.index t 1 = 0 := by rw [e]; rfl
  blk_simp [iblk, e]
  entry_read
  refine (congrArg _ ?_).trans (flat_apply _ _ (at_ t i) l)
  blk_ext [e0, e1]

theorem blkG (c : Dev nD) (t : Fin cfg0.N) (l : Fin 1024) :
    (iblk m c 1 t (ix2 0 l) : EReal) = m ((c : Thread nD τ).loc main_arg1) (ix1 l) := by
  have e := (idx_val t).2.1
  have e0 : win0_1.index t 0 = 0 := by rw [e]; rfl
  have e1 : win0_1.index t 1 = 0 := by rw [e]; rfl
  blk_simp [iblk, e]
  entry_read
  pointwise []
  blk_ext [e0, e1]

theorem blkXq (c : Dev nD) (t : Fin cfg0.N) (j : Fin 1024) (b : Fin 1024) :
    (iblk m c 2 t (ix2 j b) : EReal) = column pickXq (fun l => m ((c : Thread nD τ).loc main_arg2) (ix2 j l)) b := by
  have e := (idx_val t).2.2.1
  have e0 : win0_2.index t 0 = 0 := by rw [e]; rfl
  have e1 : win0_2.index t 1 = 0 := by rw [e]; rfl
  blk_simp [iblk, e]
  entry_read
  pointwise [column, pickXq]
  blk_ext [e0, e1]

theorem blkGl (c : Dev nD) (t : Fin cfg0.N) (j : Fin 1024) (b : Fin 3072) :
    (iblk m c 3 t (ix2 j b) : EReal) = column pickGl (fun l => m ((c : Thread nD τ).loc main_arg2) (ix2 j l)) b := by
  have e := (idx_val t).2.2.2.1
  have e0 : win0_3.index t 0 = 0 := by rw [e]; rfl
  have e1 : win0_3.index t 1 = 0 := by rw [e]; rfl
  blk_simp [iblk, e]
  entry_read
  pointwise [column, pickGl]
  blk_ext [e0, e1]

theorem final4 (c : Dev nD) : (dats m 0 c).arrAt 4 cfg0.N
    = picked pickXq (m ((c : Thread nD τ).loc main_arg0)) (m ((c : Thread nD τ).loc main_arg1)) (m ((c : Thread nD τ).loc main_arg2)) := by
  refine (dats m 0 c).arrAt_eq_of_covers 4 _ (by decide +kernel) fun t _ y => ?_
  obtain ⟨i, l, rfl⟩ : ∃ (i : Fin 256) (l : Fin 1024), y = ix2 i l := ⟨y 0, y 1, eq_ix2 y⟩
  blk_simp
  rw [after0_4]; frame_out
  have e := (idx_val t).2.2.2.2.1
  have e0 : win0_4.index t 0 = t.val := by rw [e]; rfl
  have e1 : win0_4.index t 1 = 0 := by rw [e]; rfl
  have hy : ((View.whole main_v5_0).slice (win0_4.rect t)).emb (ix2 i l) = ix2 (at_ t i) l := by
    funext a; refine Fin.ext ?_
    fin_cases a <;> blk_simp [e0, e1]
    · show t.val * 256 + i.val = 256 * t.val + i.val; omega
    · rfl
  refine (pay2_at _ _ _ i l).trans ?_
  simp only [blkX, blkG, blkXq, times_picked]
  exact (congrArg (picked pickXq _ _ _) hy).symm

theorem final5 (c : Dev nD) : (dats m 0 c).arrAt 5 cfg0.N
    = picked pickGl (m ((c : Thread nD τ).loc main_arg0)) (m ((c : Thread nD τ).loc main_arg1)) (m ((c : Thread nD τ).loc main_arg2)) := by
  refine (dats m 0 c).arrAt_eq_of_covers 5 _ (by decide +kernel) fun t _ y => ?_
  obtain ⟨i, l, rfl⟩ : ∃ (i : Fin 256) (l : Fin 3072), y = ix2 i l := ⟨y 0, y 1, eq_ix2 y⟩
  blk_simp
  rw [after0_5]; frame_out
  have e := (idx_val t).2.2.2.2.2
  have e0 : win0_5.index t 0 = t.val := by rw [e]; rfl
  have e1 : win0_5.index t 1 = 0 := by rw [e]; rfl
  have hy : ((View.whole main_v5_1).slice (win0_5.rect t)).emb (ix2 i l) = ix2 (at_ t i) l := by
    funext a; refine Fin.ext ?_
    fin_cases a <;> blk_simp [e0, e1]
    · show t.val * 256 + i.val = 256 * t.val + i.val; omega
    · rfl
  refine (pay3_at _ _ _ i l).trans ?_
  simp only [blkX, blkG, blkGl, times_picked]
  exact (congrArg (picked pickGl _ _ _) hy).symm

end Cert.Kernel5Ideal.Rows

namespace Cert.Reference5Ideal.Rows

open Cert.Reference5Ideal Cert.Reference5Ideal.Gen Cert.Kernel5Ideal.Rows Layer

theorem flat_proj (X : FVec Ideal S2x16384x1024 .f32) (g : FVec Ideal S1024 .f32) (W : FVec Ideal S1024x11864 .f32) (r : Fin 32768) (l : Fin 11864) :
    (shapeCast S32768x11864 (Host.dotGeneral (φ₁ := .f32) (φ₂ := .f32) dot_S2x16384x1024_S1024x11864_S2x16384x11864_2_0_01_1_n_n none (normArr X g) W)
      shapeCasts_S2x16384x11864_S32768x11864 (ix2 r l) : EReal) = proj X g W r l := by
  rw [flat_apply]
  pointwise [normArr, proj, times, row]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = picked pickXq (m ((c.tc : Thread nD τ).loc main_arg0))
          (m ((c.tc : Thread nD τ).loc main_arg1)) (m ((c.tc : Thread nD τ).loc main_arg2))
      ∧ r.2.mem ((c.tc : Thread nD τ).loc main_v28) = picked pickGl (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h1, h2, h3⟩ := h c
  rw [normArr_eq] at h1 h2
  have hP := flat_proj (m ((c.tc : Thread nD τ).loc main_arg0)) (m ((c.tc : Thread nD τ).loc main_arg1)) (m ((c.tc : Thread nD τ).loc main_arg2))
  generalize shapeCast S32768x11864 _ _ = P at h1 h2 hP
  refine ⟨h1.trans ?_, h2.trans ?_, h3⟩
  · funext i
    obtain ⟨r, l, rfl⟩ : ∃ (r : Fin 32768) (l : Fin 1024), i = ix2 r l := ⟨i 0, i 1, eq_ix2 i⟩
    pointwise []
    exact hP r _
  · funext i
    obtain ⟨r, l, rfl⟩ : ∃ (r : Fin 32768) (l : Fin 3072), i = ix2 r l := ⟨i 0, i 1, eq_ix2 i⟩
    pointwise []
    exact hP r _

end Cert.Reference5Ideal.Rows

end
-- ==== Proof.Layer.Merge.lean ====
/-
  The merge of the three branches: kernel and reference both leave, of every token, its row plus the gated sum of the branches'
  products, times the output weights.
-/
module

public import proofs.«01_k».proof.Proof.Gen.Kernel6Ideal.Frame
public import proofs.«01_k».proof.Proof.Gen.Kernel6Ideal.Value
public import proofs.«01_k».proof.Proof.Gen.Reference6Ideal.Run
public import proofs.«01_k».proof.Proof.Layer.Spec

@[expose] public section

set_option maxRecDepth 16384

noncomputable section

open Idealize.ShloMosaic Idealize.ShloMosaic.TcCoe Idealize.SL.Sem

namespace Layer

/-- A branch's share of the merged row: the sigmoid of its gate's logits and bias, times the branch's product. -/
def branch (gl bg o : Fin 1024 → EReal) (w : Fin 1024 → Fin 1024 → EReal) (j : Fin 1024) : EReal :=
  sigmoid (gl j + bg j) * times o w j

/-- The row that the merge leaves of a token. -/
def mergedRow (x o₀ o₁ o₂ g₀ g₁ g₂ b₀ b₁ b₂ : Fin 1024 → EReal) (w₀ w₁ w₂ wo : Fin 1024 → Fin 1024 → EReal) (l : Fin 1024) : EReal :=
  x l + times (fun j => branch g₀ b₀ o₀ w₀ j + branch g₁ b₁ o₁ w₁ j + branch g₂ b₂ o₂ w₂ j) wo l

end Layer

namespace Cert.Kernel6Ideal.Rows

open Cert.Kernel6Ideal Cert.Kernel6Ideal.Gen Layer

variable (m : (ℓ : Loc nD τ sig) → Buf (Elt Ideal) ℓ)

/-- Where the windows' blocks lie, decided. -/
theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0, 0]
    ∧ win0_7.index t = ![0, 0] ∧ win0_8.index t = ![t.val, 0] :=
  (by decide +kernel : ∀ t : Fin grid0.N, _)

/-- The rows that the call leaves, from the arguments. -/
def result (X : FVec Ideal S2x16384x1024 .f32) (O₀ O₁ O₂ : FVec Ideal S2x16384x1024 .bf16) (G : FVec Ideal S2x16384x3072 .f32)
    (b : FVec Ideal S3x1024 .f32) (w : FVec Ideal S3x1024x1024 .f32) (wo : FVec Ideal S1024x1024 .f32) : FVec Ideal S32768x1024 .f32 :=
  fun i => mergedRow (row (fun p t l => X (ix3 p t l)) (i 0)) (row (fun p t l => O₀ (ix3 p t l)) (i 0)) (row (fun p t l => O₁ (ix3 p t l)) (i 0))
    (row (fun p t l => O₂ (ix3 p t l)) (i 0)) (fun j => row (fun p t l => G (ix3 p t l)) (i 0) ⟨j.val, by omega⟩)
    (fun j => row (fun p t l => G (ix3 p t l)) (i 0) ⟨1024 + j.val, by omega⟩) (fun j => row (fun p t l => G (ix3 p t l)) (i 0) ⟨2048 + j.val, by omega⟩)
    (fun j => b (ix2 0 j)) (fun j => b (ix2 1 j)) (fun j => b (ix2 2 j))
    (fun k j => w (ix3 0 k j)) (fun k j => w (ix3 1 k j)) (fun k j => w (ix3 2 k j)) (fun k l => wo (ix2 k l)) (i 1)

theorem pay_at (x : Vec Ideal S256x1024 .f32) (o₀ o₁ o₂ : Vec Ideal S256x1024 .bf16) (g₀ g₁ g₂ : Vec Ideal S256x1024 .f32)
    (b₀ b₁ b₂ : Vec Ideal S1x1024 .f32) (w₀ w₁ w₂ : Vec Ideal S1x1024x1024 .bf16) (wo : Vec Ideal S1024x1024 .bf16) (i : Fin 256) (l : Fin 1024) :
    (k0_pay1 (k0_pay2 g₀ b₀ o₀ w₀) (k0_pay3 g₁ b₁) (k0_pay4 o₁) w₁ g₂ b₂ o₂ w₂ x wo (ix2 i l) : EReal)
      = mergedRow (fun k => x (ix2 i k)) (fun k => o₀ (ix2 i k)) (fun k => o₁ (ix2 i k)) (fun k => o₂ (ix2 i k))
        (fun k => g₀ (ix2 i k)) (fun k => g₁ (ix2 i k)) (fun k => g₂ (ix2 i k)) (fun k => b₀ (ix2 0 k)) (fun k => b₁ (ix2 0 k)) (fun k => b₂ (ix2 0 k))
        (fun k j => w₀ (ix3 0 k j)) (fun k j => w₁ (ix3 0 k j)) (fun k j => w₂ (ix3 0 k j)) (fun k j => wo (ix2 k j)) l := by
  pointwise [k0_pay1, k0_pay2, k0_pay3, k0_pay4, mergedRow, branch, sigmoid, times]

/-- The row of the array that row `i` of point `t`'s block is. -/
abbrev at_ (t : Fin cfg0.N) (i : Fin 256) : Fin 32768 :=
  ⟨256 * t.val + i.val, by have := lt_of_lt_of_eq t.isLt N_0; omega⟩

theorem blkX (c : Dev nD) (t : Fin cfg0.N) (i : Fin 256) (l : Fin 1024) :
    (iblk m c 0 t (ix2 i l) : EReal) = row (fun p t l => m ((c : Thread nD τ).loc main_arg0) (ix3 p t l)) (at_ t i) l := by
  have e := (idx_val t).1
  have e0 : win0_0.index t 0 = t.val := by rw [e]; rfl
  have e1 : win0_0.index t 1 = 0 := by rw [e]; rfl
  blk_simp [iblk, e]
  entry_read
  refine (congrArg _ ?_).trans (flat_apply _ _ (at_ t i) l)
  blk_ext [e0, e1]

theorem blkO₀ (c : Dev nD) (t : Fin cfg0.N) (i : Fin 256) (l : Fin 1024) :
    (iblk m c 1 t (ix2 i l) : EReal) = row (fun p t l => m ((c : Thread nD τ).loc main_arg1) (ix3 p t l)) (at_ t i) l := by
  have e := (idx_val t).2.1
  have e0 : win0_1.index t 0 = t.val := by rw [e]; rfl
  have e1 : win0_1.index t 1 = 0 := by rw [e]; rfl
  blk_simp [iblk, e]
  entry_read
  refine (congrArg _ ?_).trans (flat_apply _ _ (at_ t i) l)
  blk_ext [e0, e1]

theorem blkO₁ (c : Dev nD) (t : Fin cfg0.N) (i : Fin 256) (l : Fin 1024) :
    (iblk m c 2 t (ix2 i l) : EReal) = row (fun p t l => m ((c : Thread nD τ).loc main_arg2) (ix3 p t l)) (at_ t i) l := by
  have e := (idx_val t).2.2.1
  have e0 : win0_2.index t 0 = t.val := by rw [e]; rfl
  have e1 : win0_2.index t 1 = 0 := by rw [e]; rfl
  blk_simp [iblk, e]
  entry_read
  refine (congrArg _ ?_).trans (flat_apply _ _ (at_ t i) l)
  blk_ext [e0, e1]

theorem blkO₂ (c : Dev nD) (t : Fin cfg0.N) (i : Fin 256) (l : Fin 1024) :
    (iblk m c 3 t (ix2 i l) : EReal) = row (fun p t l => m ((c : Thread nD τ).loc main_arg3) (ix3 p t l)) (at_ t i) l := by
  have e := (idx_val t).2.2.2.1
  have e0 : win0_3.index t 0 = t.val := by rw [e]; rfl
  have e1 : win0_3.index t 1 = 0 := by rw [e]; rfl
  blk_simp [iblk, e]
  entry_read
  refine (congrArg _ ?_).trans (flat_apply _ _ (at_ t i) l)
  blk_ext [e0, e1]

theorem blkG (c : Dev nD) (t : Fin cfg0.N) (i : Fin 256) (l : Fin 3072) :
    (iblk m c 4 t (ix2 i l) : EReal) = row (fun p t l => m ((c : Thread nD τ).loc main_arg4) (ix3 p t l)) (at_ t i) l := by
  have e := (idx_val t).2.2.2.2.1
  have e0 : win0_4.index t 0 = t.val := by rw [e]; rfl
  have e1 : win0_4.index t 1 = 0 := by rw [e]; rfl
  blk_simp [iblk, e]
  entry_read
  refine (congrArg _ ?_).trans (flat_apply _ _ (at_ t i) l)
  blk_ext [e0, e1]

theorem blkB (c : Dev nD) (t : Fin cfg0.N) (k : Fin 3) (j : Fin 1024) (l : Fin 3072) (hl : l.val = 1024 * k.val + j.val) :
    (iblk m c 5 t (ix2 0 l) : EReal) = m ((c : Thread nD τ).loc main_arg5) (ix2 k j) := by
  have e := (idx_val t).2.2.2.2.2.1
  have e0 : win0_5.index t 0 = 0 := by rw [e]; rfl
  have e1 : win0_5.index t 1 = 0 := by rw [e]; rfl
  blk_simp [iblk, e]
  entry_read
  have hy : ((View.whole main_v7).slice (win0_5.rect t)).emb (ix2 0 l) = ix2 0 l := by blk_ext [e0, e1]
  refine (congrArg _ hy).trans (shapeCast_apply _ _ _ _ ?_)
  show ((⟨2, ![3, 1024]⟩ : Shape).rowMajor (ix2 k j)).val = ((⟨2, ![1, 3072]⟩ : Shape).rowMajor (ix2 0 l)).val
  rw [Shape.rowMajor_val_two, Shape.rowMajor_val_two]
  show k.val * 1024 + j.val = 0 * 3072 + l.val
  omega

theorem blkW (c : Dev nD) (t : Fin cfg0.N) (k : Fin 3) (j l : Fin 1024) :
    (iblk m c 6 t (ix3 k j l) : EReal) = m ((c : Thread nD τ).loc main_arg6) (ix3 k j l) := by
  have e := (idx_val t).2.2.2.2.2.2.1
  have e0 : win0_6.index t 0 = 0 := by rw [e]; rfl
  have e1 : win0_6.index t 1 = 0 := by rw [e]; rfl
  have e2 : win0_6.index t 2 = 0 := by rw [e]; rfl
  blk_simp [iblk, e]
  entry_read
  pointwise []
  blk_ext [e0, e1, e2]

theorem blkWo (c : Dev nD) (t : Fin cfg0.N) (j l : Fin 1024) :
    (iblk m c 7 t (ix2 j l) : EReal) = m ((c : Thread nD τ).loc main_arg7) (ix2 j l) := by
  have e := (idx_val t).2.2.2.2.2.2.2.1
  have e0 : win0_7.index t 0 = 0 := by rw [e]; rfl
  have e1 : win0_7.index t 1 = 0 := by rw [e]; rfl
  blk_simp [iblk, e]
  entry_read
  pointwise []
  blk_ext [e0, e1]

theorem ldG0 (c : Dev nD) (t : Fin cfg0.N) (i : Fin 256) (j : Fin 1024) : (View.ld (iblk m c 4 t) r0_0 (ix2 i j) : EReal)
    = row (fun p t l => m ((c : Thread nD τ).loc main_arg4) (ix3 p t l)) (at_ t i) ⟨j.val, by omega⟩ :=
  (View.ld_unit_apply_of _ _ _ _ _ (ix2 i ⟨j.val, by omega⟩) (by intro a; fin_cases a <;> first | rfl | exact (Nat.zero_add _).symm)).trans (blkG m c t i _)

theorem ldB0 (c : Dev nD) (t : Fin cfg0.N) (j : Fin 1024) : (View.ld (iblk m c 5 t) r0_1 (ix2 0 j) : EReal)
    = m ((c : Thread nD τ).loc main_arg5) (ix2 0 j) :=
  (View.ld_unit_apply_of _ _ _ _ _ (ix2 0 ⟨j.val, by omega⟩) (by intro a; fin_cases a <;> first | rfl | exact (Nat.zero_add _).symm)).trans
    (blkB m c t 0 j _ (by first | rfl | exact (Nat.zero_add _).symm))

theorem ldW0 (c : Dev nD) (t : Fin cfg0.N) (j l : Fin 1024) : (View.ld (iblk m c 6 t) r0_3 (ix3 0 j l) : EReal)
    = m ((c : Thread nD τ).loc main_arg6) (ix3 0 j l) :=
  (View.ld_unit_apply_of _ _ _ _ _ (ix3 0 j l) (by intro a; fin_cases a <;> first | rfl | exact (Nat.zero_add _).symm)).trans (blkW m c t 0 j l)

theorem ldG1 (c : Dev nD) (t : Fin cfg0.N) (i : Fin 256) (j : Fin 1024) : (View.ld (iblk m c 4 t) r0_4 (ix2 i j) : EReal)
    = row (fun p t l => m ((c : Thread nD τ).loc main_arg4) (ix3 p t l)) (at_ t i) ⟨1024 + j.val, by omega⟩ :=
  (View.ld_unit_apply_of _ _ _ _ _ (ix2 i ⟨1024 + j.val, by omega⟩) (by intro a; fin_cases a <;> first | rfl | exact (Nat.zero_add _).symm)).trans (blkG m c t i _)

theorem ldB1 (c : Dev nD) (t : Fin cfg0.N) (j : Fin 1024) : (View.ld (iblk m c 5 t) r0_5 (ix2 0 j) : EReal)
    = m ((c : Thread nD τ).loc main_arg5) (ix2 1 j) :=
  (View.ld_unit_apply_of _ _ _ _ _ (ix2 0 ⟨1024 + j.val, by omega⟩) (by intro a; fin_cases a <;> first | rfl | exact (Nat.zero_add _).symm)).trans
    (blkB m c t 1 j _ (by first | rfl | exact (Nat.zero_add _).symm))

theorem ldW1 (c : Dev nD) (t : Fin cfg0.N) (j l : Fin 1024) : (View.ld (iblk m c 6 t) r0_6 (ix3 0 j l) : EReal)
    = m ((c : Thread nD τ).loc main_arg6) (ix3 1 j l) :=
  (View.ld_unit_apply_of _ _ _ _ _ (ix3 1 j l) (by intro a; fin_cases a <;> first | rfl | exact (Nat.zero_add _).symm)).trans (blkW m c t 1 j l)

theorem ldG2 (c : Dev nD) (t : Fin cfg0.N) (i : Fin 256) (j : Fin 1024) : (View.ld (iblk m c 4 t) r0_7 (ix2 i j) : EReal)
    = row (fun p t l => m ((c : Thread nD τ).loc main_arg4) (ix3 p t l)) (at_ t i) ⟨2048 + j.val, by omega⟩ :=
  (View.ld_unit_apply_of _ _ _ _ _ (ix2 i ⟨2048 + j.val, by omega⟩) (by intro a; fin_cases a <;> first | rfl | exact (Nat.zero_add _).symm)).trans (blkG m c t i _)

theorem ldB2 (c : Dev nD) (t : Fin cfg0.N) (j : Fin 1024) : (View.ld (iblk m c 5 t) r0_8 (ix2 0 j) : EReal)
    = m ((c : Thread nD τ).loc main_arg5) (ix2 2 j) :=
  (View.ld_unit_apply_of _ _ _ _ _ (ix2 0 ⟨2048 + j.val, by omega⟩) (by intro a; fin_cases a <;> first | rfl | exact (Nat.zero_add _).symm)).trans
    (blkB m c t 2 j _ (by first | rfl | exact (Nat.zero_add _).symm))

theorem ldW2 (c : Dev nD) (t : Fin cfg0.N) (j l : Fin 1024) : (View.ld (iblk m c 6 t) r0_9 (ix3 0 j l) : EReal)
    = m ((c : Thread nD τ).loc main_arg6) (ix3 2 j l) :=
  (View.ld_unit_apply_of _ _ _ _ _ (ix3 2 j l) (by intro a; fin_cases a <;> first | rfl | exact (Nat.zero_add _).symm)).trans (blkW m c t 2 j l)

theorem final (c : Dev nD) : (dats m 0 c).arrAt 8 cfg0.N
    = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 8 _ (by decide +kernel) fun t _ y => ?_
  obtain ⟨i, l, rfl⟩ : ∃ (i : Fin 256) (l : Fin 1024), y = ix2 i l := ⟨y 0, y 1, eq_ix2 y⟩
  blk_simp
  rw [after0_8]; frame_out
  have e := (idx_val t).2.2.2.2.2.2.2.2
  have e0 : win0_8.index t 0 = t.val := by rw [e]; rfl
  have e1 : win0_8.index t 1 = 0 := by rw [e]; rfl
  have hy : ((View.whole main_v8).slice (win0_8.rect t)).emb (ix2 i l) = ix2 (at_ t i) l := by
    funext a; refine Fin.ext ?_
    fin_cases a <;> blk_simp [e0, e1]
    · show t.val * 256 + i.val = 256 * t.val + i.val; omega
    · rfl
  refine (pay_at _ _ _ _ _ _ _ _ _ _ _ _ _ _ i l).trans ?_
  simp only [blkX, blkO₀, blkO₁, blkO₂, ldG0, ldG1, ldG2, ldB0, ldB1, ldB2, ldW0, ldW1, ldW2, blkWo]
  exact (congrArg (result _ _ _ _ _ _ _ _) hy).symm

end Cert.Kernel6Ideal.Rows

namespace Cert.Reference6Ideal.Rows

open Cert.Reference6Ideal Cert.Reference6Ideal.Gen Layer

/-- The three gates of every token, as the reference's operations spell them. -/
def gates (G : FVec Ideal S2x16384x3072 .f32) (b : FVec Ideal S3x1024 .f32) : FVec Ideal S2x16384x3x1024 .f32 :=
  Host.divf (broadcastInDim S2x16384x3x1024 ![] bcast_S_S2x16384x3x1024 (constant (F := Ideal) S_ .f32 0x3F800000#32))
    (addf (broadcastInDim S2x16384x3x1024 ![] bcast_S_S2x16384x3x1024 (constant (F := Ideal) S_ .f32 0x3F800000#32))
      (Host.exp (Host.negf (addf (shapeCast _ G shapeCasts_S2x16384x3072_S2x16384x3x1024)
        (broadcastInDim S2x16384x3x1024 ![0, 1, 2, 3] bcast_S1x1x3x1024_S2x16384x3x1024_0_1_2_3
          (broadcastInDim S1x1x3x1024 ![2, 3] bcast_S3x1024_S1x1x3x1024_2_3 b))))))

theorem gates_at (G : FVec Ideal S2x16384x3072 .f32) (b : FVec Ideal S3x1024 .f32) (p : Fin 2) (t : Fin 16384) (k : Fin 3) (j : Fin 1024)
    (l : Fin 3072) (hl : l.val = 1024 * k.val + j.val) :
    (gates G b (ix4 p t k j) : EReal) = sigmoid (G (ix3 p t l) + b (ix2 k j)) := by
  have e : shapeCast S2x16384x3x1024 G shapeCasts_S2x16384x3072_S2x16384x3x1024 (ix4 p t k j) = G (ix3 p t l) := by
    refine shapeCast_apply _ _ _ _ ?_
    rw [Shape.rowMajor_val_three, Shape.rowMajor_val_four]
    show (p.val * 16384 + t.val) * 3072 + l.val = ((p.val * 16384 + t.val) * 3 + k.val) * 1024 + j.val
    omega
  unfold gates
  generalize shapeCast S2x16384x3x1024 G shapeCasts_S2x16384x3072_S2x16384x3x1024 = G4 at e
  pointwise [sigmoid]
  rw [e, sub_eq_add_neg (0 : EReal), zero_add]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = Cert.Kernel6Ideal.Rows.result (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ⟨(h c).1.trans ?_, (h c).2⟩) (Value.run m ρ)
  clear h
  have hg := gates_at (m ((c.tc : Thread nD τ).loc main_arg4)) (m ((c.tc : Thread nD τ).loc main_arg5))
  change shapeCast S32768x1024 (addf _ (Host.dotGeneral (F := Ideal) _ none (addf (addf
    (mulf (shapeCast _ (extractStridedSlice _ _ (gates _ _) _) _) _) (mulf (shapeCast _ (extractStridedSlice _ _ (gates _ _) _) _) _))
    (mulf (shapeCast _ (extractStridedSlice _ _ (gates _ _) _) _) _)) _)) _ = _
  generalize gates _ _ = S4 at hg ⊢
  funext i
  obtain ⟨r, l, rfl⟩ : ∃ (r : Fin 32768) (l : Fin 1024), i = ix2 r l := ⟨i 0, i 1, eq_ix2 i⟩
  refine (flat_apply _ _ r l).trans ?_
  pointwise []
  have h0 := fun p t j => hg p t 0 j ⟨j.val, by omega⟩ (by show j.val = 1024 * 0 + j.val; omega)
  have h1 := fun p t j => hg p t 1 j ⟨1024 + j.val, by omega⟩ rfl
  have h2 := fun p t j => hg p t 2 j ⟨2048 + j.val, by omega⟩ rfl
  simp only [h0, h1, h2]
  rfl

end Cert.Reference6Ideal.Rows

end
-- ==== Proof.Layer.FinalNorm.lean ====
/-
  The norm after the last layer: kernel and reference both leave the normed rows.
-/
module

public import proofs.«01_k».proof.Proof.Gen.Kernel7Ideal.Frame
public import proofs.«01_k».proof.Proof.Gen.Kernel7Ideal.Value
public import proofs.«01_k».proof.Proof.Gen.Reference7Ideal.Run
public import proofs.«01_k».proof.Proof.Layer.Spec

@[expose] public section

set_option maxRecDepth 16384

noncomputable section

open Idealize.ShloMosaic Idealize.ShloMosaic.TcCoe Idealize.SL.Sem

namespace Cert.Kernel7Ideal.Rows

open Cert.Kernel7Ideal Cert.Kernel7Ideal.Gen Layer

variable (m : (ℓ : Loc nD τ sig) → Buf (Elt Ideal) ℓ)

/-- Where the windows' blocks lie, decided. -/
theorem idx_val : ∀ t : Fin cfg0.N, win0_0.index t = ![t.val, 0] ∧ win0_1.index t = ![0, 0] ∧ win0_2.index t = ![t.val, 0] :=
  (by decide +kernel : ∀ t : Fin grid0.N, _)

/-- The rows that the call leaves, from the arguments. -/
def result (X : FVec Ideal S2x16384x1024 .f32) (g : FVec Ideal S1024 .f32) : FVec Ideal S32768x1024 .f32 :=
  fun i => normed (row (fun p t l => X (ix3 p t l)) (i 0)) (fun l => g (ix1 l)) (i 1)

theorem pay_at (x : Vec Ideal S512x1024 .f32) (g : Vec Ideal S1x1024 .f32) (i : Fin 512) (l : Fin 1024) :
    (k0_pay1 x g (ix2 i l) : EReal) = normed (fun k => x (ix2 i k)) (fun k => g (ix2 0 k)) l := by
  pointwise [k0_pay1, normed]

/-- The row of the array that row `i` of point `t`'s block is. -/
abbrev at_ (t : Fin cfg0.N) (i : Fin 512) : Fin 32768 :=
  ⟨512 * t.val + i.val, by have := lt_of_lt_of_eq t.isLt N_0; omega⟩

theorem blkX (c : Dev nD) (t : Fin cfg0.N) (i : Fin 512) (l : Fin 1024) :
    (iblk m c 0 t (ix2 i l) : EReal) = row (fun p t l => m ((c : Thread nD τ).loc main_arg0) (ix3 p t l)) (at_ t i) l := by
  have e := (idx_val t).1
  have e0 : win0_0.index t 0 = t.val := by rw [e]; rfl
  have e1 : win0_0.index t 1 = 0 := by rw [e]; rfl
  blk_simp [iblk, e]
  entry_read
  refine (congrArg _ ?_).trans (flat_apply _ _ (at_ t i) l)
  blk_ext [e0, e1]

theorem blkG (c : Dev nD) (t : Fin cfg0.N) (l : Fin 1024) :
    (iblk m c 1 t (ix2 0 l) : EReal) = m ((c : Thread nD τ).loc main_arg1) (ix1 l) := by
  have e := (idx_val t).2.1
  have e0 : win0_1.index t 0 = 0 := by rw [e]; rfl
  have e1 : win0_1.index t 1 = 0 := by rw [e]; rfl
  blk_simp [iblk, e]
  entry_read
  pointwise []
  blk_ext [e0, e1]

theorem final (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  obtain ⟨i, l, rfl⟩ : ∃ (i : Fin 512) (l : Fin 1024), y = ix2 i l := ⟨y 0, y 1, eq_ix2 y⟩
  blk_simp
  rw [after0_2]; frame_out
  have e := (idx_val t).2.2
  have e0 : win0_2.index t 0 = t.val := by rw [e]; rfl
  have e1 : win0_2.index t 1 = 0 := by rw [e]; rfl
  have hy : ((View.whole main_v2).slice (win0_2.rect t)).emb (ix2 i l) = ix2 (at_ t i) l := by
    funext a; refine Fin.ext ?_
    fin_cases a <;> blk_simp [e0, e1]
    · show t.val * 512 + i.val = 512 * t.val + i.val; omega
    · rfl
  refine (pay_at _ _ i l).trans ?_
  simp only [blkX, blkG]
  exact (congrArg (result _ _) hy).symm

end Cert.Kernel7Ideal.Rows

namespace Cert.Reference7Ideal.Rows

open Cert.Reference7Ideal Cert.Reference7Ideal.Gen Layer

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
          = Cert.Kernel7Ideal.Rows.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext i
  obtain ⟨r, l, rfl⟩ : ∃ (r : Fin 32768) (l : Fin 1024), i = ix2 r l := ⟨i 0, i 1, eq_ix2 i⟩
  rw [normArr_eq]
  exact flat_apply _ _ r l

end Cert.Reference7Ideal.Rows

end
-- ==== Proof.Layer.MemKv.lean ====
/-
  The call that makes the keys and values of the memory tokens: kernel and reference both leave the two halves of the normed
  tokens' product by the weights.
-/
module

public import proofs.«01_k».proof.Proof.Gen.Kernel8Ideal.Frame
public import proofs.«01_k».proof.Proof.Gen.Kernel8Ideal.Value
public import proofs.«01_k».proof.Proof.Gen.Reference8Ideal.Run
public import proofs.«01_k».proof.Proof.Layer.Spec

@[expose] public section

set_option maxRecDepth 16384

noncomputable section

open Idealize.ShloMosaic Idealize.ShloMosaic.TcCoe Idealize.SL.Sem

namespace Layer

/-- Memory token `r` of 512, as a token of the batch row it belongs to. -/
def memRow (X : FVec Ideal ⟨3, ![2, 256, 1024]⟩ .f32) (r : Fin 512) (l : Fin 1024) : EReal :=
  X (ix3 ⟨r.val / 256, by omega⟩ ⟨r.val % 256, Nat.mod_lt _ (by decide)⟩ l)

/-- An array of two batch rows of memory tokens laid out as 512 rows, read at one of them. -/
theorem memFlat_apply {d : ℕ} {α : Type} (X : (⟨3, ![2, 256, d]⟩ : Shape).Idx → α)
    (h : (⟨3, ![2, 256, d]⟩ : Shape).ShapeCasts ⟨2, ![512, d]⟩) (r : Fin 512) (l : Fin d) :
    shapeCast ⟨2, ![512, d]⟩ X h (ix2 r l) = X (ix3 ⟨r.val / 256, by omega⟩ ⟨r.val % 256, Nat.mod_lt _ (by decide)⟩ l) := by
  refine shapeCast_apply _ _ _ _ ?_
  rw [Shape.rowMajor_val_two, Shape.rowMajor_val_three]
  show (r.val / 256 * 256 + r.val % 256) * d + l.val = r.val * d + l.val
  rw [Nat.div_add_mod']

/-- Column `c` of the keys and values of memory token `r`. -/
def memProj (X : FVec Ideal ⟨3, ![2, 256, 1024]⟩ .f32) (g : FVec Ideal ⟨1, ![1024]⟩ .f32)
    (W : FVec Ideal ⟨2, ![1024, 2048]⟩ .f32) (r : Fin 512) (c : Fin 2048) : EReal :=
  times (normed (memRow X r) (fun l => g (ix1 l))) (fun j c => W (ix2 j c)) c

/-- The 1024 columns from `off` on, of every memory token. -/
def memHalf (off : ℕ) (hoff : off ≤ 1024) (X : FVec Ideal ⟨3, ![2, 256, 1024]⟩ .f32) (g : FVec Ideal ⟨1, ![1024]⟩ .f32)
    (W : FVec Ideal ⟨2, ![1024, 2048]⟩ .f32) : (⟨2, ![512, 1024]⟩ : Shape).Idx → EReal :=
  fun i => memProj X g W (i 0) ⟨off + (i 1).val, by have : (i 1).val < 1024 := (i 1).isLt; omega⟩

/-- Every memory token normed. -/
def memNorm (X : FVec Ideal ⟨3, ![2, 256, 1024]⟩ .f32) (g : FVec Ideal ⟨1, ![1024]⟩ .f32) :
    FVec Ideal ⟨3, ![2, 256, 1024]⟩ .f32 :=
  fun i => normed (fun l => X (ix3 (i 0) (i 1) l)) (fun l => g (ix1 l)) (i 2)

/-- The norm as the reference's operations spell it, on whole arrays. -/
theorem memNorm_eq (X : FVec Ideal ⟨3, ![2, 256, 1024]⟩ .f32) (g : FVec Ideal ⟨1, ![1024]⟩ .f32)
    (h1 h2) (h3 : (⟨3, ![2, 256, 1024]⟩ : Shape).ReducesTo [2] ⟨2, ![2, 256]⟩) (h4 h5 h6 h7) :
    mulf (mulf X (broadcastInDim ⟨3, ![2, 256, 1024]⟩ ![0, 1, 2] h1 (Host.rsqrt (addf (Host.divf
      (broadcastInDim ⟨3, ![2, 256, 1]⟩ ![0, 1] h2 (Host.reduceAdd (t := ⟨2, ![2, 256]⟩) (mulf X X) (constant (F := Ideal) ⟨0, ![]⟩ .f32 0x00000000#32) h3 h4))
      (broadcastInDim ⟨3, ![2, 256, 1]⟩ ![] h5 (constant (F := Ideal) ⟨0, ![]⟩ .f32 0x44800000#32)))
      (broadcastInDim ⟨3, ![2, 256, 1]⟩ ![] h5 (constant (F := Ideal) ⟨0, ![]⟩ .f32 0x358637BD#32))))))
      (broadcastInDim ⟨3, ![2, 256, 1024]⟩ ![0, 1, 2] h6 (broadcastInDim ⟨3, ![1, 1, 1024]⟩ ![2] h7 g)) = memNorm X g := by
  funext i
  obtain ⟨p, t, l, rfl⟩ : ∃ (p : Fin 2) (t : Fin 256) (l : Fin 1024), i = ix3 p t l := ⟨i 0, i 1, i 2, eq_ix3 i⟩
  pointwise [memNorm, normed]

end Layer

namespace Cert.Kernel8Ideal.Rows

open Cert.Kernel8Ideal Cert.Kernel8Ideal.Gen Layer

variable (m : (ℓ : Loc nD τ sig) → Buf (Elt Ideal) ℓ)

/-- Where the windows' blocks lie, decided. -/
theorem idx_val : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

theorem pay2_at (x : Vec Ideal S256x1024 .f32) (g : Vec Ideal S1x1024 .f32) (w : Vec Ideal S1024x1024 .bf16) (i : Fin 256) (l : Fin 1024) :
    (k0_pay2 x g w (ix2 i l) : EReal) = times (normed (fun k => x (ix2 i k)) (fun k => g (ix2 0 k))) (fun j b => w (ix2 j b)) l := by
  pointwise [k0_pay1, k0_pay2, normed, times]

theorem pay3_at (x : Vec Ideal S256x1024 .f32) (g : Vec Ideal S1x1024 .f32) (w : Vec Ideal S1024x1024 .bf16) (i : Fin 256) (l : Fin 1024) :
    (k0_pay3 x g w (ix2 i l) : EReal) = times (normed (fun k => x (ix2 i k)) (fun k => g (ix2 0 k))) (fun j b => w (ix2 j b)) l := by
  pointwise [k0_pay1, k0_pay3, normed, times]

/-- The row of the array that row `i` of point `t`'s block is. -/
abbrev at_ (t : Fin cfg0.N) (i : Fin 256) : Fin 512 :=
  ⟨256 * t.val + i.val, by have := lt_of_lt_of_eq t.isLt N_0; omega⟩

theorem blkX (c : Dev nD) (t : Fin cfg0.N) (i : Fin 256) (l : Fin 1024) :
    (iblk m c 0 t (ix2 i l) : EReal) = memRow (m ((c : Thread nD τ).loc main_arg0)) (at_ t i) l := by
  have e := (idx_val t).1
  have e0 : win0_0.index t 0 = t.val := by rw [e]; rfl
  have e1 : win0_0.index t 1 = 0 := by rw [e]; rfl
  blk_simp [iblk, e]
  entry_read
  refine (congrArg _ ?_).trans (memFlat_apply _ _ (at_ t i) l)
  blk_ext [e0, e1]

theorem blkG (c : Dev nD) (t : Fin cfg0.N) (l : Fin 1024) :
    (iblk m c 1 t (ix2 0 l) : EReal) = m ((c : Thread nD τ).loc main_arg1) (ix1 l) := by
  have e := (idx_val t).2.1
  have e0 : win0_1.index t 0 = 0 := by rw [e]; rfl
  have e1 : win0_1.index t 1 = 0 := by rw [e]; rfl
  blk_simp [iblk, e]
  entry_read
  pointwise []
  blk_ext [e0, e1]

theorem blkK (c : Dev nD) (t : Fin cfg0.N) (j : Fin 1024) (b : Fin 1024) :
    (iblk m c 2 t (ix2 j b) : EReal) = m ((c : Thread nD τ).loc main_arg2) (ix2 j ⟨0 + b.val, by omega⟩) := by
  have e := (idx_val t).2.2.1
  have e0 : win0_2.index t 0 = 0 := by rw [e]; rfl
  have e1 : win0_2.index t 1 = 0 := by rw [e]; rfl
  blk_simp [iblk, e]
  entry_read
  pointwise []
  blk_ext [e0, e1]

theorem blkV (c : Dev nD) (t : Fin cfg0.N) (j : Fin 1024) (b : Fin 1024) :
    (iblk m c 3 t (ix2 j b) : EReal) = m ((c : Thread nD τ).loc main_arg2) (ix2 j ⟨1024 + b.val, by omega⟩) := by
  have e := (idx_val t).2.2.2.1
  have e0 : win0_3.index t 0 = 0 := by rw [e]; rfl
  have e1 : win0_3.index t 1 = 0 := by rw [e]; rfl
  blk_simp [iblk, e]
  entry_read
  pointwise []
  blk_ext [e0, e1]

theorem final4 (c : Dev nD) : (dats m 0 c).arrAt 4 cfg0.N
    = memHalf 0 (by decide) (m ((c : Thread nD τ).loc main_arg0)) (m ((c : Thread nD τ).loc main_arg1)) (m ((c : Thread nD τ).loc main_arg2)) := by
  refine (dats m 0 c).arrAt_eq_of_covers 4 _ (by decide +kernel) fun t _ y => ?_
  obtain ⟨i, l, rfl⟩ : ∃ (i : Fin 256) (l : Fin 1024), y = ix2 i l := ⟨y 0, y 1, eq_ix2 y⟩
  blk_simp
  rw [after0_4]; frame_out
  have e := (idx_val t).2.2.2.2.1
  have e0 : win0_4.index t 0 = t.val := by rw [e]; rfl
  have e1 : win0_4.index t 1 = 0 := by rw [e]; rfl
  have hy : ((View.whole main_v5_0).slice (win0_4.rect t)).emb (ix2 i l) = ix2 (at_ t i) l := by
    funext a; refine Fin.ext ?_
    fin_cases a <;> blk_simp [e0, e1]
    · show t.val * 256 + i.val = 256 * t.val + i.val; omega
    · rfl
  refine (pay2_at _ _ _ i l).trans ?_
  simp only [blkX, blkG, blkK]
  exact (congrArg (memHalf 0 (by decide) _ _ _) hy).symm

theorem final5 (c : Dev nD) : (dats m 0 c).arrAt 5 cfg0.N
    = memHalf 1024 (by decide) (m ((c : Thread nD τ).loc main_arg0)) (m ((c : Thread nD τ).loc main_arg1)) (m ((c : Thread nD τ).loc main_arg2)) := by
  refine (dats m 0 c).arrAt_eq_of_covers 5 _ (by decide +kernel) fun t _ y => ?_
  obtain ⟨i, l, rfl⟩ : ∃ (i : Fin 256) (l : Fin 1024), y = ix2 i l := ⟨y 0, y 1, eq_ix2 y⟩
  blk_simp
  rw [after0_5]; frame_out
  have e := (idx_val t).2.2.2.2.2
  have e0 : win0_5.index t 0 = t.val := by rw [e]; rfl
  have e1 : win0_5.index t 1 = 0 := by rw [e]; rfl
  have hy : ((View.whole main_v5_1).slice (win0_5.rect t)).emb (ix2 i l) = ix2 (at_ t i) l := by
    funext a; refine Fin.ext ?_
    fin_cases a <;> blk_simp [e0, e1]
    · show t.val * 256 + i.val = 256 * t.val + i.val; omega
    · rfl
  refine (pay3_at _ _ _ i l).trans ?_
  simp only [blkX, blkG, blkV]
  exact (congrArg (memHalf 1024 (by decide) _ _ _) hy).symm

end Cert.Kernel8Ideal.Rows

namespace Cert.Reference8Ideal.Rows

open Cert.Reference8Ideal Cert.Reference8Ideal.Gen Cert.Kernel8Ideal.Rows Layer

theorem flat_proj (X : FVec Ideal S2x256x1024 .f32) (g : FVec Ideal S1024 .f32) (W : FVec Ideal S1024x2048 .f32) (r : Fin 512) (l : Fin 2048) :
    (shapeCast S512x2048 (Host.dotGeneral (φ₁ := .f32) (φ₂ := .f32) dot_S2x256x1024_S1024x2048_S2x256x2048_2_0_01_1_n_n none (memNorm X g) W)
      shapeCasts_S2x256x2048_S512x2048 (ix2 r l) : EReal) = memProj X g W r l := by
  rw [memFlat_apply]
  pointwise [memNorm, memProj, times]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = memHalf 0 (by decide) (m ((c.tc : Thread nD τ).loc main_arg0))
          (m ((c.tc : Thread nD τ).loc main_arg1)) (m ((c.tc : Thread nD τ).loc main_arg2))
      ∧ r.2.mem ((c.tc : Thread nD τ).loc main_v18) = memHalf 1024 (by decide) (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h1, h2, h3⟩ := h c
  rw [memNorm_eq] at h1 h2
  have hP := flat_proj (m ((c.tc : Thread nD τ).loc main_arg0)) (m ((c.tc : Thread nD τ).loc main_arg1)) (m ((c.tc : Thread nD τ).loc main_arg2))
  generalize shapeCast S512x2048 _ _ = P at h1 h2 hP
  refine ⟨h1.trans ?_, h2.trans ?_, h3⟩
  · funext i
    obtain ⟨r, l, rfl⟩ : ∃ (r : Fin 512) (l : Fin 1024), i = ix2 r l := ⟨i 0, i 1, eq_ix2 i⟩
    pointwise []
    refine (hP r _).trans (congrArg (memProj _ _ _ r) (Fin.ext ?_))
    exact (Nat.zero_add _).symm
  · funext i
    obtain ⟨r, l, rfl⟩ : ∃ (r : Fin 512) (l : Fin 1024), i = ix2 r l := ⟨i 0, i 1, eq_ix2 i⟩
    pointwise []
    exact hP r _

end Cert.Reference8Ideal.Rows

end
-- ==== Proof.Layer.Softmax.lean ====
/-
  Attention weights over the extended reals. A program may divide each weight by the weights' total before it multiplies by the
  values, or divide the sum of the products afterwards: on real logits the two give the same, whatever the values.
-/
module

public import Idealize.ShloMosaic.Lib.Pipeline.ValueKit

@[expose] public section

noncomputable section

namespace Layer

open Idealize.ShloMosaic

/-- The largest of a row of logits, by the fold that starts at the word of minus infinity. -/
def peak {n : ℕ} (s : Fin n → EReal) : EReal := Finset.fold max (Ideal.ofBits .f32 4286578688#32) s Finset.univ

/-- A logit's weight before the division by the total. -/
def weight {n : ℕ} (s : Fin n → EReal) (j : Fin n) : EReal := Ideal.exp (s j - peak s)

/-- The values' sum by the weights, over the weights' total. -/
def attended {n : ℕ} (s v : Fin n → EReal) : EReal := Ideal.div (∑ j, weight s j * v j) (∑ j, weight s j)

theorem low_word : Ideal.ofBits .f32 4286578688#32 = ⊥ := by simp [Ideal.ofBits, Ideal.ieee]

theorem peak_real {n : ℕ} (s : Fin (n + 1) → EReal) (r : Fin (n + 1) → ℝ) (h : ∀ j, s j = r j) : ∃ p : ℝ, peak s = p := by
  have hb : peak s ≠ ⊥ := by
    refine ne_of_gt (lt_of_lt_of_le (EReal.bot_lt_coe (r 0)) ?_)
    rw [peak, low_word, Finset.le_fold_max]
    exact Or.inr ⟨0, Finset.mem_univ _, le_of_eq (h 0).symm⟩
  have ht : peak s ≠ ⊤ := by
    refine ne_of_lt ?_
    rw [peak, low_word, Finset.fold_max_lt]
    exact ⟨bot_lt_top, fun j _ => by rw [h j]; exact EReal.coe_lt_top _⟩
  exact ⟨(peak s).toReal, (EReal.coe_toReal ht hb).symm⟩

theorem sum_real {n : ℕ} (f : Fin n → EReal) (r : Fin n → ℝ) (h : ∀ j, f j = r j) : ∑ j, f j = ((∑ j, r j : ℝ) : EReal) := by
  rw [Finset.sum_congr rfl fun j _ => h j]
  exact (map_sum (⟨⟨Real.toEReal, EReal.coe_zero⟩, EReal.coe_add⟩ : ℝ →+ EReal) r Finset.univ).symm

/-- A nonnegative real factor goes into a sum of extended reals. -/
theorem sum_mul_real {n : ℕ} (f : Fin n → EReal) (c : ℝ) (hc : 0 ≤ c) : (∑ j, f j) * (c : EReal) = ∑ j, f j * (c : EReal) :=
  map_sum (⟨⟨fun x => x * (c : EReal), zero_mul _⟩, fun x y => by
    show (x + y) * (c : EReal) = x * c + y * c
    rw [mul_comm, EReal.left_distrib_of_nonneg_of_ne_top (EReal.coe_nonneg.mpr hc) (EReal.coe_ne_top c), mul_comm x, mul_comm y]⟩ :
    EReal →+ EReal) f Finset.univ

/-- On real logits the sum by the divided weights is the divided sum. -/
theorem divided_first {n : ℕ} (s v : Fin (n + 1) → EReal) (r : Fin (n + 1) → ℝ) (h : ∀ j, s j = r j) :
    (∑ j, v j * Ideal.div (weight s j) (∑ i, weight s i)) = attended s v := by
  obtain ⟨p, hp⟩ := peak_real s r h
  have hw : ∀ j, weight s j = (Real.exp (r j - p) : ℝ) := fun j => by
    rw [weight, hp, h j, ← EReal.coe_sub]; rfl
  have hL := sum_real (weight s) _ hw
  have hpos : 0 < ∑ j, Real.exp (r j - p) := Finset.sum_pos (fun j _ => Real.exp_pos _) Finset.univ_nonempty
  have hne : ((∑ j, Real.exp (r j - p) : ℝ) : EReal) ≠ 0 := by
    rw [Ne, EReal.coe_eq_zero]; exact hpos.ne'
  simp only [attended, hL, Ideal.div, hne, if_false]
  rw [← EReal.coe_inv, sum_mul_real _ _ (inv_nonneg.mpr hpos.le)]
  refine Finset.sum_congr rfl fun j _ => ?_
  rw [← mul_assoc, mul_comm (v j)]

/-- An entry whose absolute value is below the word of infinity is a real number. -/
theorem real_of_half (x : EReal) (h : BitVec.ofBool (decide (max x (-x) < Ideal.ofBits .bf16 0x7F80#16)) = 1#1) :
    x = ((x.toReal : ℝ) : EReal) := by
  have htop : Ideal.ofBits .bf16 0x7F80#16 = ⊤ := by simp [Ideal.ofBits, Ideal.ieee]
  rw [htop] at h
  induction x using EReal.rec with
  | bot => simp at h
  | coe r => rfl
  | top => simp at h

end Layer

end
-- ==== Proof.Layer.MemAttend.lean ====
/-
  The attention into the memory tokens: head by head the kernel leaves the values' sum by the weights over their total.
-/
module

public import proofs.«01_k».proof.Proof.Gen.Kernel9Ideal.Frame
public import proofs.«01_k».proof.Proof.Gen.Kernel9Ideal.Value
public import proofs.«01_k».proof.Proof.Layer.Softmax

@[expose] public section

set_option maxRecDepth 16384

noncomputable section

open Idealize.ShloMosaic Idealize.ShloMosaic.TcCoe Idealize.SL.Sem

namespace Layer

/-- Lane `d` of the head that lane `l` lies in. -/
def mate (l : Fin 1024) (d : Fin 256) : Fin 1024 := ⟨l.val / 256 * 256 + d.val, by omega⟩

/-- The logit of a query and a key in the head of lane `l`. -/
def logit (q k : Fin 1024 → EReal) (l : Fin 1024) : EReal :=
  (∑ d, q (mate l d) * k (mate l d)) * Ideal.ofBits .f32 1031798784#32

/-- What a query reads from the memory tokens at lane `l`. -/
def readMem (q : Fin 1024 → EReal) (k v : Fin 256 → Fin 1024 → EReal) (l : Fin 1024) : EReal :=
  attended (fun j => logit q (k j) l) (fun j => v j l)

/-- What every query reads. -/
def readAll (Q : FVec Ideal ⟨3, ![2, 16384, 1024]⟩ .bf16) (K V : FVec Ideal ⟨3, ![2, 256, 1024]⟩ .bf16) :
    (⟨3, ![2, 16384, 1024]⟩ : Shape).Idx → EReal :=
  fun i => readMem (fun d => Q (ix3 (i 0) (i 1) d)) (fun j d => K (ix3 (i 0) j d)) (fun j d => V (ix3 (i 0) j d)) (i 2)

end Layer

namespace Cert.Kernel9Ideal.Rows

open Cert.Kernel9Ideal Cert.Kernel9Ideal.Gen Layer

variable (m : (ℓ : Loc nD τ sig) → Buf (Elt Ideal) ℓ)

/-- Where the windows' blocks lie, decided. -/
theorem idx_val : ∀ t : Fin cfg0.N, win0_0.index t = ![t.val / 32, t.val % 32, 0] ∧ win0_1.index t = ![t.val / 32, 0, 0]
    ∧ win0_2.index t = ![t.val / 32, 0, 0] ∧ win0_3.index t = ![t.val / 32, t.val % 32, 0] :=
  (by decide +kernel : ∀ t : Fin grid0.N, _)

theorem pay3_at (q : Vec Ideal S1x512x256 .bf16) (k v : Vec Ideal S1x256x256 .bf16) (i : Fin 512) (l : Fin 256) :
    (k0_pay3 q k v (ix3 0 i l) : EReal) = attended (fun j => (∑ d, q (ix3 0 i d) * k (ix3 0 j d)) * Ideal.ofBits .f32 1031798784#32)
      (fun j => v (ix3 0 j l)) := by
  pointwise [k0_pay3, attended, weight, peak]

/-- The block's entry at a query and a lane. -/
def blockAt (x0 : Vec Ideal S1x512x1024 .bf16) (x1 x2 : Vec Ideal S1x256x1024 .bf16) (y : S1x512x1024.Idx) : EReal :=
  readMem (fun d => x0 (ix3 0 (y 1) d)) (fun j d => x1 (ix3 0 j d)) (fun j d => x2 (ix3 0 j d)) (y 2)

/-- One head's store: the lanes from `o` on. -/
theorem piece_at (x0 : Vec Ideal S1x512x1024 .bf16) (x1 x2 : Vec Ideal S1x256x1024 .bf16) (o : ℕ) (h : o + 256 ≤ 1024) (hd : o % 256 = 0)
    (iq ik) (i : Fin 512) (l : Fin 256) :
    (k0_pay3 (View.ld x0 (Rect.unit (s := S1x512x1024) ![0, 0, o] S1x512x256.size iq))
      (View.ld x1 (Rect.unit (s := S1x256x1024) ![0, 0, o] S1x256x256.size ik))
      (View.ld x2 (Rect.unit (s := S1x256x1024) ![0, 0, o] S1x256x256.size ik)) (ix3 0 i l) : EReal)
      = readMem (fun d => x0 (ix3 0 i d)) (fun j d => x1 (ix3 0 j d)) (fun j d => x2 (ix3 0 j d)) ⟨o + l.val, by omega⟩ := by
  have e0 : ∀ d : Fin 256, View.ld x0 (Rect.unit (s := S1x512x1024) ![0, 0, o] S1x512x256.size iq) (ix3 0 i d) = x0 (ix3 0 i ⟨o + d.val, by omega⟩) :=
    fun d => View.ld_unit_apply_of _ _ _ _ _ _ (by intro a; fin_cases a <;> first | rfl | exact (Nat.zero_add _).symm)
  have e1 : ∀ (x : Vec Ideal S1x256x1024 .bf16) (j d : Fin 256), View.ld x (Rect.unit (s := S1x256x1024) ![0, 0, o] S1x256x256.size ik) (ix3 0 j d) = x (ix3 0 j ⟨o + d.val, by omega⟩) :=
    fun x j d => View.ld_unit_apply_of _ _ _ _ _ _ (by intro a; fin_cases a <;> first | rfl | exact (Nat.zero_add _).symm)
  have hm : ∀ d : Fin 256, mate ⟨o + l.val, by omega⟩ d = ⟨o + d.val, by omega⟩ := fun d => Fin.ext (by
    show (o + l.val) / 256 * 256 + d.val = o + d.val; omega)
  refine (pay3_at _ _ _ i l).trans ?_
  refine congrArg₂ attended (funext fun j => ?_) (funext fun j => e1 x2 j l)
  refine congrArg (· * Ideal.ofBits .f32 1031798784#32) (Finset.sum_congr rfl fun d _ => ?_)
  rw [hm d]
  exact congrArg₂ (· * ·) (e0 d) (e1 x1 j d)

theorem out_at (x0 : Vec Ideal S1x512x1024 .bf16) (x1 x2 : Vec Ideal S1x256x1024 .bf16) (y : S1x512x1024.Idx) :
    (out0_3 x0 x1 x2 y : EReal) = blockAt x0 x1 x2 y := by
  refine View.canon_apply_of_pieces (Val := Elt Ideal) (S := S1x512x1024) (e := .bf16) (blockAt x0 x1 x2) _ (fun p hp x => ?_) y (cover0_3 _ _ _ _ y)
  simp only [List.mem_cons, List.not_mem_nil, or_false] at hp
  have emb : ∀ (o : ℕ) (h : o + 256 ≤ 1024) (iq) (i : Fin 512) (l : Fin 256),
      (Rect.unit (s := S1x512x1024) ![0, 0, o] S1x512x256.size iq).emb (ix3 0 i l) = ix3 0 i ⟨o + l.val, by omega⟩ := by
    intro o h iq i l
    funext a; refine Fin.ext ((Rect.idx_unit_val _ _ _ _ a).trans ?_)
    fin_cases a <;> first | rfl | exact Nat.zero_add _
  rcases hp with rfl | rfl | rfl | rfl
  · obtain ⟨i, l, rfl⟩ : ∃ (i : Fin 512) (l : Fin 256), x = ix3 0 i l := ⟨x 1, x 2, by rw [Subsingleton.elim (0 : Fin 1) (x 0)]; exact eq_ix3 x⟩
    exact (piece_at x0 x1 x2 768 (by decide) rfl _ _ i l).trans (congrArg (blockAt x0 x1 x2) (emb 768 (by decide) inb_S1x512x1024_S1x512x256_0_0_768 i l)).symm
  · obtain ⟨i, l, rfl⟩ : ∃ (i : Fin 512) (l : Fin 256), x = ix3 0 i l := ⟨x 1, x 2, by rw [Subsingleton.elim (0 : Fin 1) (x 0)]; exact eq_ix3 x⟩
    exact (piece_at x0 x1 x2 512 (by decide) rfl _ _ i l).trans (congrArg (blockAt x0 x1 x2) (emb 512 (by decide) inb_S1x512x1024_S1x512x256_0_0_512 i l)).symm
  · obtain ⟨i, l, rfl⟩ : ∃ (i : Fin 512) (l : Fin 256), x = ix3 0 i l := ⟨x 1, x 2, by rw [Subsingleton.elim (0 : Fin 1) (x 0)]; exact eq_ix3 x⟩
    exact (piece_at x0 x1 x2 256 (by decide) rfl _ _ i l).trans (congrArg (blockAt x0 x1 x2) (emb 256 (by decide) inb_S1x512x1024_S1x512x256_0_0_256 i l)).symm
  · obtain ⟨i, l, rfl⟩ : ∃ (i : Fin 512) (l : Fin 256), x = ix3 0 i l := ⟨x 1, x 2, by rw [Subsingleton.elim (0 : Fin 1) (x 0)]; exact eq_ix3 x⟩
    exact (piece_at x0 x1 x2 0 (by decide) rfl _ _ i l).trans (congrArg (blockAt x0 x1 x2) (emb 0 (by decide) inb_S1x512x1024_S1x512x256_0_0_0 i l)).symm

/-- The batch row of point `t`, and the token that row `i` of its block is. -/
abbrev batch (t : Fin cfg0.N) : Fin 2 := ⟨t.val / 32, by have := lt_of_lt_of_eq t.isLt N_0; omega⟩
abbrev token (t : Fin cfg0.N) (i : Fin 512) : Fin 16384 := ⟨512 * (t.val % 32) + i.val, by omega⟩

theorem blkQ (c : Dev nD) (t : Fin cfg0.N) (i : Fin 512) (l : Fin 1024) :
    (iblk m c 0 t (ix3 0 i l) : EReal) = m ((c : Thread nD τ).loc main_arg0) (ix3 (batch t) (token t i) l) := by
  have e := (idx_val t).1
  have e0 : win0_0.index t 0 = t.val / 32 := by rw [e]; rfl
  have e1 : win0_0.index t 1 = t.val % 32 := by rw [e]; rfl
  have e2 : win0_0.index t 2 = 0 := by rw [e]; rfl
  blk_simp [iblk, e]
  entry_read
  blk_ext [e0, e1, e2]

theorem blkK (c : Dev nD) (t : Fin cfg0.N) (j : Fin 256) (l : Fin 1024) :
    (iblk m c 1 t (ix3 0 j l) : EReal) = m ((c : Thread nD τ).loc main_arg1) (ix3 (batch t) j l) := by
  have e := (idx_val t).2.1
  have e0 : win0_1.index t 0 = t.val / 32 := by rw [e]; rfl
  have e1 : win0_1.index t 1 = 0 := by rw [e]; rfl
  have e2 : win0_1.index t 2 = 0 := by rw [e]; rfl
  blk_simp [iblk, e]
  entry_read
  blk_ext [e0, e1, e2]

theorem blkV (c : Dev nD) (t : Fin cfg0.N) (j : Fin 256) (l : Fin 1024) :
    (iblk m c 2 t (ix3 0 j l) : EReal) = m ((c : Thread nD τ).loc main_arg2) (ix3 (batch t) j l) := by
  have e := (idx_val t).2.2.1
  have e0 : win0_2.index t 0 = t.val / 32 := by rw [e]; rfl
  have e1 : win0_2.index t 1 = 0 := by rw [e]; rfl
  have e2 : win0_2.index t 2 = 0 := by rw [e]; rfl
  blk_simp [iblk, e]
  entry_read
  blk_ext [e0, e1, e2]

theorem final (c : Dev nD) : (dats m 0 c).arrAt 3 cfg0.N
    = readAll (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨i, l, rfl⟩ : ∃ (i : Fin 512) (l : Fin 1024), y = ix3 0 i l := ⟨y 1, y 2, by rw [Subsingleton.elim (0 : Fin 1) (y 0)]; exact eq_ix3 y⟩
  blk_simp
  rw [after0_3]
  have e := (idx_val t).2.2.2
  have e0 : win0_3.index t 0 = t.val / 32 := by rw [e]; rfl
  have e1 : win0_3.index t 1 = t.val % 32 := by rw [e]; rfl
  have e2 : win0_3.index t 2 = 0 := by rw [e]; rfl
  have hy : ((View.whole main_v0).slice (win0_3.rect t)).emb (ix3 0 i l) = ix3 (batch t) (token t i) l := by
    funext a; refine Fin.ext ?_
    fin_cases a <;> blk_simp [e0, e1, e2]
    · rfl
    · show t.val % 32 * 512 + i.val = 512 * (t.val % 32) + i.val; omega
    · rfl
  refine (out_at _ _ _ (ix3 0 i l)).trans ?_
  refine Eq.trans ?_ (congrArg (readAll _ _ _) hy).symm
  show readMem (fun d => iblk m c 0 t (ix3 0 i d)) (fun j d => iblk m c 1 t (ix3 0 j d)) (fun j d => iblk m c 2 t (ix3 0 j d)) l = _
  simp only [blkQ, blkK, blkV]
  rfl

end Cert.Kernel9Ideal.Rows

end
-- ==== Proof.Layer.MemRead.lean ====
/-
  The attention into the memory tokens, as the reference writes it: on real queries and keys it reads what the kernel does.
-/
module

public import proofs.«01_k».proof.Proof.Gen.Reference9Ideal.Run
public import proofs.«01_k».proof.Proof.Layer.MemAttend

@[expose] public section

set_option maxRecDepth 16384

noncomputable section

open Idealize.ShloMosaic Idealize.ShloMosaic.TcCoe Idealize.SL.Sem

namespace Cert.Reference9Ideal.Rows

open Cert.Reference9Ideal Cert.Reference9Ideal.Gen Layer

/-- Products of real entries, summed and scaled, are real. -/
theorem logit_real (q k : Fin 1024 → EReal) (a b : Fin 1024 → ℝ) (hq : ∀ d, q d = a d) (hk : ∀ d, k d = b d) (l : Fin 1024) :
    ∃ r : ℝ, logit q k l = r := by
  have hc : Ideal.ofBits .f32 1031798784#32 = ((1 / 16 : ℝ) : EReal) := by
    simp [Ideal.ofBits, Ideal.ieee]
    rw [← EReal.coe_mul]; norm_num
  refine ⟨(∑ d, a (mate l d) * b (mate l d)) * (1 / 16), ?_⟩
  rw [logit, hc, sum_real _ (fun d => a (mate l d) * b (mate l d)) (fun d => by rw [hq, hk, EReal.coe_mul]), EReal.coe_mul]

/-- The logits, scaled. -/
theorem logits_at (Q : FVec Ideal S2x16384x1024 .bf16) (K : FVec Ideal S2x256x1024 .bf16) (p : Fin 2) (h : Fin 4) (t : Fin 16384) (j : Fin 256) :
    (mulf (Host.dotGeneral (F := Ideal) (φ₁ := .f32) (φ₂ := .f32) dot_S2x16384x4x256_S2x256x4x256_S2x4x16384x256_3_3_1_1_02_02 none
        (shapeCast _ (extf .f32 Q bitsLt_bf16_f32) shapeCasts_S2x16384x1024_S2x16384x4x256)
        (shapeCast _ (extf .f32 K bitsLt_bf16_f32) shapeCasts_S2x256x1024_S2x256x4x256))
      (broadcastInDim S2x4x16384x256 ![] bcast_S_S2x4x16384x256 (constant S_ .f32 0x3D800000#32)) (ix4 p h t j) : EReal)
      = (∑ d : Fin 256, Q (ix3 p t ⟨h.val * 256 + d.val, by omega⟩) * K (ix3 p j ⟨h.val * 256 + d.val, by omega⟩)) * Ideal.ofBits .f32 1031798784#32 := by
  pointwise []

/-- The largest logit of each row. -/
theorem peaks_at (L : FVec Ideal S2x4x16384x256 .f32) (p : Fin 2) (h : Fin 4) (t : Fin 16384) :
    (Host.reduce (FloatOps.maximumf (F := Ideal) (φ := .f32)) L (constant (F := Ideal) S_ .f32 0xFF800000#32) reducesTo_S2x4x16384x256_S2x4x16384_d3 h_S_ (ix3 p h t) : EReal)
      = peak (fun j => L (ix4 p h t j)) := by
  pointwise [peak]

/-- The weights, divided by their totals. -/
theorem weights_at (L : FVec Ideal S2x4x16384x256 .f32) (M : FVec Ideal S2x4x16384 .f32) (p : Fin 2) (h : Fin 4) (t : Fin 16384) (j : Fin 256) :
    (Host.divf (F := Ideal) (Host.exp (subf L (broadcastInDim S2x4x16384x256 ![0, 1, 2, 3] bcast_S2x4x16384x1_S2x4x16384x256_0_1_2_3
        (broadcastInDim S2x4x16384x1 ![0, 1, 2] bcast_S2x4x16384_S2x4x16384x1_0_1_2
          (maximumf (broadcastInDim S2x4x16384 ![] bcast_S_S2x4x16384 (constant S_ .f32 0xFF800000#32)) M)))))
      (broadcastInDim S2x4x16384x256 ![0, 1, 2, 3] bcast_S2x4x16384x1_S2x4x16384x256_0_1_2_3
        (broadcastInDim S2x4x16384x1 ![0, 1, 2] bcast_S2x4x16384_S2x4x16384x1_0_1_2 (Host.reduceAdd (Host.exp (subf L (broadcastInDim S2x4x16384x256 ![0, 1, 2, 3] bcast_S2x4x16384x1_S2x4x16384x256_0_1_2_3
        (broadcastInDim S2x4x16384x1 ![0, 1, 2] bcast_S2x4x16384_S2x4x16384x1_0_1_2
          (maximumf (broadcastInDim S2x4x16384 ![] bcast_S_S2x4x16384 (constant S_ .f32 0xFF800000#32)) M)))))
          (constant S_ .f32 0x00000000#32) reducesTo_S2x4x16384x256_S2x4x16384_d3 h_S_))) (ix4 p h t j) : EReal)
      = Ideal.div (Ideal.exp (L (ix4 p h t j) - M (ix3 p h t))) (∑ i, Ideal.exp (L (ix4 p h t i) - M (ix3 p h t))) := by
  pointwise []
  have hmax : ∀ x : EReal, max (Ideal.ofBits .f32 4286578688#32) x = x := fun x => by rw [low_word]; exact max_eq_right bot_le
  simp only [hmax]

/-- The values' sums by an array of weights, laid out by tokens and lanes. -/
theorem reads_at (W : FVec Ideal S2x4x16384x256 .f32) (V : FVec Ideal S2x256x1024 .bf16) (p : Fin 2) (t : Fin 16384) (l : Fin 1024) :
    (truncf .bf16 (shapeCast S2x16384x1024 (transpose S2x16384x4x256 [0, 3, 1, 2] (Host.dotGeneral (φ₁ := .f32) (φ₂ := .f32) dot_S2x256x4x256_S2x4x16384x256_S2x4x256x16384_1_3_3_2_02_01 none
        (shapeCast _ (extf .f32 V bitsLt_bf16_f32) shapeCasts_S2x256x1024_S2x256x4x256) W)
        transposes_S2x4x256x16384_S2x16384x4x256_0_3_1_2) shapeCasts_S2x16384x4x256_S2x16384x1024) bitsLt_bf16_f32 (ix3 p t l) : EReal)
      = ∑ x, V (ix3 p x l) * W (ix4 p ⟨l.val / 256, by omega⟩ t x) := by
  pointwise []

theorem run (m : (ℓ : Loc nD τ sig) → Buf (Elt Ideal) ℓ) (ρ : Dev nD → PrngReg)
    (hQ : ∀ (c : Dev nD) i, ∃ r : ℝ, m ((c.tc : Thread nD τ).loc main_arg0) i = ((r : ℝ) : EReal))
    (hK : ∀ (c : Dev nD) i, ∃ r : ℝ, m ((c.tc : Thread nD τ).loc main_arg1) i = ((r : ℝ) : EReal)) :
    θ_run defs (onTc (τ := τ) (main (F := Ideal))) ⟨m, fun _ => 0, ρ⟩ fun r => ∀ c : Dev nD,
      r.2.mem ((c.tc : Thread nD τ).loc main_v23) = readAll (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h1, h3⟩ := h c
  refine ⟨h1.trans ?_, h3⟩
  have hq := hQ c
  have hk := hK c
  clear h1 h3 h hQ hK
  generalize m ((c.tc : Thread nD τ).loc main_arg0) = Q at hq ⊢
  generalize m ((c.tc : Thread nD τ).loc main_arg1) = K at hk ⊢
  generalize m ((c.tc : Thread nD τ).loc main_arg2) = V
  choose a ha using hq
  choose b hb using hk
  funext i
  obtain ⟨p, t, l, rfl⟩ : ∃ (p : Fin 2) (t : Fin 16384) (l : Fin 1024), i = ix3 p t l := ⟨i 0, i 1, i 2, eq_ix3 i⟩
  have hr : ∀ j : Fin 256, ∃ r : ℝ, logit (fun d => Q (ix3 p t d)) (fun d => K (ix3 p j d)) l = r :=
    fun j => logit_real _ _ (fun d => a (ix3 p t d)) (fun d => b (ix3 p j d)) (fun d => ha _) (fun d => hb _) l
  choose s hs using hr
  refine Eq.trans ?_ (divided_first (n := 255) (fun j => logit (fun d => Q (ix3 p t d)) (fun d => K (ix3 p j d)) l)
    (fun j => V (ix3 p j l)) s hs)
  have hL := logits_at Q K
  generalize mulf (Host.dotGeneral (F := Ideal) (φ₁ := .f32) (φ₂ := .f32) dot_S2x16384x4x256_S2x256x4x256_S2x4x16384x256_3_3_1_1_02_02 none
        (shapeCast _ (extf .f32 Q bitsLt_bf16_f32) shapeCasts_S2x16384x1024_S2x16384x4x256)
        (shapeCast _ (extf .f32 K bitsLt_bf16_f32) shapeCasts_S2x256x1024_S2x256x4x256))
      (broadcastInDim S2x4x16384x256 ![] bcast_S_S2x4x16384x256 (constant S_ .f32 0x3D800000#32)) = L at hL ⊢
  have hM := peaks_at L
  generalize Host.reduce (FloatOps.maximumf (F := Ideal) (φ := .f32)) L (constant (F := Ideal) S_ .f32 0xFF800000#32) reducesTo_S2x4x16384x256_S2x4x16384_d3 h_S_ = M at hM ⊢
  have hW := weights_at L M
  generalize Host.divf (F := Ideal) (Host.exp (subf L (broadcastInDim S2x4x16384x256 ![0, 1, 2, 3] bcast_S2x4x16384x1_S2x4x16384x256_0_1_2_3
        (broadcastInDim S2x4x16384x1 ![0, 1, 2] bcast_S2x4x16384_S2x4x16384x1_0_1_2
          (maximumf (broadcastInDim S2x4x16384 ![] bcast_S_S2x4x16384 (constant S_ .f32 0xFF800000#32)) M)))))
      (broadcastInDim S2x4x16384x256 ![0, 1, 2, 3] bcast_S2x4x16384x1_S2x4x16384x256_0_1_2_3
        (broadcastInDim S2x4x16384x1 ![0, 1, 2] bcast_S2x4x16384_S2x4x16384x1_0_1_2 (Host.reduceAdd (Host.exp (subf L (broadcastInDim S2x4x16384x256 ![0, 1, 2, 3] bcast_S2x4x16384x1_S2x4x16384x256_0_1_2_3
        (broadcastInDim S2x4x16384x1 ![0, 1, 2] bcast_S2x4x16384_S2x4x16384x1_0_1_2
          (maximumf (broadcastInDim S2x4x16384 ![] bcast_S_S2x4x16384 (constant S_ .f32 0xFF800000#32)) M)))))
          (constant S_ .f32 0x00000000#32) reducesTo_S2x4x16384x256_S2x4x16384_d3 h_S_))) = W at hW ⊢
  refine (reads_at W V p t l).trans (Finset.sum_congr rfl fun x _ => ?_)
  have hrow : (fun j => L (ix4 p ⟨l.val / 256, by omega⟩ t j)) = fun j => logit (fun d => Q (ix3 p t d)) (fun d => K (ix3 p j d)) l :=
    funext fun j => hL p _ t j
  rw [hW, hM]
  refine congrArg (HMul.hMul (α := EReal) (β := EReal) (γ := EReal) (V (ix3 p x l))) ?_
  show Ideal.div (weight (fun j => L (ix4 p ⟨l.val / 256, by omega⟩ t j)) x) (∑ i, weight (fun j => L (ix4 p ⟨l.val / 256, by omega⟩ t j)) i) = _
  rw [hrow]

end Cert.Reference9Ideal.Rows

end
-- ==== Proof.lean ====
/-
  The claims of `Cert.Claim`. Each program runs, leaves its arguments as they were and every semaphore at zero. On finite
  queries, keys, values and gates the chunk kernel's result at the exact instance is the token-by-token reference's: head by
  head both are `DeltaRule.finish` of `DeltaRule.readAt` (Dn/Spec.lean), the kernel's side by Dn/Fold.lean, the reference's by
  Dn/Token.lean. The layer's dense calls, one module each under Layer, leave their references' arrays whatever the arguments; the
  attention into the memory tokens does on finite queries and keys.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Dn.Fold
public import proofs.«01_k».proof.Proof.Dn.Token
public import proofs.«01_k».proof.Proof.Dn.Finite
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Layer.PrepRef
public import proofs.«01_k».proof.Proof.Layer.PrepCall
public import proofs.«01_k».proof.Proof.Layer.RopeRun
public import proofs.«01_k».proof.Proof.Layer.RopeCall
public import proofs.«01_k».proof.Proof.Layer.RopePre
public import proofs.«01_k».proof.Proof.Layer.Ffn
public import proofs.«01_k».proof.Proof.Layer.InProjDn
public import proofs.«01_k».proof.Proof.Layer.InProjSa
public import proofs.«01_k».proof.Proof.Layer.InProjXg
public import proofs.«01_k».proof.Proof.Layer.Merge
public import proofs.«01_k».proof.Proof.Layer.FinalNorm
public import proofs.«01_k».proof.Proof.Layer.MemKv
public import proofs.«01_k».proof.Proof.Layer.MemRead
public import Idealize.ShloMosaic.Adequacy
public import Idealize.ShloMosaic.Init
public import Idealize.ShloMosaic.Lib.Quiescent

@[expose] public section

noncomputable section

namespace Cert.Proof

open Idealize.ShloMosaic Idealize.SL.Sem

/-- The side conditions of the precondition's own text. -/
theorem facts_finite : Cert.Pre_finite.Facts where
  slices_S2x16384x128_S2x16384x16_0_0_0 := by decide
  bcast_S_S2x16384x1024 := by decide
  bcast_S_S2x16384x16 := by decide

theorem facts_finite9 : Cert.Pre_finite9.Facts where
  bcast_S_S2x16384x1024 := by decide
  bcast_S_S2x256x1024 := by decide

theorem facts_rotary : Cert.Pre_rotary.Facts where
  slices_S2x16384x128_S2x16384x16_0_0_0 := by decide
  slices_S2x16384x128_S2x16384x16_0_0_16 := by decide
  bcast_S_S2x16384x96 := by decide
  concatenates_S2x16384x16_S2x16384x16_S2x16384x96_S2x16384x128_d2 := by decide
  slices_S2x16384x128_S2x16384x8_0_0_0 := by decide
  slices_S2x16384x128_S2x16384x8_0_0_8 := by decide
  bcast_S_S2x16384x48 := by decide
  concatenates_S2x16384x8_S2x16384x8_S2x16384x48_S2x16384x8_S2x16384x8_S2x16384x48_S2x16384x128_d2 := by decide

theorem frame_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every lane of a 1024-lane row is a lane of a head. -/
theorem lane_split (l : Fin 1024) : ∃ (h : Fin 8) (a : Fin 128), l = ⟨128 * h.val + a.val, by omega⟩ :=
  ⟨⟨l.val / 128, by omega⟩, ⟨l.val % 128, Nat.mod_lt _ (by decide)⟩, Fin.ext (by show l.val = 128 * (l.val / 128) + l.val % 128; omega)⟩

theorem value [hP : Cert.Pre_finite.Facts] : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨hq, hk, hv, hg⟩ := hpre c
  obtain ⟨e0, e1, e2, e3, e4, e5⟩ := hagree c
  have rq : DeltaRule.Real3 (Cert.KernelIdeal.Head.argQ m c) 1024 := DeltaRule.real_wide _ hq
  have rk : DeltaRule.Real3 (Cert.KernelIdeal.Head.argK m c) 1024 := DeltaRule.real_wide _ hk
  have rv : DeltaRule.Real3 (Cert.KernelIdeal.Head.argV m c) 1024 := DeltaRule.real_wide _ hv
  have rg : DeltaRule.Real3 (Cert.KernelIdeal.Head.argG m c) 16 := DeltaRule.real_gates _ hg
  have aq : Cert.ReferenceIdeal.Token.argQ m' c = Cert.KernelIdeal.Head.argQ m c := funext fun p => funext fun t => funext fun l => congrFun e0 _
  have ak : Cert.ReferenceIdeal.Token.argK m' c = Cert.KernelIdeal.Head.argK m c := funext fun p => funext fun t => funext fun l => congrFun e1 _
  have av : Cert.ReferenceIdeal.Token.argV m' c = Cert.KernelIdeal.Head.argV m c := funext fun p => funext fun t => funext fun l => congrFun e2 _
  have az : Cert.ReferenceIdeal.Token.argZ m' c = Cert.KernelIdeal.Head.argZ m c := funext fun p => funext fun t => funext fun l => congrFun e3 _
  have ag : Cert.ReferenceIdeal.Token.argG m' c = Cert.KernelIdeal.Head.argG m c := funext fun p => funext fun t => funext fun l => congrFun e4 _
  have an : Cert.ReferenceIdeal.Token.argN m' c = Cert.KernelIdeal.Head.argN m c := funext fun l => congrFun e5 _
  funext i
  obtain ⟨p, t, l, rfl⟩ : ∃ (p : Fin 2) (t : Fin 16384) (l : Fin 1024), i = ix3 p t l := ⟨i 0, i 1, i 2, funext fun a => by fin_cases a <;> rfl⟩
  obtain ⟨h, a, rfl⟩ := lane_split l
  have hR := Cert.ReferenceIdeal.Token.result_at m' c (aq ▸ rq) (ak ▸ rk) (av ▸ rv) (ag ▸ rg) p t h a
  rw [aq, ak, av, az, ag, an] at hR
  exact hR.trans (Cert.KernelIdeal.Head.result_at m c rq rk rv rg p t h a).symm

theorem frame2 : quiescent_Reference2Ideal := fun m ρ _ =>
  (θ_run Cert.Reference2Ideal.defs _ _).mono (fun r h => ⟨fun c => (h c).2, sem_eq_zero_of_no_sems (by decide) r.2⟩) (Cert.Reference2Ideal.Rows.run m ρ)

/-- The feed-forward call at the exact instance: kernel and reference leave the same arrays, whatever the arguments. -/
theorem value2 : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Rows.run m' ρ')
  · obtain ⟨e0, e1, e2, e3⟩ := hagree c
    rw [(h c).1, e0, e1, e2, e3]
    exact (Cert.Kernel2Ideal.Rows.final m c).symm

theorem frame3 : quiescent_Reference3Ideal := fun m ρ _ =>
  (θ_run Cert.Reference3Ideal.defs _ _).mono (fun r h => ⟨fun c => (h c).2.2.2, sem_eq_zero_of_no_sems (by decide) r.2⟩) (Cert.Reference3Ideal.Rows.run m ρ)

/-- The projection to the delta rule's inputs at the exact instance: kernel and reference leave the same arrays, whatever the arguments. -/
theorem value3 : algebraic_Kernel3Ideal_Reference3Ideal := by
  intro m ρ m' ρ' _ hagree
  refine ⟨_, _, _, Cert.Kernel3Ideal.Value.run_blocks (F := Ideal) m ρ, ?_⟩
  refine (θ_run Cert.Reference3Ideal.defs _ _).mono (fun _ h c => ⟨?_, ?_, ?_, (h c).2.2.2⟩) (Cert.Reference3Ideal.Rows.run m' ρ')
  · obtain ⟨e0, e1, e2⟩ := hagree c
    rw [(h c).1, e0, e1, e2]
    exact (Cert.Kernel3Ideal.Rows.final5 m c).symm
  · obtain ⟨e0, e1, e2⟩ := hagree c
    rw [(h c).2.1, e0, e1, e2]
    exact (Cert.Kernel3Ideal.Rows.final6 m c).symm
  · obtain ⟨e0, e1, e2⟩ := hagree c
    rw [(h c).2.2.1, e0, e1, e2]
    exact (Cert.Kernel3Ideal.Rows.final7 m c).symm

theorem frame4 : quiescent_Reference4Ideal := fun m ρ _ =>
  (θ_run Cert.Reference4Ideal.defs _ _).mono (fun r h => ⟨fun c => (h c).2.2.2, sem_eq_zero_of_no_sems (by decide) r.2⟩) (Cert.Reference4Ideal.Rows.run m ρ)

/-- The projection to the sparse attention's inputs at the exact instance: kernel and reference leave the same arrays, whatever the arguments. -/
theorem value4 : algebraic_Kernel4Ideal_Reference4Ideal := by
  intro m ρ m' ρ' _ hagree
  refine ⟨_, _, _, Cert.Kernel4Ideal.Value.run_blocks (F := Ideal) m ρ, ?_⟩
  refine (θ_run Cert.Reference4Ideal.defs _ _).mono (fun _ h c => ⟨?_, ?_, ?_, (h c).2.2.2⟩) (Cert.Reference4Ideal.Rows.run m' ρ')
  · obtain ⟨e0, e1, e2⟩ := hagree c
    rw [(h c).1, e0, e1, e2]
    exact (Cert.Kernel4Ideal.Rows.final5 m c).symm
  · obtain ⟨e0, e1, e2⟩ := hagree c
    rw [(h c).2.1, e0, e1, e2]
    exact (Cert.Kernel4Ideal.Rows.final6 m c).symm
  · obtain ⟨e0, e1, e2⟩ := hagree c
    rw [(h c).2.2.1, e0, e1, e2]
    exact (Cert.Kernel4Ideal.Rows.final7 m c).symm

theorem frame5 : quiescent_Reference5Ideal := fun m ρ _ =>
  (θ_run Cert.Reference5Ideal.defs _ _).mono (fun r h => ⟨fun c => (h c).2.2, sem_eq_zero_of_no_sems (by decide) r.2⟩) (Cert.Reference5Ideal.Rows.run m ρ)

/-- The projection to the memory queries and the gate logits at the exact instance: kernel and reference leave the same arrays, whatever the arguments. -/
theorem value5 : algebraic_Kernel5Ideal_Reference5Ideal := by
  intro m ρ m' ρ' _ hagree
  refine ⟨_, _, Cert.Kernel5Ideal.Value.run_blocks (F := Ideal) m ρ, ?_⟩
  refine (θ_run Cert.Reference5Ideal.defs _ _).mono (fun _ h c => ⟨?_, ?_, (h c).2.2⟩) (Cert.Reference5Ideal.Rows.run m' ρ')
  · obtain ⟨e0, e1, e2⟩ := hagree c
    rw [(h c).1, e0, e1, e2]
    exact (Cert.Kernel5Ideal.Rows.final4 m c).symm
  · obtain ⟨e0, e1, e2⟩ := hagree c
    rw [(h c).2.1, e0, e1, e2]
    exact (Cert.Kernel5Ideal.Rows.final5 m c).symm

theorem frame6 : quiescent_Reference6Ideal := fun m ρ _ =>
  (θ_run Cert.Reference6Ideal.defs _ _).mono (fun r h => ⟨fun c => (h c).2, sem_eq_zero_of_no_sems (by decide) r.2⟩) (Cert.Reference6Ideal.Rows.run m ρ)

/-- The merge of the branches at the exact instance: kernel and reference leave the same arrays, whatever the arguments. -/
theorem value6 : algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Reference6Ideal.Rows.run m' ρ')
  · obtain ⟨e0, e1, e2, e3, e4, e5, e6, e7⟩ := hagree c
    rw [(h c).1, e0, e1, e2, e3, e4, e5, e6, e7]
    exact (Cert.Kernel6Ideal.Rows.final m c).symm

theorem frame7 : quiescent_Reference7Ideal := fun m ρ _ =>
  (θ_run Cert.Reference7Ideal.defs _ _).mono (fun r h => ⟨fun c => (h c).2, sem_eq_zero_of_no_sems (by decide) r.2⟩) (Cert.Reference7Ideal.Rows.run m ρ)

/-- The final norm at the exact instance: kernel and reference leave the same arrays, whatever the arguments. -/
theorem value7 : algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩) (Cert.Reference7Ideal.Rows.run m' ρ')
  · obtain ⟨e0, e1⟩ := hagree c
    rw [(h c).1, e0, e1]
    exact (Cert.Kernel7Ideal.Rows.final m c).symm

theorem frame8 : quiescent_Reference8Ideal := fun m ρ _ =>
  (θ_run Cert.Reference8Ideal.defs _ _).mono (fun r h => ⟨fun c => (h c).2.2, sem_eq_zero_of_no_sems (by decide) r.2⟩) (Cert.Reference8Ideal.Rows.run m ρ)

/-- The memory tokens' keys and values at the exact instance: kernel and reference leave the same arrays, whatever the arguments. -/
theorem value8 : algebraic_Kernel8Ideal_Reference8Ideal := by
  intro m ρ m' ρ' _ hagree
  refine ⟨_, _, Cert.Kernel8Ideal.Value.run_blocks (F := Ideal) m ρ, ?_⟩
  refine (θ_run Cert.Reference8Ideal.defs _ _).mono (fun _ h c => ⟨?_, ?_, (h c).2.2⟩) (Cert.Reference8Ideal.Rows.run m' ρ')
  · obtain ⟨e0, e1, e2⟩ := hagree c
    rw [(h c).1, e0, e1, e2]
    exact (Cert.Kernel8Ideal.Rows.final4 m c).symm
  · obtain ⟨e0, e1, e2⟩ := hagree c
    rw [(h c).2.1, e0, e1, e2]
    exact (Cert.Kernel8Ideal.Rows.final5 m c).symm

theorem frame9 : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The attention into the memory tokens at the exact instance: on finite queries and keys, kernel and reference leave the same array. -/
theorem value9 [hP : Cert.Pre_finite9.Facts] : algebraic_Kernel9Ideal_Reference9Ideal_pre_finite9 := by
  intro m ρ m' ρ' hpre hagree
  refine ⟨_, Cert.Kernel9Ideal.Value.run_blocks (F := Ideal) m ρ, ?_⟩
  refine (θ_run Cert.Reference9Ideal.defs _ _).mono (fun _ h c => ⟨?_, (h c).2⟩) (Cert.Reference9Ideal.Rows.run m' ρ'
    (fun c i => ?_) (fun c i => ?_))
  · obtain ⟨e0, e1, e2⟩ := hagree c
    rw [(h c).1, e0, e1, e2]
    exact (Cert.Kernel9Ideal.Rows.final m c).symm
  · rw [(hagree c).1]
    have e := congrFun (hpre c).1 i
    pointwise at e
    exact ⟨_, Layer.real_of_half _ e⟩
  · rw [(hagree c).2.1]
    have e := congrFun (hpre c).2 i
    pointwise at e
    exact ⟨_, Layer.real_of_half _ e⟩

theorem frame10 : quiescent_Reference10Ideal := fun m ρ _ =>
  (θ_run Cert.Reference10Ideal.defs _ _).mono (fun r h => ⟨fun c => (h c).2.2.2.2, sem_eq_zero_of_no_sems (by decide) r.2⟩) (Cert.Reference10Ideal.Rows.run m ρ)

/-- What the delta rule takes, at the exact instance: kernel and reference leave the same four arrays, whatever the arguments. -/
theorem value10 : algebraic_Kernel10Ideal_Reference10Ideal := by
  intro m ρ m' ρ' _ hagree
  refine ⟨_, _, _, _, Cert.Kernel10Ideal.Value.run_blocks (F := Ideal) m ρ, ?_⟩
  refine (θ_run Cert.Reference10Ideal.defs _ _).mono (fun _ h c => ⟨?_, ?_, ?_, ?_, (h c).2.2.2.2⟩) (Cert.Reference10Ideal.Rows.run m' ρ')
  · obtain ⟨e0, e1, e2, e3, e4⟩ := hagree c
    rw [(h c).1, e0, e2]
    exact (Cert.Kernel10Ideal.Rows.final6 m c).symm
  · obtain ⟨e0, e1, e2, e3, e4⟩ := hagree c
    rw [(h c).2.1, e0, e2]
    exact (Cert.Kernel10Ideal.Rows.final7 m c).symm
  · obtain ⟨e0, e1, e2, e3, e4⟩ := hagree c
    rw [(h c).2.2.1, e0, e2]
    exact (Cert.Kernel10Ideal.Rows.final8 m c).symm
  · obtain ⟨e0, e1, e2, e3, e4⟩ := hagree c
    rw [(h c).2.2.2.1, e1, e3, e4]
    exact (Cert.Kernel10Ideal.Rows.final9 m c).symm

theorem frame11 : quiescent_Reference11Ideal := fun m ρ _ =>
  (θ_run Cert.Reference11Ideal.defs _ _).mono (fun r h => ⟨fun c => (h c).2.2.2.2.2, sem_eq_zero_of_no_sems (by decide) r.2⟩) (Cert.Reference11Ideal.Rows.run m ρ)

/-- What the sparse attention takes, at the exact instance: on rotary tables, kernel and reference leave the same five arrays. -/
theorem value11 [hP : Cert.Pre_rotary.Facts] : algebraic_Kernel11Ideal_Reference11Ideal_pre_rotary := by
  intro m ρ m' ρ' hpre hagree
  refine ⟨_, _, _, _, _, Cert.Kernel11Ideal.Value.run_blocks (F := Ideal) m ρ, ?_⟩
  refine (θ_run Cert.Reference11Ideal.defs _ _).mono (fun _ h c => ⟨?_, ?_, ?_, ?_, ?_, (h c).2.2.2.2.2⟩) (Cert.Reference11Ideal.Rows.run m' ρ')
  · obtain ⟨e0, e1, e2, e3, e4, e5, e6⟩ := hagree c
    rw [(h c).1, e0, e3, e4]
    exact (Cert.Kernel11Ideal.Rows.final7 m c (Cert.Pre_rotary.Rows.table16 _ _ _ _ _ _ _ (hpre c).1 (hpre c).2.1)).symm
  · obtain ⟨e0, e1, e2, e3, e4, e5, e6⟩ := hagree c
    rw [(h c).2.1, e0, e3, e4]
    exact (Cert.Kernel11Ideal.Rows.final8 m c (Cert.Pre_rotary.Rows.table16 _ _ _ _ _ _ _ (hpre c).1 (hpre c).2.1)).symm
  · obtain ⟨e0, e1, e2, e3, e4, e5, e6⟩ := hagree c
    rw [(h c).2.2.1, e1, e5, e6]
    exact (Cert.Kernel11Ideal.Rows.final9 m c (Cert.Pre_rotary.Rows.table8 _ _ _ _ _ _ _ (hpre c).2.2.1 (hpre c).2.2.2)).symm
  · obtain ⟨e0, e1, e2, e3, e4, e5, e6⟩ := hagree c
    rw [(h c).2.2.2.1, e1, e5, e6]
    exact (Cert.Kernel11Ideal.Rows.final10 m c (Cert.Pre_rotary.Rows.table8 _ _ _ _ _ _ _ (hpre c).2.2.1 (hpre c).2.2.2)).symm
  · obtain ⟨e0, e1, e2, e3, e4, e5, e6⟩ := hagree c
    rw [(h c).2.2.2.2.1, e2]
    exact (Cert.Kernel11Ideal.Rows.final11 m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts, facts_finite, facts_finite9, facts_rotary,
  fun m ρ _ => Cert.Kernel.Gen.frame m ρ, fun m ρ _ => Cert.KernelIdeal.Gen.frame m ρ, fun m ρ _ => Cert.KernelIdeal.Gen.frame m ρ,
  frame_ReferenceIdeal, fun m ρ _ => frame_ReferenceIdeal m ρ trivial,
  fun m ρ _ => Cert.Kernel2.Gen.frame m ρ, fun m ρ _ => Cert.Kernel2Ideal.Gen.frame m ρ, frame2,
  fun m ρ _ => Cert.Kernel3.Gen.frame m ρ, fun m ρ _ => Cert.Kernel3Ideal.Gen.frame m ρ, frame3,
  fun m ρ _ => Cert.Kernel4.Gen.frame m ρ, fun m ρ _ => Cert.Kernel4Ideal.Gen.frame m ρ, frame4,
  fun m ρ _ => Cert.Kernel5.Gen.frame m ρ, fun m ρ _ => Cert.Kernel5Ideal.Gen.frame m ρ, frame5,
  fun m ρ _ => Cert.Kernel6.Gen.frame m ρ, fun m ρ _ => Cert.Kernel6Ideal.Gen.frame m ρ, frame6,
  fun m ρ _ => Cert.Kernel7.Gen.frame m ρ, fun m ρ _ => Cert.Kernel7Ideal.Gen.frame m ρ, frame7,
  fun m ρ _ => Cert.Kernel8.Gen.frame m ρ, fun m ρ _ => Cert.Kernel8Ideal.Gen.frame m ρ, frame8,
  fun m ρ _ => Cert.Kernel9.Gen.frame m ρ, fun m ρ _ => Cert.Kernel9Ideal.Gen.frame m ρ, fun m ρ _ => Cert.Kernel9Ideal.Gen.frame m ρ,
  frame9, fun m ρ _ => frame9 m ρ trivial,
  fun m ρ _ => Cert.Kernel10.Gen.frame m ρ, fun m ρ _ => Cert.Kernel10Ideal.Gen.frame m ρ, frame10,
  fun m ρ _ => Cert.Kernel11.Gen.frame m ρ, fun m ρ _ => Cert.Kernel11Ideal.Gen.frame m ρ, fun m ρ _ => Cert.Kernel11Ideal.Gen.frame m ρ,
  frame11, fun m ρ _ => frame11 m ρ trivial,
  trivial, value (hP := facts_finite), trivial, value2, trivial, value3, trivial, value4, trivial, value5, trivial, value6, trivial, value7, trivial, value8, trivial, value9 (hP := facts_finite9), trivial, value10, trivial, value11 (hP := facts_rotary)⟩

end Cert.Proof

end
